-- ==== Defs.lean ====
def Pre_Kernel [hPre_chunks_in_order : Cert.Pre_chunks_in_order.Facts] (m : (ℓ : Loc Cert.Kernel.nD Cert.Kernel.τ Cert.Kernel.sig) → Buf (Elt Bits) ℓ) : Prop :=
  ∀ c : Dev Cert.Kernel.nD,
    (Cert.Pre_chunks_in_order.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_chunks_in_order : Cert.Pre_chunks_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_chunks_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_chunks_in_order [hPre_chunks_in_order : Cert.Pre_chunks_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel1 [hPre_chunks_in_order1 : Cert.Pre_chunks_in_order1.Facts] (m : (ℓ : Loc Cert.Kernel1.nD Cert.Kernel1.τ Cert.Kernel1.sig) → Buf (Elt Bits) ℓ) : Prop :=
  ∀ c : Dev Cert.Kernel1.nD,
    (Cert.Pre_chunks_in_order1.fn (F := Bits) (m ((c.tc : Thread Cert.Kernel1.nD Cert.Kernel1.τ).loc Cert.Kernel1.main_arg0)) (m ((c.tc : Thread Cert.Kernel1.nD Cert.Kernel1.τ).loc Cert.Kernel1.main_arg1)) (m ((c.tc : Thread Cert.Kernel1.nD Cert.Kernel1.τ).loc Cert.Kernel1.main_arg2))) = (fun _ => 1#1)

def Pre_Kernel1Ideal [hPre_chunks_in_order1 : Cert.Pre_chunks_in_order1.Facts] (m : (ℓ : Loc Cert.Kernel1Ideal.nD Cert.Kernel1Ideal.τ Cert.Kernel1Ideal.sig) → Buf (Elt Ideal) ℓ) : Prop :=
  ∀ c : Dev Cert.Kernel1Ideal.nD,
    (Cert.Pre_chunks_in_order1.fn (F := Ideal) (m ((c.tc : Thread Cert.Kernel1Ideal.nD Cert.Kernel1Ideal.τ).loc Cert.Kernel1Ideal.main_arg0)) (m ((c.tc : Thread Cert.Kernel1Ideal.nD Cert.Kernel1Ideal.τ).loc Cert.Kernel1Ideal.main_arg1)) (m ((c.tc : Thread Cert.Kernel1Ideal.nD Cert.Kernel1Ideal.τ).loc Cert.Kernel1Ideal.main_arg2))) = (fun _ => 1#1)

def Pre_Reference1Ideal (m : (ℓ : Loc Cert.Reference1Ideal.nD Cert.Reference1Ideal.τ Cert.Reference1Ideal.sig) → Buf (Elt Ideal) ℓ) : Prop :=
  True

def Pre_Reference1Ideal_chunks_in_order1 [hPre_chunks_in_order1 : Cert.Pre_chunks_in_order1.Facts] (m : (ℓ : Loc Cert.Reference1Ideal.nD Cert.Reference1Ideal.τ Cert.Reference1Ideal.sig) → Buf (Elt Ideal) ℓ) : Prop :=
  ∀ c : Dev Cert.Reference1Ideal.nD,
    (Cert.Pre_chunks_in_order1.fn (F := Ideal) (m ((c.tc : Thread Cert.Reference1Ideal.nD Cert.Reference1Ideal.τ).loc Cert.Reference1Ideal.main_arg0)) (m ((c.tc : Thread Cert.Reference1Ideal.nD Cert.Reference1Ideal.τ).loc Cert.Reference1Ideal.main_arg1)) (m ((c.tc : Thread Cert.Reference1Ideal.nD Cert.Reference1Ideal.τ).loc Cert.Reference1Ideal.main_arg2))) = (fun _ => 1#1)

def Pre_Kernel2 (m : (ℓ : Loc Cert.Kernel2.nD Cert.Kernel2.τ Cert.Kernel2.sig) → Buf (Elt Bits) ℓ) : Prop :=
  True

def Pre_Reference2 (m : (ℓ : Loc Cert.Reference2.nD Cert.Reference2.τ Cert.Reference2.sig) → Buf (Elt Bits) ℓ) : Prop :=
  True

def quiescent_Kernel [hKernel : Cert.Kernel.Facts] [hPre_chunks_in_order : Cert.Pre_chunks_in_order.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_chunks_in_order : Cert.Pre_chunks_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_chunks_in_order [hReferenceIdeal : Cert.ReferenceIdeal.Facts] [hPre_chunks_in_order : Cert.Pre_chunks_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel1 [hKernel1 : Cert.Kernel1.Facts] [hPre_chunks_in_order1 : Cert.Pre_chunks_in_order1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2))
      ∧ r.2.sem = fun _ => 0)

def quiescent_Kernel1Ideal [hKernel1Ideal : Cert.Kernel1Ideal.Facts] [hPre_chunks_in_order1 : Cert.Pre_chunks_in_order1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2))
      ∧ r.2.sem = fun _ => 0)

def quiescent_Reference1Ideal_pre_chunks_in_order1 [hReference1Ideal : Cert.Reference1Ideal.Facts] [hPre_chunks_in_order1 : Cert.Pre_chunks_in_order1.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal_chunks_in_order1 m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_chunks_in_order : Cert.Pre_chunks_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel1_Kernel1Ideal : Prop :=
  True

def algebraic_Kernel1Ideal_Reference1Ideal [hKernel1Ideal : Cert.Kernel1Ideal.Facts] [hReference1Ideal : Cert.Reference1Ideal.Facts] [hPre_chunks_in_order1 : Cert.Pre_chunks_in_order1.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)) →
    ∃ (v0 : (c : Dev Cert.Kernel1Ideal.nD) → Buf (Elt Ideal) ((c.tc : Thread Cert.Kernel1Ideal.nD Cert.Kernel1Ideal.τ).loc Cert.Kernel1Ideal.main_v3)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v3) = v0 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v41) = v0 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2))

def bitexact_Kernel2_Reference2 [hKernel2 : Cert.Kernel2.Facts] [hReference2 : Cert.Reference2.Facts] : Prop :=
  ∀ (m : (ℓ : Loc Cert.Kernel2.nD Cert.Kernel2.τ Cert.Kernel2.sig) → Buf (Elt Bits) ℓ) (g : Dev Cert.Kernel2.nD → PrngReg)
    (m' : (ℓ : Loc Cert.Reference2.nD Cert.Reference2.τ Cert.Reference2.sig) → Buf (Elt Bits) ℓ) (g' : Dev Cert.Reference2.nD → PrngReg), Pre_Kernel2 m →
    (∀ c : Dev Cert.Kernel2.nD,
      m' ((c.tc : Thread Cert.Reference2.nD Cert.Reference2.τ).loc Cert.Reference2.main_arg0) = m ((c.tc : Thread Cert.Kernel2.nD Cert.Kernel2.τ).loc Cert.Kernel2.main_arg0)
      ∧ m' ((c.tc : Thread Cert.Reference2.nD Cert.Reference2.τ).loc Cert.Reference2.main_arg1) = m ((c.tc : Thread Cert.Kernel2.nD Cert.Kernel2.τ).loc Cert.Kernel2.main_arg1)
      ∧ m' ((c.tc : Thread Cert.Reference2.nD Cert.Reference2.τ).loc Cert.Reference2.main_arg2) = m ((c.tc : Thread Cert.Kernel2.nD Cert.Kernel2.τ).loc Cert.Kernel2.main_arg2)
      ∧ m' ((c.tc : Thread Cert.Reference2.nD Cert.Reference2.τ).loc Cert.Reference2.main_arg3) = m ((c.tc : Thread Cert.Kernel2.nD Cert.Kernel2.τ).loc Cert.Kernel2.main_arg3)) →
    ∃ (v0 : (c : Dev Cert.Kernel2.nD) → Buf (Elt Bits) ((c.tc : Thread Cert.Kernel2.nD Cert.Kernel2.τ).loc Cert.Kernel2.main_v4_0)) (v1 : (c : Dev Cert.Kernel2.nD) → Buf (Elt Bits) ((c.tc : Thread Cert.Kernel2.nD Cert.Kernel2.τ).loc Cert.Kernel2.main_v4_1)),
      θ_run (Cert.Kernel2.defs (F := Bits)) (onTc (τ := Cert.Kernel2.τ) (Cert.Kernel2.main (F := Bits))) ⟨m, fun _ => 0, g⟩ (fun r => ∀ c : Dev Cert.Kernel2.nD,
          r.2.mem ((c.tc : Thread Cert.Kernel2.nD Cert.Kernel2.τ).loc Cert.Kernel2.main_v4_0) = v0 c
          ∧ r.2.mem ((c.tc : Thread Cert.Kernel2.nD Cert.Kernel2.τ).loc Cert.Kernel2.main_v4_1) = v1 c
          ∧ r.2.mem ((c.tc : Thread Cert.Kernel2.nD Cert.Kernel2.τ).loc Cert.Kernel2.main_arg0) = m ((c.tc : Thread Cert.Kernel2.nD Cert.Kernel2.τ).loc Cert.Kernel2.main_arg0)
          ∧ r.2.mem ((c.tc : Thread Cert.Kernel2.nD Cert.Kernel2.τ).loc Cert.Kernel2.main_arg1) = m ((c.tc : Thread Cert.Kernel2.nD Cert.Kernel2.τ).loc Cert.Kernel2.main_arg1)
          ∧ r.2.mem ((c.tc : Thread Cert.Kernel2.nD Cert.Kernel2.τ).loc Cert.Kernel2.main_arg2) = m ((c.tc : Thread Cert.Kernel2.nD Cert.Kernel2.τ).loc Cert.Kernel2.main_arg2)
          ∧ r.2.mem ((c.tc : Thread Cert.Kernel2.nD Cert.Kernel2.τ).loc Cert.Kernel2.main_arg3) = m ((c.tc : Thread Cert.Kernel2.nD Cert.Kernel2.τ).loc Cert.Kernel2.main_arg3))
      ∧ θ_run (Cert.Reference2.defs (F := Bits)) (onTc (τ := Cert.Reference2.τ) (Cert.Reference2.main (F := Bits))) ⟨m', fun _ => 0, g'⟩ (fun r => ∀ c : Dev Cert.Reference2.nD,
          r.2.mem ((c.tc : Thread Cert.Reference2.nD Cert.Reference2.τ).loc Cert.Reference2.main_v11) = v0 c
          ∧ r.2.mem ((c.tc : Thread Cert.Reference2.nD Cert.Reference2.τ).loc Cert.Reference2.main_v10) = v1 c
          ∧ r.2.mem ((c.tc : Thread Cert.Reference2.nD Cert.Reference2.τ).loc Cert.Reference2.main_arg0) = m' ((c.tc : Thread Cert.Reference2.nD Cert.Reference2.τ).loc Cert.Reference2.main_arg0)
          ∧ r.2.mem ((c.tc : Thread Cert.Reference2.nD Cert.Reference2.τ).loc Cert.Reference2.main_arg1) = m' ((c.tc : Thread Cert.Reference2.nD Cert.Reference2.τ).loc Cert.Reference2.main_arg1)
          ∧ r.2.mem ((c.tc : Thread Cert.Reference2.nD Cert.Reference2.τ).loc Cert.Reference2.main_arg2) = m' ((c.tc : Thread Cert.Reference2.nD Cert.Reference2.τ).loc Cert.Reference2.main_arg2)
          ∧ r.2.mem ((c.tc : Thread Cert.Reference2.nD Cert.Reference2.τ).loc Cert.Reference2.main_arg3) = m' ((c.tc : Thread Cert.Reference2.nD Cert.Reference2.τ).loc Cert.Reference2.main_arg3))

def Claim : Prop :=
  ∃ (hKernel : Cert.Kernel.Facts) (hKernelIdeal : Cert.KernelIdeal.Facts) (hReferenceIdeal : Cert.ReferenceIdeal.Facts) (hKernel1 : Cert.Kernel1.Facts) (hKernel1Ideal : Cert.Kernel1Ideal.Facts) (hReference1Ideal : Cert.Reference1Ideal.Facts) (hKernel2 : Cert.Kernel2.Facts) (hReference2 : Cert.Reference2.Facts) (hPre_chunks_in_order : Cert.Pre_chunks_in_order.Facts) (hPre_chunks_in_order1 : Cert.Pre_chunks_in_order1.Facts),
    quiescent_Kernel (hKernel := hKernel) (hPre_chunks_in_order := hPre_chunks_in_order)
    ∧ quiescent_KernelIdeal (hKernelIdeal := hKernelIdeal) (hPre_chunks_in_order := hPre_chunks_in_order)
    ∧ quiescent_ReferenceIdeal (hReferenceIdeal := hReferenceIdeal)
    ∧ quiescent_ReferenceIdeal_pre_chunks_in_order (hReferenceIdeal := hReferenceIdeal) (hPre_chunks_in_order := hPre_chunks_in_order)
    ∧ quiescent_Kernel1 (hKernel1 := hKernel1) (hPre_chunks_in_order1 := hPre_chunks_in_order1)
    ∧ quiescent_Kernel1Ideal (hKernel1Ideal := hKernel1Ideal) (hPre_chunks_in_order1 := hPre_chunks_in_order1)
    ∧ quiescent_Reference1Ideal (hReference1Ideal := hReference1Ideal)
    ∧ quiescent_Reference1Ideal_pre_chunks_in_order1 (hReference1Ideal := hReference1Ideal) (hPre_chunks_in_order1 := hPre_chunks_in_order1)
    ∧ quiescent_Kernel2 (hKernel2 := hKernel2)
    ∧ quiescent_Reference2 (hReference2 := hReference2)
    ∧ preserves_Kernel_KernelIdeal
    ∧ algebraic_KernelIdeal_ReferenceIdeal (hKernelIdeal := hKernelIdeal) (hReferenceIdeal := hReferenceIdeal) (hPre_chunks_in_order := hPre_chunks_in_order)
    ∧ preserves_Kernel1_Kernel1Ideal
    ∧ algebraic_Kernel1Ideal_Reference1Ideal (hKernel1Ideal := hKernel1Ideal) (hReference1Ideal := hReference1Ideal) (hPre_chunks_in_order1 := hPre_chunks_in_order1)
    ∧ bitexact_Kernel2_Reference2 (hKernel2 := hKernel2) (hReference2 := hReference2)
-- ==== Pre_chunks_in_order.lean ====
abbrev S2x10192x40x128 : Shape := ⟨4, ![2, 10192, 40, 128]⟩
abbrev S2x10192x128 : Shape := ⟨3, ![2, 10192, 128]⟩
abbrev S32 : Shape := ⟨1, ![32]⟩
abbrev S14 : Shape := ⟨1, ![14]⟩
abbrev S1 : Shape := ⟨1, ![1]⟩
abbrev S_ : Shape := ⟨0, ![]⟩
abbrev S13 : Shape := ⟨1, ![13]⟩

class Facts : Prop where
  slices_S32_S14_0 : S32.Slices ![0] S14
  slices_S14_S1_0 : S14.Slices ![0] S1
  shapeCasts_S1_S_ : S1.ShapeCasts S_
  slices_S14_S13_0 : S14.Slices ![0] S13
  slices_S14_S13_1 : S14.Slices ![1] S13
  reducesTo_S13_S_d0 : S13.ReducesTo [0] S_
  h_S_ : 0 < S_.numel
  slices_S14_S1_13 : S14.Slices ![13] S1

variable [Facts]

def fn {F : FTy → Type} [FloatOps F] (main_arg0 : IVec S2x10192x40x128 32) (main_arg1 : IVec S2x10192x128 32) (main_arg2 : IVec S32 32) : IVec S_ 1 :=
  let main_v0 : IVec S14 32 := (extractStridedSlice S14 ![0] · slices_S32_S14_0) main_arg2
  let main_v1 : IVec S1 32 := (extractStridedSlice S1 ![0] · slices_S14_S1_0) main_v0
  let main_v2 : IVec S_ 32 := shapeCast S_ main_v1 shapeCasts_S1_S_
  let main_c : IVec S_ 32 := constantI S_ 32 0#32
  let main_v3 : IVec S_ 1 := cmpi .eq main_v2 main_c
  let main_v4 : IVec S13 32 := (extractStridedSlice S13 ![0] · slices_S14_S13_0) main_v0
  let main_v5 : IVec S13 32 := (extractStridedSlice S13 ![1] · slices_S14_S13_1) main_v0
  let main_v6 : IVec S13 1 := cmpi .sle main_v4 main_v5
  let main_c_0 : IVec S_ 1 := constantI S_ 1 1#1
  let main_v7 : IVec S_ 1 := (fun x v => Host.reduce IntOp.andi x v reducesTo_S13_S_d0 h_S_) main_v6 main_c_0
  let main_v8 : IVec S_ 1 := andi main_v3 main_v7
  let main_v9 : IVec S1 32 := (extractStridedSlice S1 ![13] · slices_S14_S1_13) main_v0
  let main_v10 : IVec S_ 32 := shapeCast S_ main_v9 shapeCasts_S1_S_
  let main_c_1 : IVec S_ 32 := constantI S_ 32 1#32
  let main_v11 : IVec S_ 1 := cmpi .sge main_v10 main_c_1
  let main_v12 : IVec S_ 1 := andi main_v8 main_v11
  let main_v13 : IVec S1 32 := (extractStridedSlice S1 ![13] · slices_S14_S1_13) main_v0
  let main_v14 : IVec S_ 32 := shapeCast S_ main_v13 shapeCasts_S1_S_
  let main_c_2 : IVec S_ 32 := constantI S_ 32 637#32
  let main_v15 : IVec S_ 1 := cmpi .sle main_v14 main_c_2
  let main_v16 : IVec S_ 1 := andi main_v12 main_v15
  main_v16
-- ==== Pre_chunks_in_order1.lean ====
abbrev S2x10192x40x128 : Shape := ⟨4, ![2, 10192, 40, 128]⟩
abbrev S2x10192x128 : Shape := ⟨3, ![2, 10192, 128]⟩
abbrev S32 : Shape := ⟨1, ![32]⟩
abbrev S14 : Shape := ⟨1, ![14]⟩
abbrev S1 : Shape := ⟨1, ![1]⟩
abbrev S_ : Shape := ⟨0, ![]⟩
abbrev S13 : Shape := ⟨1, ![13]⟩

class Facts : Prop where
  slices_S32_S14_16 : S32.Slices ![16] S14
  slices_S14_S1_0 : S14.Slices ![0] S1
  shapeCasts_S1_S_ : S1.ShapeCasts S_
  slices_S14_S13_0 : S14.Slices ![0] S13
  slices_S14_S13_1 : S14.Slices ![1] S13
  reducesTo_S13_S_d0 : S13.ReducesTo [0] S_
  h_S_ : 0 < S_.numel
  slices_S14_S1_13 : S14.Slices ![13] S1

variable [Facts]

def fn {F : FTy → Type} [FloatOps F] (main_arg0 : IVec S2x10192x40x128 32) (main_arg1 : IVec S2x10192x128 32) (main_arg2 : IVec S32 32) : IVec S_ 1 :=
  let main_v0 : IVec S14 32 := (extractStridedSlice S14 ![16] · slices_S32_S14_16) main_arg2
  let main_v1 : IVec S1 32 := (extractStridedSlice S1 ![0] · slices_S14_S1_0) main_v0
  let main_v2 : IVec S_ 32 := shapeCast S_ main_v1 shapeCasts_S1_S_
  let main_c : IVec S_ 32 := constantI S_ 32 0#32
  let main_v3 : IVec S_ 1 := cmpi .eq main_v2 main_c
  let main_v4 : IVec S13 32 := (extractStridedSlice S13 ![0] · slices_S14_S13_0) main_v0
  let main_v5 : IVec S13 32 := (extractStridedSlice S13 ![1] · slices_S14_S13_1) main_v0
  let main_v6 : IVec S13 1 := cmpi .sle main_v4 main_v5
  let main_c_0 : IVec S_ 1 := constantI S_ 1 1#1
  let main_v7 : IVec S_ 1 := (fun x v => Host.reduce IntOp.andi x v reducesTo_S13_S_d0 h_S_) main_v6 main_c_0
  let main_v8 : IVec S_ 1 := andi main_v3 main_v7
  let main_v9 : IVec S1 32 := (extractStridedSlice S1 ![13] · slices_S14_S1_13) main_v0
  let main_v10 : IVec S_ 32 := shapeCast S_ main_v9 shapeCasts_S1_S_
  let main_c_1 : IVec S_ 32 := constantI S_ 32 1#32
  let main_v11 : IVec S_ 1 := cmpi .sge main_v10 main_c_1
  let main_v12 : IVec S_ 1 := andi main_v8 main_v11
  let main_v13 : IVec S1 32 := (extractStridedSlice S1 ![13] · slices_S14_S1_13) main_v0
  let main_v14 : IVec S_ 32 := shapeCast S_ main_v13 shapeCasts_S1_S_
  let main_c_2 : IVec S_ 32 := constantI S_ 32 637#32
  let main_v15 : IVec S_ 1 := cmpi .sle main_v14 main_c_2
  let main_v16 : IVec S_ 1 := andi main_v12 main_v15
  main_v16
-- ==== Kernel.lean ====
abbrev S2x10192x40x128 : Shape := ⟨4, ![2, 10192, 40, 128]⟩
abbrev S2x10192x128 : Shape := ⟨3, ![2, 10192, 128]⟩
abbrev S32 : Shape := ⟨1, ![32]⟩
abbrev S16 : Shape := ⟨1, ![16]⟩
abbrev S1 : Shape := ⟨1, ![1]⟩
abbrev S_ : Shape := ⟨0, ![]⟩
abbrev S13x160x160 : Shape := ⟨3, ![13, 160, 160]⟩
abbrev S1x16x40x128 : Shape := ⟨4, ![1, 16, 40, 128]⟩
abbrev S1x16x128 : Shape := ⟨3, ![1, 16, 128]⟩
abbrev S16x128 : Shape := ⟨2, ![16, 128]⟩
abbrev S1x1x24x128 : Shape := ⟨4, ![1, 1, 24, 128]⟩
abbrev S24x128 : Shape := ⟨2, ![24, 128]⟩
abbrev S96x128 : Shape := ⟨2, ![96, 128]⟩
abbrev S1x1x16x128 : Shape := ⟨4, ![1, 1, 16, 128]⟩
abbrev S64x128 : Shape := ⟨2, ![64, 128]⟩
abbrev S1x128 : Shape := ⟨2, ![1, 128]⟩
abbrev S160x128 : Shape := ⟨2, ![160, 128]⟩
abbrev S160x2048 : Shape := ⟨2, ![160, 2048]⟩
abbrev S1x160x160 : Shape := ⟨3, ![1, 160, 160]⟩
abbrev S160x160 : Shape := ⟨2, ![160, 160]⟩

abbrev nBuf : Space → Nat
  | .hbm => 5
  | .vmem => 9
  | .smem => 2
  | _ => 0

abbrev bufTy : (tb : Table) → Fin (tcTables nBuf tb) → BufTy
  | .hbm, ⟨0, _⟩ => ⟨S2x10192x40x128, .i32⟩
  | .hbm, ⟨1, _⟩ => ⟨S2x10192x128, .i32⟩
  | .hbm, ⟨2, _⟩ => ⟨S32, .i32⟩
  | .hbm, ⟨3, _⟩ => ⟨S1, .i32⟩
  | .hbm, ⟨4, _⟩ => ⟨S13x160x160, .f32⟩
  | .local _ .vmem, ⟨0, _⟩ => ⟨S1x16x40x128, .i32⟩
  | .local _ .vmem, ⟨1, _⟩ => ⟨S1x16x40x128, .i32⟩
  | .local _ .vmem, ⟨2, _⟩ => ⟨S1x16x40x128, .i32⟩
  | .local _ .vmem, ⟨3, _⟩ => ⟨S1x16x40x128, .i32⟩
  | .local _ .vmem, ⟨4, _⟩ => ⟨S1x16x128, .i32⟩
  | .local _ .vmem, ⟨5, _⟩ => ⟨S1x16x128, .i32⟩
  | .local _ .vmem, ⟨6, _⟩ => ⟨S1x16x128, .i32⟩
  | .local _ .vmem, ⟨7, _⟩ => ⟨S1x16x128, .i32⟩
  | .local _ .vmem, ⟨8, _⟩ => ⟨S13x160x160, .f32⟩
  | .local _ .smem, ⟨0, _⟩ => ⟨S_, .i32⟩
  | .local _ .smem, ⟨1, _⟩ => ⟨S16, .i32⟩
  | _, _ => ⟨S2x10192x40x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v3 : Ref sig .tc := ⟨.hbm, 4, rfl⟩
abbrev main_v2 : Ref sig .tc := ⟨.smem, 0, rfl⟩
abbrev main_v0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![0], ![true]⟩

abbrev pre0 : Pipeline.Prefetch sig := ⟨2, ![main_v2.idx, main_v0.idx], fun | 0 => main_v2.names | 1 => main_v0.names | ⟨_ + 2, h⟩ => absurd h (Nat.not_lt.2 (Nat.le_add_left _ _)), fun | 0 => rfl | 1 => rfl | ⟨_ + 2, h⟩ => absurd h (Nat.not_lt.2 (Nat.le_add_left _ _))⟩

def dynb0 (pf : pre0.Contents (Elt F)) : grid0.Bounds := ![(pf 0 fun a => a.elim0).toNat]

def k0_off1 (arg0 : BitVec 32) (v3 : BitVec 32) (v7 : BitVec 32) (v11 : BitVec 32) (v15 : BitVec 32) (v19 : BitVec 32) (v23 : BitVec 32) (v27 : BitVec 32) (v31 : BitVec 32) (v35 : BitVec 32) (v39 : BitVec 32) (v43 : BitVec 32) (v47 : BitVec 32) : Fin 3 → Nat :=
  let c0_i32_1 : BitVec 32 := 0#32
  let v4 : BitVec 1 := Scalar.cmpi .sge arg0 v3
  let v5 : BitVec 32 := Scalar.extui v4
  let v6 : BitVec 32 := Scalar.addi c0_i32_1 v5
  let v8 : BitVec 1 := Scalar.cmpi .sge arg0 v7
  let v9 : BitVec 32 := Scalar.extui v8
  let v10 : BitVec 32 := Scalar.addi v6 v9
  let v12 : BitVec 1 := Scalar.cmpi .sge arg0 v11
  let v13 : BitVec 32 := Scalar.extui v12
  let v14 : BitVec 32 := Scalar.addi v10 v13
  let v16 : BitVec 1 := Scalar.cmpi .sge arg0 v15
  let v17 : BitVec 32 := Scalar.extui v16
  let v18 : BitVec 32 := Scalar.addi v14 v17
  let v20 : BitVec 1 := Scalar.cmpi .sge arg0 v19
  let v21 : BitVec 32 := Scalar.extui v20
  let v22 : BitVec 32 := Scalar.addi v18 v21
  let v24 : BitVec 1 := Scalar.cmpi .sge arg0 v23
  let v25 : BitVec 32 := Scalar.extui v24
  let v26 : BitVec 32 := Scalar.addi v22 v25
  let v28 : BitVec 1 := Scalar.cmpi .sge arg0 v27
  let v29 : BitVec 32 := Scalar.extui v28
  let v30 : BitVec 32 := Scalar.addi v26 v29
  let v32 : BitVec 1 := Scalar.cmpi .sge arg0 v31
  let v33 : BitVec 32 := Scalar.extui v32
  let v34 : BitVec 32 := Scalar.addi v30 v33
  let v36 : BitVec 1 := Scalar.cmpi .sge arg0 v35
  let v37 : BitVec 32 := Scalar.extui v36
  let v38 : BitVec 32 := Scalar.addi v34 v37
  let v40 : BitVec 1 := Scalar.cmpi .sge arg0 v39
  let v41 : BitVec 32 := Scalar.extui v40
  let v42 : BitVec 32 := Scalar.addi v38 v41
  let v44 : BitVec 1 := Scalar.cmpi .sge arg0 v43
  let v45 : BitVec 32 := Scalar.extui v44
  let v46 : BitVec 32 := Scalar.addi v42 v45
  let v48 : BitVec 1 := Scalar.cmpi .sge arg0 v47
  let v49 : BitVec 32 := Scalar.extui v48
  let v50 : BitVec 32 := Scalar.addi v46 v49
  let v677 : Index := Scalar.indexCast v50
  let c0_261 : Index := 0#32
  let c0_262 : Index := 0#32
  ![v677.toNat, 0, 0]

def k0_chk1 (arg0 : BitVec 32) (v3 : BitVec 32) (v7 : BitVec 32) (v11 : BitVec 32) (v15 : BitVec 32) (v19 : BitVec 32) (v23 : BitVec 32) (v27 : BitVec 32) (v31 : BitVec 32) (v35 : BitVec 32) (v39 : BitVec 32) (v43 : BitVec 32) (v47 : BitVec 32) : Prop :=
  (∀ a, (k0_off1 arg0 v3 v7 v11 v15 v19 v23 v27 v31 v35 v39 v43 v47) a + S1x160x160.size a ≤ S13x160x160.size a)
theorem k0_off1_inb : ∀ (arg0 : BitVec 32) (v3 : BitVec 32) (v7 : BitVec 32) (v11 : BitVec 32) (v15 : BitVec 32) (v19 : BitVec 32) (v23 : BitVec 32) (v27 : BitVec 32) (v31 : BitVec 32) (v35 : BitVec 32) (v39 : BitVec 32) (v43 : BitVec 32) (v47 : BitVec 32) (k0_hw1 : k0_chk1 arg0 v3 v7 v11 v15 v19 v23 v27 v31 v35 v39 v43 v47), ∀ a, (k0_off1 arg0 v3 v7 v11 v15 v19 v23 v27 v31 v35 v39 v43 v47) a + S1x160x160.size a ≤ S13x160x160.size a := fun arg0 v3 v7 v11 v15 v19 v23 v27 v31 v35 v39 v43 v47 k0_hw1 => k0_hw1

def cc0_transform_0 (b : grid0.Bounds) (i : (grid0.at b).Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (b : grid0.Bounds) (i : (grid0.at b).Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (b : grid0.Bounds) (i : (grid0.at b).Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (b : grid0.Bounds) (i : (grid0.at b).Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (b : grid0.Bounds) (i : (grid0.at b).Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x16x40x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x40x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S13x160x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S2x10192x40x128 : Shape := ⟨4, ![2, 10192, 40, 128]⟩
abbrev S2x10192x128 : Shape := ⟨3, ![2, 10192, 128]⟩
abbrev S32 : Shape := ⟨1, ![32]⟩
abbrev S2x10192x96x128 : Shape := ⟨4, ![2, 10192, 96, 128]⟩
abbrev S2x10192x64x128 : Shape := ⟨4, ![2, 10192, 64, 128]⟩
abbrev S1x10192x24x128 : Shape := ⟨4, ![1, 10192, 24, 128]⟩
abbrev S10192x24x128 : Shape := ⟨3, ![10192, 24, 128]⟩
abbrev S244608x128 : Shape := ⟨2, ![244608, 128]⟩
abbrev S978432x128 : Shape := ⟨2, ![978432, 128]⟩
abbrev S1x10192x16x128 : Shape := ⟨4, ![1, 10192, 16, 128]⟩
abbrev S10192x16x128 : Shape := ⟨3, ![10192, 16, 128]⟩
abbrev S163072x128 : Shape := ⟨2, ![163072, 128]⟩
abbrev S652288x128 : Shape := ⟨2, ![652288, 128]⟩
abbrev S10192x96x128 : Shape := ⟨3, ![10192, 96, 128]⟩
abbrev S1x10192x96x128 : Shape := ⟨4, ![1, 10192, 96, 128]⟩
abbrev S10192x64x128 : Shape := ⟨3, ![10192, 64, 128]⟩
abbrev S1x10192x64x128 : Shape := ⟨4, ![1, 10192, 64, 128]⟩
abbrev S_ : Shape := ⟨0, ![]⟩
abbrev S2x10192x1x128 : Shape := ⟨4, ![2, 10192, 1, 128]⟩
abbrev S2x10192x160x128 : Shape := ⟨4, ![2, 10192, 160, 128]⟩
abbrev S10192 : Shape := ⟨1, ![10192]⟩
abbrev S1x10192 : Shape := ⟨2, ![1, 10192]⟩
abbrev S13 : Shape := ⟨1, ![13]⟩
abbrev S13x1 : Shape := ⟨2, ![13, 1]⟩
abbrev S13x10192 : Shape := ⟨2, ![13, 10192]⟩
abbrev S13x10192x1x1 : Shape := ⟨4, ![13, 10192, 1, 1]⟩
abbrev S1x10192x160x128 : Shape := ⟨4, ![1, 10192, 160, 128]⟩
abbrev S10192x160x128 : Shape := ⟨3, ![10192, 160, 128]⟩
abbrev S13x10192x160x128 : Shape := ⟨4, ![13, 10192, 160, 128]⟩
abbrev S13x160x160 : Shape := ⟨3, ![13, 160, 160]⟩

abbrev nBuf : Space → Nat
  | .hbm => 54
  | .vmem => 3
  | .smem => 0
  | _ => 0

abbrev bufTy : (tb : Table) → Fin (tcTables nBuf tb) → BufTy
  | .hbm, ⟨0, _⟩ => ⟨S2x10192x40x128, .i32⟩
  | .hbm, ⟨1, _⟩ => ⟨S2x10192x128, .i32⟩
  | .hbm, ⟨2, _⟩ => ⟨S32, .i32⟩
  | .hbm, ⟨3, _⟩ => ⟨S2x10192x96x128, .bf16⟩
  | .hbm, ⟨4, _⟩ => ⟨S2x10192x64x128, .bf16⟩
  | .hbm, ⟨5, _⟩ => ⟨S_, .i32⟩
  | .hbm, ⟨6, _⟩ => ⟨S2x10192x128, .i32⟩
  | .hbm, ⟨7, _⟩ => ⟨S2x10192x128, .i32⟩
  | .hbm, ⟨8, _⟩ => ⟨S2x10192x128, .f32⟩
  | .hbm, ⟨9, _⟩ => ⟨S2x10192x128, .bf16⟩
  | .hbm, ⟨10, _⟩ => ⟨S_, .i32⟩
  | .hbm, ⟨11, _⟩ => ⟨S2x10192x128, .i32⟩
  | .hbm, ⟨12, _⟩ => ⟨S2x10192x128, .i32⟩
  | .hbm, ⟨13, _⟩ => ⟨S2x10192x128, .f32⟩
  | .hbm, ⟨14, _⟩ => ⟨S2x10192x128, .bf16⟩
  | .hbm, ⟨15, _⟩ => ⟨S2x10192x1x128, .bf16⟩
  | .hbm, ⟨16, _⟩ => ⟨S2x10192x96x128, .bf16⟩
  | .hbm, ⟨17, _⟩ => ⟨S2x10192x96x128, .bf16⟩
  | .hbm, ⟨18, _⟩ => ⟨S2x10192x1x128, .bf16⟩
  | .hbm, ⟨19, _⟩ => ⟨S2x10192x64x128, .bf16⟩
  | .hbm, ⟨20, _⟩ => ⟨S2x10192x64x128, .bf16⟩
  | .hbm, ⟨21, _⟩ => ⟨S2x10192x160x128, .bf16⟩
  | .hbm, ⟨22, _⟩ => ⟨S10192, .i32⟩
  | .hbm, ⟨23, _⟩ => ⟨S1x10192, .i32⟩
  | .hbm, ⟨24, _⟩ => ⟨S13, .i32⟩
  | .hbm, ⟨25, _⟩ => ⟨S13x1, .i32⟩
  | .hbm, ⟨26, _⟩ => ⟨S_, .i32⟩
  | .hbm, ⟨27, _⟩ => ⟨S13x1, .i32⟩
  | .hbm, ⟨28, _⟩ => ⟨S13x1, .i32⟩
  | .hbm, ⟨29, _⟩ => ⟨S13x10192, .i32⟩
  | .hbm, ⟨30, _⟩ => ⟨S13x10192, .i32⟩
  | .hbm, ⟨31, _⟩ => ⟨S13x10192, .i1⟩
  | .hbm, ⟨32, _⟩ => ⟨S13, .i32⟩
  | .hbm, ⟨33, _⟩ => ⟨S13x1, .i32⟩
  | .hbm, ⟨34, _⟩ => ⟨S_, .i32⟩
  | .hbm, ⟨35, _⟩ => ⟨S13x1, .i32⟩
  | .hbm, ⟨36, _⟩ => ⟨S13x1, .i32⟩
  | .hbm, ⟨37, _⟩ => ⟨S13x10192, .i32⟩
  | .hbm, ⟨38, _⟩ => ⟨S13x10192, .i32⟩
  | .hbm, ⟨39, _⟩ => ⟨S13x10192, .i1⟩
  | .hbm, ⟨40, _⟩ => ⟨S13x10192, .i1⟩
  | .hbm, ⟨41, _⟩ => ⟨S13x10192x1x1, .i1⟩
  | .hbm, ⟨42, _⟩ => ⟨S1x10192x160x128, .bf16⟩
  | .hbm, ⟨43, _⟩ => ⟨S10192x160x128, .bf16⟩
  | .hbm, ⟨44, _⟩ => ⟨S1x10192x160x128, .bf16⟩
  | .hbm, ⟨45, _⟩ => ⟨S_, .bf16⟩
  | .hbm, ⟨46, _⟩ => ⟨S13x10192x160x128, .i1⟩
  | .hbm, ⟨47, _⟩ => ⟨S13x10192x160x128, .bf16⟩
  | .hbm, ⟨48, _⟩ => ⟨S13x10192x160x128, .bf16⟩
  | .hbm, ⟨49, _⟩ => ⟨S13x10192x160x128, .bf16⟩
  | .hbm, ⟨50, _⟩ => ⟨S1x10192x160x128, .bf16⟩
  | .hbm, ⟨51, _⟩ => ⟨S10192x160x128, .bf16⟩
  | .hbm, ⟨52, _⟩ => ⟨S13x160x160, .f32⟩
  | .hbm, ⟨53, _⟩ => ⟨S13x160x160, .f32⟩
  | .local _ .vmem, ⟨0, _⟩ => ⟨S2x10192x40x128, .i32⟩
  | .local _ .vmem, ⟨1, _⟩ => ⟨S2x10192x96x128, .bf16⟩
  | .local _ .vmem, ⟨2, _⟩ => ⟨S2x10192x64x128, .bf16⟩
  | _, _ => ⟨S2x10192x40x128, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x10192x40x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x10192x96x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x10192x64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Kernel1.lean ====
abbrev S2x10192x40x128 : Shape := ⟨4, ![2, 10192, 40, 128]⟩
abbrev S2x10192x128 : Shape := ⟨3, ![2, 10192, 128]⟩
abbrev S32 : Shape := ⟨1, ![32]⟩
abbrev S16 : Shape := ⟨1, ![16]⟩
abbrev S1 : Shape := ⟨1, ![1]⟩
abbrev S_ : Shape := ⟨0, ![]⟩
abbrev S13x160x160 : Shape := ⟨3, ![13, 160, 160]⟩
abbrev S1x16x40x128 : Shape := ⟨4, ![1, 16, 40, 128]⟩
abbrev S1x16x128 : Shape := ⟨3, ![1, 16, 128]⟩
abbrev S16x128 : Shape := ⟨2, ![16, 128]⟩
abbrev S1x1x24x128 : Shape := ⟨4, ![1, 1, 24, 128]⟩
abbrev S24x128 : Shape := ⟨2, ![24, 128]⟩
abbrev S96x128 : Shape := ⟨2, ![96, 128]⟩
abbrev S1x1x16x128 : Shape := ⟨4, ![1, 1, 16, 128]⟩
abbrev S64x128 : Shape := ⟨2, ![64, 128]⟩
abbrev S1x128 : Shape := ⟨2, ![1, 128]⟩
abbrev S160x128 : Shape := ⟨2, ![160, 128]⟩
abbrev S160x2048 : Shape := ⟨2, ![160, 2048]⟩
abbrev S1x160x160 : Shape := ⟨3, ![1, 160, 160]⟩
abbrev S160x160 : Shape := ⟨2, ![160, 160]⟩

abbrev nBuf : Space → Nat
  | .hbm => 5
  | .vmem => 9
  | .smem => 2
  | _ => 0

abbrev bufTy : (tb : Table) → Fin (tcTables nBuf tb) → BufTy
  | .hbm, ⟨0, _⟩ => ⟨S2x10192x40x128, .i32⟩
  | .hbm, ⟨1, _⟩ => ⟨S2x10192x128, .i32⟩
  | .hbm, ⟨2, _⟩ => ⟨S32, .i32⟩
  | .hbm, ⟨3, _⟩ => ⟨S1, .i32⟩
  | .hbm, ⟨4, _⟩ => ⟨S13x160x160, .f32⟩
  | .local _ .vmem, ⟨0, _⟩ => ⟨S1x16x40x128, .i32⟩
  | .local _ .vmem, ⟨1, _⟩ => ⟨S1x16x40x128, .i32⟩
  | .local _ .vmem, ⟨2, _⟩ => ⟨S1x16x40x128, .i32⟩
  | .local _ .vmem, ⟨3, _⟩ => ⟨S1x16x40x128, .i32⟩
  | .local _ .vmem, ⟨4, _⟩ => ⟨S1x16x128, .i32⟩
  | .local _ .vmem, ⟨5, _⟩ => ⟨S1x16x128, .i32⟩
  | .local _ .vmem, ⟨6, _⟩ => ⟨S1x16x128, .i32⟩
  | .local _ .vmem, ⟨7, _⟩ => ⟨S1x16x128, .i32⟩
  | .local _ .vmem, ⟨8, _⟩ => ⟨S13x160x160, .f32⟩
  | .local _ .smem, ⟨0, _⟩ => ⟨S_, .i32⟩
  | .local _ .smem, ⟨1, _⟩ => ⟨S16, .i32⟩
  | _, _ => ⟨S2x10192x40x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v3 : Ref sig .tc := ⟨.hbm, 4, rfl⟩
abbrev main_v2 : Ref sig .tc := ⟨.smem, 0, rfl⟩
abbrev main_v0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![0], ![true]⟩

abbrev pre0 : Pipeline.Prefetch sig := ⟨2, ![main_v2.idx, main_v0.idx], fun | 0 => main_v2.names | 1 => main_v0.names | ⟨_ + 2, h⟩ => absurd h (Nat.not_lt.2 (Nat.le_add_left _ _)), fun | 0 => rfl | 1 => rfl | ⟨_ + 2, h⟩ => absurd h (Nat.not_lt.2 (Nat.le_add_left _ _))⟩

def dynb0 (pf : pre0.Contents (Elt F)) : grid0.Bounds := ![(pf 0 fun a => a.elim0).toNat]

def k0_off1 (arg0 : BitVec 32) (v3 : BitVec 32) (v7 : BitVec 32) (v11 : BitVec 32) (v15 : BitVec 32) (v19 : BitVec 32) (v23 : BitVec 32) (v27 : BitVec 32) (v31 : BitVec 32) (v35 : BitVec 32) (v39 : BitVec 32) (v43 : BitVec 32) (v47 : BitVec 32) : Fin 3 → Nat :=
  let c0_i32_1 : BitVec 32 := 0#32
  let v4 : BitVec 1 := Scalar.cmpi .sge arg0 v3
  let v5 : BitVec 32 := Scalar.extui v4
  let v6 : BitVec 32 := Scalar.addi c0_i32_1 v5
  let v8 : BitVec 1 := Scalar.cmpi .sge arg0 v7
  let v9 : BitVec 32 := Scalar.extui v8
  let v10 : BitVec 32 := Scalar.addi v6 v9
  let v12 : BitVec 1 := Scalar.cmpi .sge arg0 v11
  let v13 : BitVec 32 := Scalar.extui v12
  let v14 : BitVec 32 := Scalar.addi v10 v13
  let v16 : BitVec 1 := Scalar.cmpi .sge arg0 v15
  let v17 : BitVec 32 := Scalar.extui v16
  let v18 : BitVec 32 := Scalar.addi v14 v17
  let v20 : BitVec 1 := Scalar.cmpi .sge arg0 v19
  let v21 : BitVec 32 := Scalar.extui v20
  let v22 : BitVec 32 := Scalar.addi v18 v21
  let v24 : BitVec 1 := Scalar.cmpi .sge arg0 v23
  let v25 : BitVec 32 := Scalar.extui v24
  let v26 : BitVec 32 := Scalar.addi v22 v25
  let v28 : BitVec 1 := Scalar.cmpi .sge arg0 v27
  let v29 : BitVec 32 := Scalar.extui v28
  let v30 : BitVec 32 := Scalar.addi v26 v29
  let v32 : BitVec 1 := Scalar.cmpi .sge arg0 v31
  let v33 : BitVec 32 := Scalar.extui v32
  let v34 : BitVec 32 := Scalar.addi v30 v33
  let v36 : BitVec 1 := Scalar.cmpi .sge arg0 v35
  let v37 : BitVec 32 := Scalar.extui v36
  let v38 : BitVec 32 := Scalar.addi v34 v37
  let v40 : BitVec 1 := Scalar.cmpi .sge arg0 v39
  let v41 : BitVec 32 := Scalar.extui v40
  let v42 : BitVec 32 := Scalar.addi v38 v41
  let v44 : BitVec 1 := Scalar.cmpi .sge arg0 v43
  let v45 : BitVec 32 := Scalar.extui v44
  let v46 : BitVec 32 := Scalar.addi v42 v45
  let v48 : BitVec 1 := Scalar.cmpi .sge arg0 v47
  let v49 : BitVec 32 := Scalar.extui v48
  let v50 : BitVec 32 := Scalar.addi v46 v49
  let v677 : Index := Scalar.indexCast v50
  let c0_261 : Index := 0#32
  let c0_262 : Index := 0#32
  ![v677.toNat, 0, 0]

def k0_chk1 (arg0 : BitVec 32) (v3 : BitVec 32) (v7 : BitVec 32) (v11 : BitVec 32) (v15 : BitVec 32) (v19 : BitVec 32) (v23 : BitVec 32) (v27 : BitVec 32) (v31 : BitVec 32) (v35 : BitVec 32) (v39 : BitVec 32) (v43 : BitVec 32) (v47 : BitVec 32) : Prop :=
  (∀ a, (k0_off1 arg0 v3 v7 v11 v15 v19 v23 v27 v31 v35 v39 v43 v47) a + S1x160x160.size a ≤ S13x160x160.size a)
theorem k0_off1_inb : ∀ (arg0 : BitVec 32) (v3 : BitVec 32) (v7 : BitVec 32) (v11 : BitVec 32) (v15 : BitVec 32) (v19 : BitVec 32) (v23 : BitVec 32) (v27 : BitVec 32) (v31 : BitVec 32) (v35 : BitVec 32) (v39 : BitVec 32) (v43 : BitVec 32) (v47 : BitVec 32) (k0_hw1 : k0_chk1 arg0 v3 v7 v11 v15 v19 v23 v27 v31 v35 v39 v43 v47), ∀ a, (k0_off1 arg0 v3 v7 v11 v15 v19 v23 v27 v31 v35 v39 v43 v47) a + S1x160x160.size a ≤ S13x160x160.size a := fun arg0 v3 v7 v11 v15 v19 v23 v27 v31 v35 v39 v43 v47 k0_hw1 => k0_hw1

def cc0_transform_0 (b : grid0.Bounds) (i : (grid0.at b).Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (b : grid0.Bounds) (i : (grid0.at b).Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_2 (b : grid0.Bounds) (i : (grid0.at b).Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (b : grid0.Bounds) (i : (grid0.at b).Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (b : grid0.Bounds) (i : (grid0.at b).Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x16x40x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x40x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S13x160x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference1Ideal.lean ====
abbrev S2x10192x40x128 : Shape := ⟨4, ![2, 10192, 40, 128]⟩
abbrev S2x10192x128 : Shape := ⟨3, ![2, 10192, 128]⟩
abbrev S32 : Shape := ⟨1, ![32]⟩
abbrev S2x10192x96x128 : Shape := ⟨4, ![2, 10192, 96, 128]⟩
abbrev S2x10192x64x128 : Shape := ⟨4, ![2, 10192, 64, 128]⟩
abbrev S1x10192x24x128 : Shape := ⟨4, ![1, 10192, 24, 128]⟩
abbrev S10192x24x128 : Shape := ⟨3, ![10192, 24, 128]⟩
abbrev S244608x128 : Shape := ⟨2, ![244608, 128]⟩
abbrev S978432x128 : Shape := ⟨2, ![978432, 128]⟩
abbrev S1x10192x16x128 : Shape := ⟨4, ![1, 10192, 16, 128]⟩
abbrev S10192x16x128 : Shape := ⟨3, ![10192, 16, 128]⟩
abbrev S163072x128 : Shape := ⟨2, ![163072, 128]⟩
abbrev S652288x128 : Shape := ⟨2, ![652288, 128]⟩
abbrev S10192x96x128 : Shape := ⟨3, ![10192, 96, 128]⟩
abbrev S1x10192x96x128 : Shape := ⟨4, ![1, 10192, 96, 128]⟩
abbrev S10192x64x128 : Shape := ⟨3, ![10192, 64, 128]⟩
abbrev S1x10192x64x128 : Shape := ⟨4, ![1, 10192, 64, 128]⟩
abbrev S_ : Shape := ⟨0, ![]⟩
abbrev S2x10192x1x128 : Shape := ⟨4, ![2, 10192, 1, 128]⟩
abbrev S2x10192x160x128 : Shape := ⟨4, ![2, 10192, 160, 128]⟩
abbrev S10192 : Shape := ⟨1, ![10192]⟩
abbrev S1x10192 : Shape := ⟨2, ![1, 10192]⟩
abbrev S13 : Shape := ⟨1, ![13]⟩
abbrev S13x1 : Shape := ⟨2, ![13, 1]⟩
abbrev S13x10192 : Shape := ⟨2, ![13, 10192]⟩
abbrev S13x10192x1x1 : Shape := ⟨4, ![13, 10192, 1, 1]⟩
abbrev S1x10192x160x128 : Shape := ⟨4, ![1, 10192, 160, 128]⟩
abbrev S10192x160x128 : Shape := ⟨3, ![10192, 160, 128]⟩
abbrev S13x10192x160x128 : Shape := ⟨4, ![13, 10192, 160, 128]⟩
abbrev S13x160x160 : Shape := ⟨3, ![13, 160, 160]⟩

abbrev nBuf : Space → Nat
  | .hbm => 54
  | .vmem => 3
  | .smem => 0
  | _ => 0

abbrev bufTy : (tb : Table) → Fin (tcTables nBuf tb) → BufTy
  | .hbm, ⟨0, _⟩ => ⟨S2x10192x40x128, .i32⟩
  | .hbm, ⟨1, _⟩ => ⟨S2x10192x128, .i32⟩
  | .hbm, ⟨2, _⟩ => ⟨S32, .i32⟩
  | .hbm, ⟨3, _⟩ => ⟨S2x10192x96x128, .bf16⟩
  | .hbm, ⟨4, _⟩ => ⟨S2x10192x64x128, .bf16⟩
  | .hbm, ⟨5, _⟩ => ⟨S_, .i32⟩
  | .hbm, ⟨6, _⟩ => ⟨S2x10192x128, .i32⟩
  | .hbm, ⟨7, _⟩ => ⟨S2x10192x128, .i32⟩
  | .hbm, ⟨8, _⟩ => ⟨S2x10192x128, .f32⟩
  | .hbm, ⟨9, _⟩ => ⟨S2x10192x128, .bf16⟩
  | .hbm, ⟨10, _⟩ => ⟨S_, .i32⟩
  | .hbm, ⟨11, _⟩ => ⟨S2x10192x128, .i32⟩
  | .hbm, ⟨12, _⟩ => ⟨S2x10192x128, .i32⟩
  | .hbm, ⟨13, _⟩ => ⟨S2x10192x128, .f32⟩
  | .hbm, ⟨14, _⟩ => ⟨S2x10192x128, .bf16⟩
  | .hbm, ⟨15, _⟩ => ⟨S2x10192x1x128, .bf16⟩
  | .hbm, ⟨16, _⟩ => ⟨S2x10192x96x128, .bf16⟩
  | .hbm, ⟨17, _⟩ => ⟨S2x10192x96x128, .bf16⟩
  | .hbm, ⟨18, _⟩ => ⟨S2x10192x1x128, .bf16⟩
  | .hbm, ⟨19, _⟩ => ⟨S2x10192x64x128, .bf16⟩
  | .hbm, ⟨20, _⟩ => ⟨S2x10192x64x128, .bf16⟩
  | .hbm, ⟨21, _⟩ => ⟨S2x10192x160x128, .bf16⟩
  | .hbm, ⟨22, _⟩ => ⟨S10192, .i32⟩
  | .hbm, ⟨23, _⟩ => ⟨S1x10192, .i32⟩
  | .hbm, ⟨24, _⟩ => ⟨S13, .i32⟩
  | .hbm, ⟨25, _⟩ => ⟨S13x1, .i32⟩
  | .hbm, ⟨26, _⟩ => ⟨S_, .i32⟩
  | .hbm, ⟨27, _⟩ => ⟨S13x1, .i32⟩
  | .hbm, ⟨28, _⟩ => ⟨S13x1, .i32⟩
  | .hbm, ⟨29, _⟩ => ⟨S13x10192, .i32⟩
  | .hbm, ⟨30, _⟩ => ⟨S13x10192, .i32⟩
  | .hbm, ⟨31, _⟩ => ⟨S13x10192, .i1⟩
  | .hbm, ⟨32, _⟩ => ⟨S13, .i32⟩
  | .hbm, ⟨33, _⟩ => ⟨S13x1, .i32⟩
  | .hbm, ⟨34, _⟩ => ⟨S_, .i32⟩
  | .hbm, ⟨35, _⟩ => ⟨S13x1, .i32⟩
  | .hbm, ⟨36, _⟩ => ⟨S13x1, .i32⟩
  | .hbm, ⟨37, _⟩ => ⟨S13x10192, .i32⟩
  | .hbm, ⟨38, _⟩ => ⟨S13x10192, .i32⟩
  | .hbm, ⟨39, _⟩ => ⟨S13x10192, .i1⟩
  | .hbm, ⟨40, _⟩ => ⟨S13x10192, .i1⟩
  | .hbm, ⟨41, _⟩ => ⟨S13x10192x1x1, .i1⟩
  | .hbm, ⟨42, _⟩ => ⟨S1x10192x160x128, .bf16⟩
  | .hbm, ⟨43, _⟩ => ⟨S10192x160x128, .bf16⟩
  | .hbm, ⟨44, _⟩ => ⟨S1x10192x160x128, .bf16⟩
  | .hbm, ⟨45, _⟩ => ⟨S_, .bf16⟩
  | .hbm, ⟨46, _⟩ => ⟨S13x10192x160x128, .i1⟩
  | .hbm, ⟨47, _⟩ => ⟨S13x10192x160x128, .bf16⟩
  | .hbm, ⟨48, _⟩ => ⟨S13x10192x160x128, .bf16⟩
  | .hbm, ⟨49, _⟩ => ⟨S13x10192x160x128, .bf16⟩
  | .hbm, ⟨50, _⟩ => ⟨S1x10192x160x128, .bf16⟩
  | .hbm, ⟨51, _⟩ => ⟨S10192x160x128, .bf16⟩
  | .hbm, ⟨52, _⟩ => ⟨S13x160x160, .f32⟩
  | .hbm, ⟨53, _⟩ => ⟨S13x160x160, .f32⟩
  | .local _ .vmem, ⟨0, _⟩ => ⟨S2x10192x40x128, .i32⟩
  | .local _ .vmem, ⟨1, _⟩ => ⟨S2x10192x96x128, .bf16⟩
  | .local _ .vmem, ⟨2, _⟩ => ⟨S2x10192x64x128, .bf16⟩
  | _, _ => ⟨S2x10192x40x128, .i32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x10192x40x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x10192x96x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x10192x64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Kernel2.lean ====
abbrev S196608x96 : Shape := ⟨2, ![196608, 96]⟩
abbrev S196608 : Shape := ⟨1, ![196608]⟩
abbrev S196608x64 : Shape := ⟨2, ![196608, 64]⟩
abbrev S96x196608 : Shape := ⟨2, ![96, 196608]⟩
abbrev S64x196608 : Shape := ⟨2, ![64, 196608]⟩
abbrev S1x196608 : Shape := ⟨2, ![1, 196608]⟩
abbrev S40x196608 : Shape := ⟨2, ![40, 196608]⟩
abbrev S96x64 : Shape := ⟨2, ![96, 64]⟩
abbrev S96x4096 : Shape := ⟨2, ![96, 4096]⟩
abbrev S64x4096 : Shape := ⟨2, ![64, 4096]⟩
abbrev S1x4096 : Shape := ⟨2, ![1, 4096]⟩
abbrev S40x4096 : Shape := ⟨2, ![40, 4096]⟩
abbrev S24x4096 : Shape := ⟨2, ![24, 4096]⟩
abbrev S16x4096 : Shape := ⟨2, ![16, 4096]⟩

abbrev nBuf : Space → Nat
  | .hbm => 11
  | .vmem => 13
  | .smem => 0
  | _ => 0

abbrev bufTy : (tb : Table) → Fin (tcTables nBuf tb) → BufTy
  | .hbm, ⟨0, _⟩ => ⟨S196608x96, .fp8e4m3⟩
  | .hbm, ⟨1, _⟩ => ⟨S196608, .f32⟩
  | .hbm, ⟨2, _⟩ => ⟨S196608x64, .fp8e5m2⟩
  | .hbm, ⟨3, _⟩ => ⟨S196608, .f32⟩
  | .hbm, ⟨4, _⟩ => ⟨S96x196608, .fp8e4m3⟩
  | .hbm, ⟨5, _⟩ => ⟨S64x196608, .fp8e5m2⟩
  | .hbm, ⟨6, _⟩ => ⟨S1x196608, .f32⟩
  | .hbm, ⟨7, _⟩ => ⟨S1x196608, .f32⟩
  | .hbm, ⟨8, _⟩ => ⟨S40x196608, .i32⟩
  | .hbm, ⟨9, _⟩ => ⟨S1x196608, .i32⟩
  | .hbm, ⟨10, _⟩ => ⟨S96x64, .f32⟩
  | .local _ .vmem, ⟨0, _⟩ => ⟨S96x4096, .fp8e4m3⟩
  | .local _ .vmem, ⟨1, _⟩ => ⟨S96x4096, .fp8e4m3⟩
  | .local _ .vmem, ⟨2, _⟩ => ⟨S64x4096, .fp8e5m2⟩
  | .local _ .vmem, ⟨3, _⟩ => ⟨S64x4096, .fp8e5m2⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | .local _ .vmem, ⟨7, _⟩ => ⟨S1x4096, .f32⟩
  | .local _ .vmem, ⟨8, _⟩ => ⟨S40x4096, .i32⟩
  | .local _ .vmem, ⟨9, _⟩ => ⟨S40x4096, .i32⟩
  | .local _ .vmem, ⟨10, _⟩ => ⟨S1x4096, .i32⟩
  | .local _ .vmem, ⟨11, _⟩ => ⟨S1x4096, .i32⟩
  | .local _ .vmem, ⟨12, _⟩ => ⟨S96x64, .f32⟩
  | _, _ => ⟨S196608x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [BitOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S96x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S96x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2.lean ====
abbrev S196608x96 : Shape := ⟨2, ![196608, 96]⟩
abbrev S196608 : Shape := ⟨1, ![196608]⟩
abbrev S196608x64 : Shape := ⟨2, ![196608, 64]⟩
abbrev S_ : Shape := ⟨0, ![]⟩
abbrev S1x196608 : Shape := ⟨2, ![1, 196608]⟩
abbrev S40x196608 : Shape := ⟨2, ![40, 196608]⟩
abbrev S196608x160 : Shape := ⟨2, ![196608, 160]⟩
abbrev S196608x40x4 : Shape := ⟨3, ![196608, 40, 4]⟩
abbrev S196608x40x1 : Shape := ⟨3, ![196608, 40, 1]⟩
abbrev S196608x40 : Shape := ⟨2, ![196608, 40]⟩

abbrev nBuf : Space → Nat
  | .hbm => 17
  | .vmem => 3
  | .smem => 0
  | _ => 0

abbrev bufTy : (tb : Table) → Fin (tcTables nBuf tb) → BufTy
  | .hbm, ⟨0, _⟩ => ⟨S196608x96, .fp8e4m3⟩
  | .hbm, ⟨1, _⟩ => ⟨S196608, .f32⟩
  | .hbm, ⟨2, _⟩ => ⟨S196608x64, .fp8e5m2⟩
  | .hbm, ⟨3, _⟩ => ⟨S196608, .f32⟩
  | .hbm, ⟨4, _⟩ => ⟨S196608, .bf16⟩
  | .hbm, ⟨5, _⟩ => ⟨S196608, .f32⟩
  | .hbm, ⟨6, _⟩ => ⟨S196608, .i32⟩
  | .hbm, ⟨7, _⟩ => ⟨S_, .i32⟩
  | .hbm, ⟨8, _⟩ => ⟨S196608, .i32⟩
  | .hbm, ⟨9, _⟩ => ⟨S196608, .i32⟩
  | .hbm, ⟨10, _⟩ => ⟨S196608, .bf16⟩
  | .hbm, ⟨11, _⟩ => ⟨S196608, .f32⟩
  | .hbm, ⟨12, _⟩ => ⟨S196608, .i32⟩
  | .hbm, ⟨13, _⟩ => ⟨S196608, .i32⟩
  | .hbm, ⟨14, _⟩ => ⟨S196608, .i32⟩
  | .hbm, ⟨15, _⟩ => ⟨S1x196608, .i32⟩
  | .hbm, ⟨16, _⟩ => ⟨S40x196608, .i32⟩
  | .local _ .vmem, ⟨0, _⟩ => ⟨S196608x96, .fp8e4m3⟩
  | .local _ .vmem, ⟨1, _⟩ => ⟨S196608x64, .fp8e5m2⟩
  | .local _ .vmem, ⟨2, _⟩ => ⟨S40x196608, .i32⟩
  | _, _ => ⟨S196608x96, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [BitOps F]

abbrev grid0 : Pipeline.Grid := .none

abbrev stage0_0 : Fin 1 → Memref sig .tc .vmem S196608x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S196608x64 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x196608 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.SecondRuns.lean ====
module

public import proofs.«01_k».proof.Proof.Gen.Kernel1
public import proofs.«01_k».proof.Proof.Gen.Kernel1.Launch
public import proofs.«01_k».proof.Proof.Gen.Kernel1.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384
set_option Elab.async false

noncomputable section

namespace Cert.Kernel1.Val

open Cert.Kernel1 Cert.Kernel1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A one-bit word widened to 32 bits is at most one. -/
theorem ext_le (x : BitVec 1) : (Scalar.extui x : BitVec 32).toNat ≤ 1 := by
  revert x; decide

/-- A sum of two small words does not wrap. -/
theorem add_le {x y : BitVec 32} {n : ℕ} (hx : x.toNat ≤ n) (hy : y.toNat ≤ 1) (hn : n ≤ 100) :
    (Scalar.addi x y).toNat ≤ n + 1 := by
  have : (Scalar.addi x y).toNat = (x.toNat + y.toNat) % 2 ^ 32 := BitVec.toNat_add ..
  rw [this]; omega

/-- The offset row is a count of twelve comparisons, so the store always fits the accumulator. -/
theorem chk_all (g a1 a2 a3 a4 a5 a6 a7 a8 a9 a10 a11 a12 : BitVec 32) :
    k0_chk1 g a1 a2 a3 a4 a5 a6 a7 a8 a9 a10 a11 a12 := by
  unfold k0_chk1 k0_off1
  have h0 : (0#32 : BitVec 32).toNat ≤ 0 := by decide
  have h := add_le (add_le (add_le (add_le (add_le (add_le (add_le (add_le (add_le (add_le (add_le (add_le h0
    (ext_le (Scalar.cmpi .sge g a1)) (by decide)) (ext_le (Scalar.cmpi .sge g a2)) (by decide))
    (ext_le (Scalar.cmpi .sge g a3)) (by decide)) (ext_le (Scalar.cmpi .sge g a4)) (by decide))
    (ext_le (Scalar.cmpi .sge g a5)) (by decide)) (ext_le (Scalar.cmpi .sge g a6)) (by decide))
    (ext_le (Scalar.cmpi .sge g a7)) (by decide)) (ext_le (Scalar.cmpi .sge g a8)) (by decide))
    (ext_le (Scalar.cmpi .sge g a9)) (by decide)) (ext_le (Scalar.cmpi .sge g a10)) (by decide))
    (ext_le (Scalar.cmpi .sge g a11)) (by decide)) (ext_le (Scalar.cmpi .sge g a12)) (by decide)
  intro a
  fin_cases a
  · exact (Nat.add_le_add_right h 1)
  · exact le_refl 160
  · exact le_refl 160

set_option backward.proofsInPublic true in
set_option maxHeartbeats 40000000 in
/-- A later chunk's run: what the body stores in the accumulator. -/
noncomputable def runB (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32) (xo : Vec F S13x160x160 .f32)
    (hc0 : ¬((Scalar.cmpi .ne (Scalar.extui (Scalar.cmpi .eq arg0 0#32)) 0#32) = 1#1)) :
    { out0 : List (View.Piece (Elt F) S13x160x160 .f32) //
      ∀ (K : PUnit → sProp 𝕄),
        iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ owns (c : Thread nD τ) arg6 fullShare xo
          ∗ (iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ (arg6.view.loc (c : Thread nD τ) ↦[arg6.view.set]{fullShare} arg6.view.writes (Elt F) (harg6.unread xo) out0)) -∗ K ⟨⟩))
          ⊢ wp frame (wpE (defs₀ (F := F)) Variants.none c none) Set.univ (cc0_pair_matmul1 b i arg0 arg1 harg1 arg2 harg2 arg3 harg3 arg4 harg4 arg5 harg5 arg6 harg6) K } :=
  by
    refine ⟨?_, fun K => ?run⟩
    case run =>
      unfold owns
      rw [cc0_pair_matmul1_eq_skeleton]; unfold cc0_pair_matmul1_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
      iintro ⟨HT, H0, H1, H2, H3, ⟨%f1, %hf1, HO⟩, Hk⟩
      obtain rfl := harg6.eq_unread hf1
      sl_exec! (disch := first | with_reducible exact hc0 | with_reducible exact chk_all _ _ _ _ _ _ _ _ _ _ _ _ _)
      sl_step
      iapply Hk
      isplitl [HT]; · iexact HT
      isplitl [H0]; · iexact H0
      isplitl [H1]; · iexact H1
      isplitl [H2]; · iexact H2
      isplitl [H3]; · iexact H3
      iexact HO

set_option backward.proofsInPublic true in
set_option maxHeartbeats 40000000 in
/-- The first chunk's run. -/
noncomputable def runA (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32)
    (hc0 : (Scalar.cmpi .ne (Scalar.extui (Scalar.cmpi .eq arg0 0#32)) 0#32) = 1#1) :
    { out0 : List (View.Piece (Elt F) S13x160x160 .f32) //
      ∀ (K : PUnit → sProp 𝕄),
        iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ (∃ d, owns (c : Thread nD τ) arg6 fullShare d)
          ∗ (iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ (arg6.view.loc (c : Thread nD τ) ↦[arg6.view.set]{fullShare} arg6.view.writes (Elt F) arg6.view.junk out0)) -∗ K ⟨⟩))
          ⊢ wp frame (wpE (defs₀ (F := F)) Variants.none c none) Set.univ (cc0_pair_matmul1 b i arg0 arg1 harg1 arg2 harg2 arg3 harg3 arg4 harg4 arg5 harg5 arg6 harg6) K } :=
  by
    refine ⟨?_, fun K => ?run⟩
    case run =>
      unfold owns
      rw [cc0_pair_matmul1_eq_skeleton]; unfold cc0_pair_matmul1_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
      iintro ⟨HT, H0, H1, H2, H3, ⟨%d1, %f1, -, HO⟩, Hk⟩
      sl_exec! (disch := first | with_reducible exact hc0 | with_reducible exact chk_all _ _ _ _ _ _ _ _ _ _ _ _ _)
      sl_step
      iapply Hk
      isplitl [HT]; · iexact HT
      isplitl [H0]; · iexact H0
      isplitl [H1]; · iexact H1
      isplitl [H2]; · iexact H2
      isplitl [H3]; · iexact H3
      iexact HO

end Cert.Kernel1.Val
-- ==== Proof.SecondZin.lean ====
module

public import proofs.«01_k».proof.Proof.Gen.Kernel1
public import proofs.«01_k».proof.Proof.Gen.Kernel1.Launch
public import proofs.«01_k».proof.Proof.Gen.Kernel1.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.SecondRuns

@[expose] public section

set_option maxRecDepth 16384
set_option Elab.async false

noncomputable section

namespace Cert.Kernel1.Val

open Cert.Kernel1 Cert.Kernel1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Word `j` of the prefetched chunk bounds. -/
def tw (T : Vec F S16 .i32) (j : Fin 16) : BitVec 32 := T (ix1 j)

/-- The `24 × 128` packed words of block `j`. -/
def ldX (p : Vec F S1x16x40x128 .i32) (j : Fin 16) : Vec F S1x1x24x128 .i32 := fun y =>
  p (ix4 (0 : Fin 1) j (⟨(y 2).val, lt_of_lt_of_le (y 2).isLt (by decide)⟩ : Fin 40) (y 3 : Fin 128))

/-- The `16 × 128` packed words of block `j`. -/
def ldD (p : Vec F S1x16x40x128 .i32) (j : Fin 16) : Vec F S1x1x16x128 .i32 := fun y =>
  p (ix4 (0 : Fin 1) j (⟨24 + (y 2).val, Nat.add_lt_add_left (y 2).isLt 24⟩ : Fin 40) (y 3 : Fin 128))

theorem readX (v : View sig .tc .vmem S1x16x40x128 .i32) (x : Vec F S1x16x40x128 .i32) (j : Fin 16) (o : Fin 4 → ℕ) (inb) (ho : o = ![0, j.val, 0, 0]) :
    v.readAt (Elt F) (Rect.unit (s := S1x16x40x128) o S1x1x24x128.size inb).toLoadRect (v.rep x) = ldX x j := by
  subst ho
  rw [View.readAt_rep]
  funext y
  refine congrArg x (funext fun a => Fin.ext ?_)
  have h0 : (y 0).val < 1 := (y 0).isLt
  have h1 : (y 1).val < 1 := (y 1).isLt
  fin_cases a
  · show 0 + 1 * (y 0).val = 0; omega
  · show j.val + 1 * (y 1).val = j.val; omega
  · show 0 + 1 * (y 2).val = (y 2).val; omega
  · show 0 + 1 * (y 3).val = (y 3).val; omega

theorem readD (v : View sig .tc .vmem S1x16x40x128 .i32) (x : Vec F S1x16x40x128 .i32) (j : Fin 16) (o : Fin 4 → ℕ) (inb) (ho : o = ![0, j.val, 24, 0]) :
    v.readAt (Elt F) (Rect.unit (s := S1x16x40x128) o S1x1x16x128.size inb).toLoadRect (v.rep x) = ldD x j := by
  subst ho
  rw [View.readAt_rep]
  funext y
  refine congrArg x (funext fun a => Fin.ext ?_)
  have h0 : (y 0).val < 1 := (y 0).isLt
  have h1 : (y 1).val < 1 := (y 1).isLt
  fin_cases a
  · show 0 + 1 * (y 0).val = 0; omega
  · show j.val + 1 * (y 1).val = j.val; omega
  · show 24 + 1 * (y 2).val = 24 + (y 2).val; omega
  · show 0 + 1 * (y 3).val = (y 3).val; omega

theorem readS (v : View sig .tc .vmem S1x16x128 .i32) (x : Vec F S1x16x128 .i32) (inb) :
    v.readAt (Elt F) (Rect.unit (s := S1x16x128) ![0, 0, 0] ![1, 16, 128] inb).toLoadRect (v.rep x) = x := by
  rw [View.readAt_rep]
  funext y
  refine congrArg x (funext fun a => Fin.ext ?_)
  fin_cases a
  · show 0 + 1 * (y 0).val = (y 0).val; omega
  · show 0 + 1 * (y 1).val = (y 1).val; omega
  · show 0 + 1 * (y 2).val = (y 2).val; omega

theorem ldX0 (v : View sig .tc .vmem S1x16x40x128 .i32) (x : Vec F S1x16x40x128 .i32) (inb) :
    v.readAt (Elt F) (Rect.unit (s := S1x16x40x128) ![0, 0, 0, 0] ![1, 1, 24, 128] inb).toLoadRect (v.rep x) = ldX x 0 := readX v x 0 _ inb rfl
theorem ldD0 (v : View sig .tc .vmem S1x16x40x128 .i32) (x : Vec F S1x16x40x128 .i32) (inb) :
    v.readAt (Elt F) (Rect.unit (s := S1x16x40x128) ![0, 0, 24, 0] ![1, 1, 16, 128] inb).toLoadRect (v.rep x) = ldD x 0 := readD v x 0 _ inb rfl
theorem ldX1 (v : View sig .tc .vmem S1x16x40x128 .i32) (x : Vec F S1x16x40x128 .i32) (inb) :
    v.readAt (Elt F) (Rect.unit (s := S1x16x40x128) ![0, 1, 0, 0] ![1, 1, 24, 128] inb).toLoadRect (v.rep x) = ldX x 1 := readX v x 1 _ inb rfl
theorem ldD1 (v : View sig .tc .vmem S1x16x40x128 .i32) (x : Vec F S1x16x40x128 .i32) (inb) :
    v.readAt (Elt F) (Rect.unit (s := S1x16x40x128) ![0, 1, 24, 0] ![1, 1, 16, 128] inb).toLoadRect (v.rep x) = ldD x 1 := readD v x 1 _ inb rfl
theorem ldX2 (v : View sig .tc .vmem S1x16x40x128 .i32) (x : Vec F S1x16x40x128 .i32) (inb) :
    v.readAt (Elt F) (Rect.unit (s := S1x16x40x128) ![0, 2, 0, 0] ![1, 1, 24, 128] inb).toLoadRect (v.rep x) = ldX x 2 := readX v x 2 _ inb rfl
theorem ldD2 (v : View sig .tc .vmem S1x16x40x128 .i32) (x : Vec F S1x16x40x128 .i32) (inb) :
    v.readAt (Elt F) (Rect.unit (s := S1x16x40x128) ![0, 2, 24, 0] ![1, 1, 16, 128] inb).toLoadRect (v.rep x) = ldD x 2 := readD v x 2 _ inb rfl
theorem ldX3 (v : View sig .tc .vmem S1x16x40x128 .i32) (x : Vec F S1x16x40x128 .i32) (inb) :
    v.readAt (Elt F) (Rect.unit (s := S1x16x40x128) ![0, 3, 0, 0] ![1, 1, 24, 128] inb).toLoadRect (v.rep x) = ldX x 3 := readX v x 3 _ inb rfl
theorem ldD3 (v : View sig .tc .vmem S1x16x40x128 .i32) (x : Vec F S1x16x40x128 .i32) (inb) :
    v.readAt (Elt F) (Rect.unit (s := S1x16x40x128) ![0, 3, 24, 0] ![1, 1, 16, 128] inb).toLoadRect (v.rep x) = ldD x 3 := readD v x 3 _ inb rfl
theorem ldX4 (v : View sig .tc .vmem S1x16x40x128 .i32) (x : Vec F S1x16x40x128 .i32) (inb) :
    v.readAt (Elt F) (Rect.unit (s := S1x16x40x128) ![0, 4, 0, 0] ![1, 1, 24, 128] inb).toLoadRect (v.rep x) = ldX x 4 := readX v x 4 _ inb rfl
theorem ldD4 (v : View sig .tc .vmem S1x16x40x128 .i32) (x : Vec F S1x16x40x128 .i32) (inb) :
    v.readAt (Elt F) (Rect.unit (s := S1x16x40x128) ![0, 4, 24, 0] ![1, 1, 16, 128] inb).toLoadRect (v.rep x) = ldD x 4 := readD v x 4 _ inb rfl
theorem ldX5 (v : View sig .tc .vmem S1x16x40x128 .i32) (x : Vec F S1x16x40x128 .i32) (inb) :
    v.readAt (Elt F) (Rect.unit (s := S1x16x40x128) ![0, 5, 0, 0] ![1, 1, 24, 128] inb).toLoadRect (v.rep x) = ldX x 5 := readX v x 5 _ inb rfl
theorem ldD5 (v : View sig .tc .vmem S1x16x40x128 .i32) (x : Vec F S1x16x40x128 .i32) (inb) :
    v.readAt (Elt F) (Rect.unit (s := S1x16x40x128) ![0, 5, 24, 0] ![1, 1, 16, 128] inb).toLoadRect (v.rep x) = ldD x 5 := readD v x 5 _ inb rfl
theorem ldX6 (v : View sig .tc .vmem S1x16x40x128 .i32) (x : Vec F S1x16x40x128 .i32) (inb) :
    v.readAt (Elt F) (Rect.unit (s := S1x16x40x128) ![0, 6, 0, 0] ![1, 1, 24, 128] inb).toLoadRect (v.rep x) = ldX x 6 := readX v x 6 _ inb rfl
theorem ldD6 (v : View sig .tc .vmem S1x16x40x128 .i32) (x : Vec F S1x16x40x128 .i32) (inb) :
    v.readAt (Elt F) (Rect.unit (s := S1x16x40x128) ![0, 6, 24, 0] ![1, 1, 16, 128] inb).toLoadRect (v.rep x) = ldD x 6 := readD v x 6 _ inb rfl
theorem ldX7 (v : View sig .tc .vmem S1x16x40x128 .i32) (x : Vec F S1x16x40x128 .i32) (inb) :
    v.readAt (Elt F) (Rect.unit (s := S1x16x40x128) ![0, 7, 0, 0] ![1, 1, 24, 128] inb).toLoadRect (v.rep x) = ldX x 7 := readX v x 7 _ inb rfl
theorem ldD7 (v : View sig .tc .vmem S1x16x40x128 .i32) (x : Vec F S1x16x40x128 .i32) (inb) :
    v.readAt (Elt F) (Rect.unit (s := S1x16x40x128) ![0, 7, 24, 0] ![1, 1, 16, 128] inb).toLoadRect (v.rep x) = ldD x 7 := readD v x 7 _ inb rfl
theorem ldX8 (v : View sig .tc .vmem S1x16x40x128 .i32) (x : Vec F S1x16x40x128 .i32) (inb) :
    v.readAt (Elt F) (Rect.unit (s := S1x16x40x128) ![0, 8, 0, 0] ![1, 1, 24, 128] inb).toLoadRect (v.rep x) = ldX x 8 := readX v x 8 _ inb rfl
theorem ldD8 (v : View sig .tc .vmem S1x16x40x128 .i32) (x : Vec F S1x16x40x128 .i32) (inb) :
    v.readAt (Elt F) (Rect.unit (s := S1x16x40x128) ![0, 8, 24, 0] ![1, 1, 16, 128] inb).toLoadRect (v.rep x) = ldD x 8 := readD v x 8 _ inb rfl
theorem ldX9 (v : View sig .tc .vmem S1x16x40x128 .i32) (x : Vec F S1x16x40x128 .i32) (inb) :
    v.readAt (Elt F) (Rect.unit (s := S1x16x40x128) ![0, 9, 0, 0] ![1, 1, 24, 128] inb).toLoadRect (v.rep x) = ldX x 9 := readX v x 9 _ inb rfl
theorem ldD9 (v : View sig .tc .vmem S1x16x40x128 .i32) (x : Vec F S1x16x40x128 .i32) (inb) :
    v.readAt (Elt F) (Rect.unit (s := S1x16x40x128) ![0, 9, 24, 0] ![1, 1, 16, 128] inb).toLoadRect (v.rep x) = ldD x 9 := readD v x 9 _ inb rfl
theorem ldX10 (v : View sig .tc .vmem S1x16x40x128 .i32) (x : Vec F S1x16x40x128 .i32) (inb) :
    v.readAt (Elt F) (Rect.unit (s := S1x16x40x128) ![0, 10, 0, 0] ![1, 1, 24, 128] inb).toLoadRect (v.rep x) = ldX x 10 := readX v x 10 _ inb rfl
theorem ldD10 (v : View sig .tc .vmem S1x16x40x128 .i32) (x : Vec F S1x16x40x128 .i32) (inb) :
    v.readAt (Elt F) (Rect.unit (s := S1x16x40x128) ![0, 10, 24, 0] ![1, 1, 16, 128] inb).toLoadRect (v.rep x) = ldD x 10 := readD v x 10 _ inb rfl
theorem ldX11 (v : View sig .tc .vmem S1x16x40x128 .i32) (x : Vec F S1x16x40x128 .i32) (inb) :
    v.readAt (Elt F) (Rect.unit (s := S1x16x40x128) ![0, 11, 0, 0] ![1, 1, 24, 128] inb).toLoadRect (v.rep x) = ldX x 11 := readX v x 11 _ inb rfl
theorem ldD11 (v : View sig .tc .vmem S1x16x40x128 .i32) (x : Vec F S1x16x40x128 .i32) (inb) :
    v.readAt (Elt F) (Rect.unit (s := S1x16x40x128) ![0, 11, 24, 0] ![1, 1, 16, 128] inb).toLoadRect (v.rep x) = ldD x 11 := readD v x 11 _ inb rfl
theorem ldX12 (v : View sig .tc .vmem S1x16x40x128 .i32) (x : Vec F S1x16x40x128 .i32) (inb) :
    v.readAt (Elt F) (Rect.unit (s := S1x16x40x128) ![0, 12, 0, 0] ![1, 1, 24, 128] inb).toLoadRect (v.rep x) = ldX x 12 := readX v x 12 _ inb rfl
theorem ldD12 (v : View sig .tc .vmem S1x16x40x128 .i32) (x : Vec F S1x16x40x128 .i32) (inb) :
    v.readAt (Elt F) (Rect.unit (s := S1x16x40x128) ![0, 12, 24, 0] ![1, 1, 16, 128] inb).toLoadRect (v.rep x) = ldD x 12 := readD v x 12 _ inb rfl
theorem ldX13 (v : View sig .tc .vmem S1x16x40x128 .i32) (x : Vec F S1x16x40x128 .i32) (inb) :
    v.readAt (Elt F) (Rect.unit (s := S1x16x40x128) ![0, 13, 0, 0] ![1, 1, 24, 128] inb).toLoadRect (v.rep x) = ldX x 13 := readX v x 13 _ inb rfl
theorem ldD13 (v : View sig .tc .vmem S1x16x40x128 .i32) (x : Vec F S1x16x40x128 .i32) (inb) :
    v.readAt (Elt F) (Rect.unit (s := S1x16x40x128) ![0, 13, 24, 0] ![1, 1, 16, 128] inb).toLoadRect (v.rep x) = ldD x 13 := readD v x 13 _ inb rfl
theorem ldX14 (v : View sig .tc .vmem S1x16x40x128 .i32) (x : Vec F S1x16x40x128 .i32) (inb) :
    v.readAt (Elt F) (Rect.unit (s := S1x16x40x128) ![0, 14, 0, 0] ![1, 1, 24, 128] inb).toLoadRect (v.rep x) = ldX x 14 := readX v x 14 _ inb rfl
theorem ldD14 (v : View sig .tc .vmem S1x16x40x128 .i32) (x : Vec F S1x16x40x128 .i32) (inb) :
    v.readAt (Elt F) (Rect.unit (s := S1x16x40x128) ![0, 14, 24, 0] ![1, 1, 16, 128] inb).toLoadRect (v.rep x) = ldD x 14 := readD v x 14 _ inb rfl
theorem ldX15 (v : View sig .tc .vmem S1x16x40x128 .i32) (x : Vec F S1x16x40x128 .i32) (inb) :
    v.readAt (Elt F) (Rect.unit (s := S1x16x40x128) ![0, 15, 0, 0] ![1, 1, 24, 128] inb).toLoadRect (v.rep x) = ldX x 15 := readX v x 15 _ inb rfl
theorem ldD15 (v : View sig .tc .vmem S1x16x40x128 .i32) (x : Vec F S1x16x40x128 .i32) (inb) :
    v.readAt (Elt F) (Rect.unit (s := S1x16x40x128) ![0, 15, 24, 0] ![1, 1, 16, 128] inb).toLoadRect (v.rep x) = ldD x 15 := readD v x 15 _ inb rfl

/-- Rows of one block of decoded and scaled values: 96 of the first codes, 64 of the second. -/
def tileOf (p : Vec F S1x16x40x128 .i32) (s : Vec F S1x16x128 .i32) (j : Fin 16) (o : Fin 2 → ℕ) (ho : S16x128.Slices o S1x128) : FVec F S160x128 .bf16 :=
  concatenate S160x128 0
    [⟨S96x128, mulf (extf .bf16 (bitcastToFloat .fp8e4m3 (bitcast S96x128 8 (shapeCast S24x128 (ldX p j) shapeCasts_S1x1x24x128_S24x128) bitcasts_S24x128_w32_S96x128_w8)) bitsLt_fp8e4m3_bf16)
      (truncf .bf16 (broadcastTo S96x128 (shapeCast S1x128 (extractStridedSlice S1x128 o (k0_pay4 s) ho) shapeCasts_S1x128_S1x128) broadcasts_S1x128_S96x128) bitsLt_bf16_f32)⟩,
     ⟨S64x128, mulf (extf .bf16 (bitcastToFloat .fp8e5m2 (bitcast S64x128 8 (shapeCast S16x128 (ldD p j) shapeCasts_S1x1x16x128_S16x128) bitcasts_S16x128_w32_S64x128_w8)) bitsLt_fp8e5m2_bf16)
      (truncf .bf16 (broadcastTo S64x128 (shapeCast S1x128 (extractStridedSlice S1x128 o (k0_pay5 s) ho) shapeCasts_S1x128_S1x128) broadcasts_S1x128_S64x128) bitsLt_bf16_f32)⟩]
    concatenates_S96x128_S64x128_S160x128_d0

/-- A chunk's decoded and scaled values: sixteen blocks side by side. -/
def zOf (p : Vec F S1x16x40x128 .i32) (s : Vec F S1x16x128 .i32) : FVec F S160x2048 .bf16 :=
  concatenate S160x2048 1 [⟨S160x128, tileOf p s 0 ![0, 0] slices_S16x128_o0_0_S1x128⟩, ⟨S160x128, tileOf p s 1 ![1, 0] slices_S16x128_o1_0_S1x128⟩, ⟨S160x128, tileOf p s 2 ![2, 0] slices_S16x128_o2_0_S1x128⟩, ⟨S160x128, tileOf p s 3 ![3, 0] slices_S16x128_o3_0_S1x128⟩, ⟨S160x128, tileOf p s 4 ![4, 0] slices_S16x128_o4_0_S1x128⟩, ⟨S160x128, tileOf p s 5 ![5, 0] slices_S16x128_o5_0_S1x128⟩, ⟨S160x128, tileOf p s 6 ![6, 0] slices_S16x128_o6_0_S1x128⟩, ⟨S160x128, tileOf p s 7 ![7, 0] slices_S16x128_o7_0_S1x128⟩, ⟨S160x128, tileOf p s 8 ![8, 0] slices_S16x128_o8_0_S1x128⟩, ⟨S160x128, tileOf p s 9 ![9, 0] slices_S16x128_o9_0_S1x128⟩, ⟨S160x128, tileOf p s 10 ![10, 0] slices_S16x128_o10_0_S1x128⟩, ⟨S160x128, tileOf p s 11 ![11, 0] slices_S16x128_o11_0_S1x128⟩, ⟨S160x128, tileOf p s 12 ![12, 0] slices_S16x128_o12_0_S1x128⟩, ⟨S160x128, tileOf p s 13 ![13, 0] slices_S16x128_o13_0_S1x128⟩, ⟨S160x128, tileOf p s 14 ![14, 0] slices_S16x128_o14_0_S1x128⟩, ⟨S160x128, tileOf p s 15 ![15, 0] slices_S16x128_o15_0_S1x128⟩] concatenates_S160x128_S160x128_S160x128_S160x128_S160x128_S160x128_S160x128_S160x128_S160x128_S160x128_S160x128_S160x128_S160x128_S160x128_S160x128_S160x128_S160x2048_d1

end Cert.Kernel1.Val
-- ==== Proof.SecondZA.lean ====
module

public import proofs.«01_k».proof.Proof.Gen.Kernel1
public import proofs.«01_k».proof.Proof.Gen.Kernel1.Launch
public import proofs.«01_k».proof.Proof.Gen.Kernel1.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.SecondZin

@[expose] public section

set_option maxRecDepth 16384
set_option Elab.async false

noncomputable section

namespace Cert.Kernel1.Val

open Cert.Kernel1 Cert.Kernel1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
theorem zinA (arg2 : Memref sig .tc .vmem S1x16x40x128 .i32) (arg4 : Memref sig .tc .vmem S1x16x128 .i32) (x0 : Vec F S1x16x40x128 .i32) (s0 : Vec F S1x16x128 .i32) :
    runA.sl.r_43 arg2 arg4 x0 s0 = zOf x0 s0 := by
  simp only [runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

set_option maxHeartbeats 4000000 in
theorem zoutA (arg2 : Memref sig .tc .vmem S1x16x40x128 .i32) (arg4 : Memref sig .tc .vmem S1x16x128 .i32) (x0 : Vec F S1x16x40x128 .i32) (s0 : Vec F S1x16x128 .i32) :
    runA.sl.r_74 arg2 arg4 x0 s0 = zOf x0 s0 := by
  simp only [runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

end Cert.Kernel1.Val
-- ==== Proof.SecondZB.lean ====
module

public import proofs.«01_k».proof.Proof.Gen.Kernel1
public import proofs.«01_k».proof.Proof.Gen.Kernel1.Launch
public import proofs.«01_k».proof.Proof.Gen.Kernel1.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.SecondZin

@[expose] public section

set_option maxRecDepth 16384
set_option Elab.async false

noncomputable section

namespace Cert.Kernel1.Val

open Cert.Kernel1 Cert.Kernel1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
theorem zinB (arg2 : Memref sig .tc .vmem S1x16x40x128 .i32) (arg4 : Memref sig .tc .vmem S1x16x128 .i32) (x0 : Vec F S1x16x40x128 .i32) (s0 : Vec F S1x16x128 .i32) :
    runB.sl.r_43 arg2 arg4 x0 s0 = zOf x0 s0 := by
  simp only [runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.r_56, runB.sl.r_57, runB.sl.r_58, runB.sl.r_59, runB.sl.r_60, runB.sl.r_61, runB.sl.r_62, runB.sl.r_63, runB.sl.r_64, runB.sl.r_65, runB.sl.r_66, runB.sl.r_67, runB.sl.r_68, runB.sl.r_69, runB.sl.r_70, runB.sl.r_71, runB.sl.r_72, runB.sl.r_73, runB.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

set_option maxHeartbeats 4000000 in
theorem zoutB (arg2 : Memref sig .tc .vmem S1x16x40x128 .i32) (arg4 : Memref sig .tc .vmem S1x16x128 .i32) (x0 : Vec F S1x16x40x128 .i32) (s0 : Vec F S1x16x128 .i32) :
    runB.sl.r_74 arg2 arg4 x0 s0 = zOf x0 s0 := by
  simp only [runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.r_56, runB.sl.r_57, runB.sl.r_58, runB.sl.r_59, runB.sl.r_60, runB.sl.r_61, runB.sl.r_62, runB.sl.r_63, runB.sl.r_64, runB.sl.r_65, runB.sl.r_66, runB.sl.r_67, runB.sl.r_68, runB.sl.r_69, runB.sl.r_70, runB.sl.r_71, runB.sl.r_72, runB.sl.r_73, runB.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

end Cert.Kernel1.Val
-- ==== Proof.SecondBody.lean ====
module

public import proofs.«01_k».proof.Proof.Gen.Kernel1
public import proofs.«01_k».proof.Proof.Gen.Kernel1.Launch
public import proofs.«01_k».proof.Proof.Gen.Kernel1.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.SecondZA
public import proofs.«01_k».proof.Proof.SecondZB

@[expose] public section

set_option maxRecDepth 16384
set_option Elab.async false

noncomputable section

namespace Cert.Kernel1.Val

open Cert.Kernel1 Cert.Kernel1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulator row block a chunk adds to, as the offsets the body computes. -/
def oOf (g : BitVec 32) (T : Vec F S16 .i32) : Fin 3 → ℕ := k0_off1 g (tw T 1) (tw T 2) (tw T 3) (tw T 4) (tw T 5) (tw T 6) (tw T 7) (tw T 8) (tw T 9) (tw T 10) (tw T 11) (tw T 12)

theorem oOf_inb (g : BitVec 32) (T : Vec F S16 .i32) : ∀ a, oOf g T a + S1x160x160.size a ≤ S13x160x160.size a := chk_all _ _ _ _ _ _ _ _ _ _ _ _ _

/-- The rows of the accumulator at the given offsets. -/
def rowOf (acc : Vec F S13x160x160 .f32) (o : Fin 3 → ℕ) (h : ∀ a, o a + S1x160x160.size a ≤ S13x160x160.size a) : Vec F S1x160x160 .f32 :=
  fun z => acc ((Rect.unit (s := S13x160x160) o S1x160x160.size h).toLoadRect.idx z)

/-- One chunk's effect on the accumulator. -/
def step (g : BitVec 32) (T : Vec F S16 .i32) (x0 x1 : Vec F S1x16x40x128 .i32) (s0 s1 : Vec F S1x16x128 .i32) (acc : Vec F S13x160x160 .f32) : Vec F S13x160x160 .f32 :=
  fun y => if h : ∀ a, oOf g T a ≤ (y a).val ∧ (y a).val < oOf g T a + S1x160x160.size a then
      k0_pay1 (zOf x0 s0) (zOf x1 s1) (rowOf acc (oOf g T) (oOf_inb g T)) (Rect.unitLocal (s := S13x160x160) (off := oOf g T) (size := S1x160x160.size) y h)
    else acc y

theorem twA1 (arg1 : Memref sig .tc .smem S16 .i32) (T : Vec F S16 .i32) : runA.sl.r arg1 T = tw T 1 := by
  unfold runA.sl.r; rw [View.readAt_rep]; exact congrArg T (funext fun a => Fin.ext (by match a with | ⟨0, _⟩ => rfl))
theorem twA2 (arg1 : Memref sig .tc .smem S16 .i32) (T : Vec F S16 .i32) : runA.sl.r_1 arg1 T = tw T 2 := by
  unfold runA.sl.r_1; rw [View.readAt_rep]; exact congrArg T (funext fun a => Fin.ext (by match a with | ⟨0, _⟩ => rfl))
theorem twA3 (arg1 : Memref sig .tc .smem S16 .i32) (T : Vec F S16 .i32) : runA.sl.r_2 arg1 T = tw T 3 := by
  unfold runA.sl.r_2; rw [View.readAt_rep]; exact congrArg T (funext fun a => Fin.ext (by match a with | ⟨0, _⟩ => rfl))
theorem twA4 (arg1 : Memref sig .tc .smem S16 .i32) (T : Vec F S16 .i32) : runA.sl.r_3 arg1 T = tw T 4 := by
  unfold runA.sl.r_3; rw [View.readAt_rep]; exact congrArg T (funext fun a => Fin.ext (by match a with | ⟨0, _⟩ => rfl))
theorem twA5 (arg1 : Memref sig .tc .smem S16 .i32) (T : Vec F S16 .i32) : runA.sl.r_4 arg1 T = tw T 5 := by
  unfold runA.sl.r_4; rw [View.readAt_rep]; exact congrArg T (funext fun a => Fin.ext (by match a with | ⟨0, _⟩ => rfl))
theorem twA6 (arg1 : Memref sig .tc .smem S16 .i32) (T : Vec F S16 .i32) : runA.sl.r_5 arg1 T = tw T 6 := by
  unfold runA.sl.r_5; rw [View.readAt_rep]; exact congrArg T (funext fun a => Fin.ext (by match a with | ⟨0, _⟩ => rfl))
theorem twA7 (arg1 : Memref sig .tc .smem S16 .i32) (T : Vec F S16 .i32) : runA.sl.r_6 arg1 T = tw T 7 := by
  unfold runA.sl.r_6; rw [View.readAt_rep]; exact congrArg T (funext fun a => Fin.ext (by match a with | ⟨0, _⟩ => rfl))
theorem twA8 (arg1 : Memref sig .tc .smem S16 .i32) (T : Vec F S16 .i32) : runA.sl.r_7 arg1 T = tw T 8 := by
  unfold runA.sl.r_7; rw [View.readAt_rep]; exact congrArg T (funext fun a => Fin.ext (by match a with | ⟨0, _⟩ => rfl))
theorem twA9 (arg1 : Memref sig .tc .smem S16 .i32) (T : Vec F S16 .i32) : runA.sl.r_8 arg1 T = tw T 9 := by
  unfold runA.sl.r_8; rw [View.readAt_rep]; exact congrArg T (funext fun a => Fin.ext (by match a with | ⟨0, _⟩ => rfl))
theorem twA10 (arg1 : Memref sig .tc .smem S16 .i32) (T : Vec F S16 .i32) : runA.sl.r_9 arg1 T = tw T 10 := by
  unfold runA.sl.r_9; rw [View.readAt_rep]; exact congrArg T (funext fun a => Fin.ext (by match a with | ⟨0, _⟩ => rfl))
theorem twA11 (arg1 : Memref sig .tc .smem S16 .i32) (T : Vec F S16 .i32) : runA.sl.r_10 arg1 T = tw T 11 := by
  unfold runA.sl.r_10; rw [View.readAt_rep]; exact congrArg T (funext fun a => Fin.ext (by match a with | ⟨0, _⟩ => rfl))
theorem twA12 (arg1 : Memref sig .tc .smem S16 .i32) (T : Vec F S16 .i32) : runA.sl.r_11 arg1 T = tw T 12 := by
  unfold runA.sl.r_11; rw [View.readAt_rep]; exact congrArg T (funext fun a => Fin.ext (by match a with | ⟨0, _⟩ => rfl))
theorem twB1 (arg1 : Memref sig .tc .smem S16 .i32) (T : Vec F S16 .i32) : runB.sl.r arg1 T = tw T 1 := by
  unfold runB.sl.r; rw [View.readAt_rep]; exact congrArg T (funext fun a => Fin.ext (by match a with | ⟨0, _⟩ => rfl))
theorem twB2 (arg1 : Memref sig .tc .smem S16 .i32) (T : Vec F S16 .i32) : runB.sl.r_1 arg1 T = tw T 2 := by
  unfold runB.sl.r_1; rw [View.readAt_rep]; exact congrArg T (funext fun a => Fin.ext (by match a with | ⟨0, _⟩ => rfl))
theorem twB3 (arg1 : Memref sig .tc .smem S16 .i32) (T : Vec F S16 .i32) : runB.sl.r_2 arg1 T = tw T 3 := by
  unfold runB.sl.r_2; rw [View.readAt_rep]; exact congrArg T (funext fun a => Fin.ext (by match a with | ⟨0, _⟩ => rfl))
theorem twB4 (arg1 : Memref sig .tc .smem S16 .i32) (T : Vec F S16 .i32) : runB.sl.r_3 arg1 T = tw T 4 := by
  unfold runB.sl.r_3; rw [View.readAt_rep]; exact congrArg T (funext fun a => Fin.ext (by match a with | ⟨0, _⟩ => rfl))
theorem twB5 (arg1 : Memref sig .tc .smem S16 .i32) (T : Vec F S16 .i32) : runB.sl.r_4 arg1 T = tw T 5 := by
  unfold runB.sl.r_4; rw [View.readAt_rep]; exact congrArg T (funext fun a => Fin.ext (by match a with | ⟨0, _⟩ => rfl))
theorem twB6 (arg1 : Memref sig .tc .smem S16 .i32) (T : Vec F S16 .i32) : runB.sl.r_5 arg1 T = tw T 6 := by
  unfold runB.sl.r_5; rw [View.readAt_rep]; exact congrArg T (funext fun a => Fin.ext (by match a with | ⟨0, _⟩ => rfl))
theorem twB7 (arg1 : Memref sig .tc .smem S16 .i32) (T : Vec F S16 .i32) : runB.sl.r_6 arg1 T = tw T 7 := by
  unfold runB.sl.r_6; rw [View.readAt_rep]; exact congrArg T (funext fun a => Fin.ext (by match a with | ⟨0, _⟩ => rfl))
theorem twB8 (arg1 : Memref sig .tc .smem S16 .i32) (T : Vec F S16 .i32) : runB.sl.r_7 arg1 T = tw T 8 := by
  unfold runB.sl.r_7; rw [View.readAt_rep]; exact congrArg T (funext fun a => Fin.ext (by match a with | ⟨0, _⟩ => rfl))
theorem twB9 (arg1 : Memref sig .tc .smem S16 .i32) (T : Vec F S16 .i32) : runB.sl.r_8 arg1 T = tw T 9 := by
  unfold runB.sl.r_8; rw [View.readAt_rep]; exact congrArg T (funext fun a => Fin.ext (by match a with | ⟨0, _⟩ => rfl))
theorem twB10 (arg1 : Memref sig .tc .smem S16 .i32) (T : Vec F S16 .i32) : runB.sl.r_9 arg1 T = tw T 10 := by
  unfold runB.sl.r_9; rw [View.readAt_rep]; exact congrArg T (funext fun a => Fin.ext (by match a with | ⟨0, _⟩ => rfl))
theorem twB11 (arg1 : Memref sig .tc .smem S16 .i32) (T : Vec F S16 .i32) : runB.sl.r_10 arg1 T = tw T 11 := by
  unfold runB.sl.r_10; rw [View.readAt_rep]; exact congrArg T (funext fun a => Fin.ext (by match a with | ⟨0, _⟩ => rfl))
theorem twB12 (arg1 : Memref sig .tc .smem S16 .i32) (T : Vec F S16 .i32) : runB.sl.r_11 arg1 T = tw T 12 := by
  unfold runB.sl.r_11; rw [View.readAt_rep]; exact congrArg T (funext fun a => Fin.ext (by match a with | ⟨0, _⟩ => rfl))

/-- The one store of a chunk, over contents that read `acc`, reads as `step` of `acc`. -/
theorem read_piece (g : BitVec 32) (T : Vec F S16 .i32) (x0 x1 : Vec F S1x16x40x128 .i32) (s0 s1 : Vec F S1x16x128 .i32) (acc : Vec F S13x160x160 .f32)
    (v : View sig .tc .vmem S13x160x160 .f32) (f : v.ty.Contents (Elt F)) (L : List (View.Piece (Elt F) S13x160x160 .f32))
    (w1 w2 w3 w4 w5 w6 w7 w8 w9 w10 w11 w12 : BitVec 32) (h1 : w1 = tw T 1) (h2 : w2 = tw T 2) (h3 : w3 = tw T 3) (h4 : w4 = tw T 4) (h5 : w5 = tw T 5) (h6 : w6 = tw T 6) (h7 : w7 = tw T 7) (h8 : w8 = tw T 8) (h9 : w9 = tw T 9) (h10 : w10 = tw T 10) (h11 : w11 = tw T 11) (h12 : w12 = tw T 12)
    (zi zo : FVec F S160x2048 .bf16) (hzi : zi = zOf x0 s0) (hzo : zo = zOf x1 s1)
    (h : ∀ a, k0_off1 g w1 w2 w3 w4 w5 w6 w7 w8 w9 w10 w11 w12 a + S1x160x160.size a ≤ S13x160x160.size a)
    (hacc : v.read (Elt F) (v.writes (Elt F) f L) = acc)
    (row : Vec F S1x160x160 .f32) (hrow : row = rowOf acc (k0_off1 g w1 w2 w3 w4 w5 w6 w7 w8 w9 w10 w11 w12) h) :
    v.read (Elt F) (v.writes (Elt F) f (⟨Rect.unit (s := S13x160x160) (k0_off1 g w1 w2 w3 w4 w5 w6 w7 w8 w9 w10 w11 w12) S1x160x160.size h, k0_pay1 zi zo row⟩ :: L)) = step g T x0 x1 s0 s1 acc := by
  subst h1 h2 h3 h4 h5 h6 h7 h8 h9 h10 h11 h12 hzi hzo hrow hacc
  funext y
  rw [View.read_writes_cons_unit v f h _ L y rfl]
  rfl

set_option maxHeartbeats 4000000 in
/-- A later chunk leaves `step` of what the accumulator held. -/
theorem readB (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32) (xo : Vec F S13x160x160 .f32)
    (hc0 : ¬((Scalar.cmpi .ne (Scalar.extui (Scalar.cmpi .eq arg0 0#32)) 0#32) = 1#1)) :
    arg6.view.read (Elt F) (arg6.view.writes (Elt F) (harg6.unread xo) (runB c b i arg0 arg1 harg1 arg2 harg2 arg3 harg3 arg4 harg4 arg5 harg5 arg6 harg6 T x0 x1 s0 s1 xo hc0).1) = step arg0 T x0 x1 s0 s1 xo :=
  read_piece arg0 T x0 x1 s0 s1 xo arg6.view (harg6.unread xo) [] _ _ _ _ _ _ _ _ _ _ _ _ (twB1 _ _) (twB2 _ _) (twB3 _ _) (twB4 _ _) (twB5 _ _) (twB6 _ _) (twB7 _ _) (twB8 _ _) (twB9 _ _) (twB10 _ _) (twB11 _ _) (twB12 _ _)
    _ _ (zinB arg2 arg4 x0 s0) (zoutB arg3 arg5 x1 s1) (chk_all _ _ _ _ _ _ _ _ _ _ _ _ _) (harg6.read_unread xo) _ (by
      funext z; exact harg6.readAt_unread xo _ z)

theorem read_zero (v : View sig .tc .vmem S13x160x160 .f32) (f : v.ty.Contents (Elt F)) :
    v.read (Elt F) (v.writes (Elt F) f runA.sl.HO_1) = k0_pay2 := by
  funext y
  unfold runA.sl.HO_1
  rw [View.read_writes_cons_unit v f _ _ [] y rfl, dif_pos (fun a => ⟨by fin_cases a <;> exact Nat.zero_le _, by
    have := (y a).isLt; fin_cases a <;> exact lt_of_lt_of_eq (y _).isLt (Nat.zero_add _).symm⟩)]
  rfl

set_option maxHeartbeats 4000000 in
/-- The first chunk leaves `step` of zero. -/
theorem readA (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32)
    (hc0 : (Scalar.cmpi .ne (Scalar.extui (Scalar.cmpi .eq arg0 0#32)) 0#32) = 1#1) :
    arg6.view.read (Elt F) (arg6.view.writes (Elt F) arg6.view.junk (runA c b i arg0 arg1 harg1 arg2 harg2 arg3 harg3 arg4 harg4 arg5 harg5 arg6 harg6 T x0 x1 s0 s1 hc0).1) = step arg0 T x0 x1 s0 s1 k0_pay2 :=
  read_piece arg0 T x0 x1 s0 s1 k0_pay2 arg6.view arg6.view.junk runA.sl.HO_1 _ _ _ _ _ _ _ _ _ _ _ _ (twA1 _ _) (twA2 _ _) (twA3 _ _) (twA4 _ _) (twA5 _ _) (twA6 _ _) (twA7 _ _) (twA8 _ _) (twA9 _ _) (twA10 _ _) (twA11 _ _) (twA12 _ _)
    _ _ (zinA arg2 arg4 x0 s0) (zoutA arg3 arg5 x1 s1) (chk_all _ _ _ _ _ _ _ _ _ _ _ _ _) (read_zero arg6.view _) _ (by
      funext z; exact congrFun (read_zero arg6.view _) _)

end Cert.Kernel1.Val
-- ==== Proof.SecondSched.lean ====
module

public import proofs.«01_k».proof.Proof.SecondBody
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Affine

@[expose] public section

set_option maxRecDepth 16384
set_option Elab.async false

noncomputable section

namespace Cert.Kernel1.Val

open Cert.Kernel1 Cert.Kernel1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The grid the tables give, and the side condition on them -/

variable (pf : pre0.Contents (Elt F))

/-- The number of chunks the tables name. -/
def nOf (pf : pre0.Contents (Elt F)) : ℕ := (pf 0 fun a => a.elim0).toNat

/-- What the precondition gives of the tables: between one and 637 chunks. -/
def Bounded (pf : pre0.Contents (Elt F)) : Prop := 1 ≤ nOf pf ∧ nOf pf ≤ 637

theorem coord_lt (hb : Bounded pf) (i : (grid0.at (dynb0 pf)).Coords) : (i 0).val < 637 := by
  have h : (i 0).val < grid0.boundAt (dynb0 pf) 0 := (i 0).isLt
  have h2 : grid0.boundAt (dynb0 pf) 0 = nOf pf := rfl
  rw [h2] at h
  exact lt_of_lt_of_le h hb.2

theorem N_eq : (grid0.at (dynb0 pf)).N = nOf pf := by
  show (List.ofFn fun a : Fin 1 => grid0.boundAt (dynb0 pf) a).prod = nOf pf
  rw [List.ofFn_succ, List.ofFn_zero, List.prod_cons, List.prod_nil, mul_one]
  rfl

theorem admits (hb : Bounded pf) : grid0.Admits (dynb0 pf) := by
  unfold Pipeline.Grid.Admits
  rw [N_eq]
  have := hb.2
  omega

theorem inb0 (hb : Bounded pf) (i : (grid0.at (dynb0 pf)).Coords) : ∀ a, (cc0_transform_0 (dynb0 pf) i a + 1) * S1x16x40x128.size a ≤ S2x10192x40x128.size a := by
  have hi := coord_lt pf hb i
  have hs : Affine.IsInt 0#32 (0) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_cons h0 (by omega) <| Affine.blk_nil

theorem inb1 (hb : Bounded pf) (i : (grid0.at (dynb0 pf)).Coords) : ∀ a, (cc0_transform_1 (dynb0 pf) i a + 1) * S1x16x40x128.size a ≤ S2x10192x40x128.size a := by
  have hi := coord_lt pf hb i
  have hs : Affine.IsInt 1#32 (1) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_cons h0 (by omega) <| Affine.blk_nil

theorem inb2 (hb : Bounded pf) (i : (grid0.at (dynb0 pf)).Coords) : ∀ a, (cc0_transform_2 (dynb0 pf) i a + 1) * S1x16x128.size a ≤ S2x10192x128.size a := by
  have hi := coord_lt pf hb i
  have hs : Affine.IsInt 0#32 (0) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_nil

theorem inb3 (hb : Bounded pf) (i : (grid0.at (dynb0 pf)).Coords) : ∀ a, (cc0_transform_3 (dynb0 pf) i a + 1) * S1x16x128.size a ≤ S2x10192x128.size a := by
  have hi := coord_lt pf hb i
  have hs : Affine.IsInt 1#32 (1) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_nil

theorem inb4 (i : (grid0.at (dynb0 pf)).Coords) : ∀ a, (cc0_transform_4 (dynb0 pf) i a + 1) * S13x160x160.size a ≤ S13x160x160.size a := by
  have h0 : Affine.IsInt 0#32 (0) := Affine.ofNat _ (by omega)
  exact Affine.blk_cons h0 (by omega) <| Affine.blk_cons h0 (by omega) <| Affine.blk_cons h0 (by omega) <| Affine.blk_nil

/-- Tables naming between one and 637 chunks meet the side condition. -/
theorem ok_of_bounded (hb : Bounded pf) : ok0 pf :=
  ⟨admits pf hb, fun i => ⟨inb0 pf hb i, .inl rfl⟩, fun i => ⟨inb1 pf hb i, .inl rfl⟩, fun i => ⟨inb2 pf hb i, .inl rfl⟩,
    fun i => ⟨inb3 pf hb i, .inl rfl⟩, fun i => ⟨inb4 pf i, .inl rfl⟩⟩

variable (hb : Bounded pf)

/-- The tables as admissible contents, and the pipeline at them. -/
def adm : (pcfg0 (F := F)).Adm := ⟨pf, ok_of_bounded pf hb⟩
abbrev cfgA : Pipeline.Cfg sig Λ₀ := cfg0 (F := F) (adm pf hb)
abbrev pcs : Fin 1 → Pipeline.Cfg sig Λ₀ := Pipeline.pin (pcfgs (F := F)) fun _ => adm pf hb

theorem NA_eq : (cfgA pf hb).N = nOf pf := N_eq pf

/-! ## A point's words and staging memrefs -/

abbrev crd (t : Fin (cfgA pf hb).N) : (cfgA pf hb).grid.Coords := (cfgA pf hb).grid.coords t
abbrev iS (t : Fin (cfgA pf hb).N) : grid0.Static := Pipeline.Grid.Coords.static grid0 (crd pf hb t)
abbrev gw (t : Fin (cfgA pf hb).N) : BitVec 32 := BitVec.ofNat 32 ((crd pf hb t) 0).val

theorem crd_val (t : Fin (cfgA pf hb).N) : ((crd pf hb t) 0).val = t.val := by
  have hN := NA_eq pf hb
  have ht := t.isLt
  have h1 : ((crd pf hb t) 0).val = t.val / (grid0.at (dynb0 pf)).stride 0 % nOf pf := rfl
  have h2 : (grid0.at (dynb0 pf)).stride 0 = 1 := by
    show (List.ofFn fun b : Fin 1 => if (0 : Fin 1) < b then grid0.boundAt (dynb0 pf) b else 1).prod = 1
    rw [List.ofFn_succ, List.ofFn_zero, List.prod_cons, List.prod_nil, mul_one]
    rfl
  rw [h1, h2, Nat.div_one, Nat.mod_eq_of_lt (by omega)]

theorem gw_eq (t : Fin (cfgA pf hb).N) : gw pf hb t = BitVec.ofNat 32 t.val := by
  show BitVec.ofNat 32 ((crd pf hb t) 0).val = _
  rw [crd_val]

abbrev ms0 (t : Fin (cfgA pf hb).N) : Memref sig .tc .vmem S1x16x40x128 .i32 := spec0_0.stage ((cfgA pf hb).slots t (0 : Fin 5))
abbrev hs0 (t : Fin (cfgA pf hb).N) : (ms0 pf hb t).IsWhole := hstage0_0 (((cfgA pf hb).slots t (0 : Fin 5)).cast nbuf0_0)

abbrev ms1 (t : Fin (cfgA pf hb).N) : Memref sig .tc .vmem S1x16x40x128 .i32 := spec0_1.stage ((cfgA pf hb).slots t (1 : Fin 5))
abbrev hs1 (t : Fin (cfgA pf hb).N) : (ms1 pf hb t).IsWhole := hstage0_1 (((cfgA pf hb).slots t (1 : Fin 5)).cast nbuf0_1)

abbrev ms2 (t : Fin (cfgA pf hb).N) : Memref sig .tc .vmem S1x16x128 .i32 := spec0_2.stage ((cfgA pf hb).slots t (2 : Fin 5))
abbrev hs2 (t : Fin (cfgA pf hb).N) : (ms2 pf hb t).IsWhole := hstage0_2 (((cfgA pf hb).slots t (2 : Fin 5)).cast nbuf0_2)

abbrev ms3 (t : Fin (cfgA pf hb).N) : Memref sig .tc .vmem S1x16x128 .i32 := spec0_3.stage ((cfgA pf hb).slots t (3 : Fin 5))
abbrev hs3 (t : Fin (cfgA pf hb).N) : (ms3 pf hb t).IsWhole := hstage0_3 (((cfgA pf hb).slots t (3 : Fin 5)).cast nbuf0_3)

abbrev ms4 (t : Fin (cfgA pf hb).N) : Memref sig .tc .vmem S13x160x160 .f32 := spec0_4.stage ((cfgA pf hb).slots t (4 : Fin 5))
abbrev hs4 (t : Fin (cfgA pf hb).N) : (ms4 pf hb t).IsWhole := hstage0_4 (((cfgA pf hb).slots t (4 : Fin 5)).cast nbuf0_4)

/-! ## The output's schedule: one block, stored into at every point, written back after the last -/

theorem idx4 (t t' : Fin (cfgA pf hb).N) : ((cfgA pf hb).win (4 : Fin 5)).index t = ((cfgA pf hb).win (4 : Fin 5)).index t' := rfl

theorem flush4 (t : Fin (cfgA pf hb).N) : ((cfgA pf hb).win (4 : Fin 5)).flush t = decide (t.val + 1 = nOf pf) := by
  have hN : (cfgA pf hb).grid.N = nOf pf := NA_eq pf hb
  rw [Pipeline.Window.flush, show ((cfgA pf hb).win (4 : Fin 5)).isOut = true from rfl, Bool.true_and]
  rw [decide_eq_false (fun ⟨h, hne⟩ => hne (idx4 pf hb _ _) : ¬∃ h : t.val + 1 < (cfgA pf hb).grid.N, ((cfgA pf hb).win (4 : Fin 5)).index ⟨t.val + 1, h⟩ ≠ ((cfgA pf hb).win (4 : Fin 5)).index t), Bool.or_false]
  exact decide_eq_decide.mpr (by rw [← hN])

theorem idle4 (i : (cfgA pf hb).grid.Coords) : (cfgA pf hb).idle (4 : Fin 5) i = false := rfl

theorem fresh4 (t : Fin (cfgA pf hb).N) : (cfgA pf hb).fresh (4 : Fin 5) t.val = decide (t.val = 0) := by
  obtain ⟨n, hn⟩ := t
  cases n with
  | zero => rfl
  | succ n =>
    have hN : (cfgA pf hb).N = nOf pf := NA_eq pf hb
    show (cfgA pf hb).fresh (4 : Fin 5) (n + 1) = _
    rw [Pipeline.Cfg.fresh_succ (cfgA pf hb) (4 : Fin 5) n (Nat.lt_of_succ_lt hn), flush4, idle4, Bool.false_and, Bool.or_false]
    rw [decide_eq_false (by have := hn; simp only; omega), decide_eq_false (by simp)]

/-- The first point is the one whose word is zero. -/
theorem first_iff (t : Fin (cfgA pf hb).N) :
    (Scalar.cmpi .ne (Scalar.extui (Scalar.cmpi .eq (gw pf hb t) 0#32)) 0#32) = 1#1 ↔ t.val = 0 := by
  rw [gw_eq]
  have hN : (cfgA pf hb).N = nOf pf := NA_eq pf hb
  have ht := t.isLt
  have h2 := hb.2
  have key : ∀ w : BitVec 32, (Scalar.cmpi .ne (Scalar.extui (Scalar.cmpi .eq w 0#32)) 0#32) = 1#1 ↔ w = 0#32 := by
    intro w
    by_cases h : w = 0#32
    · subst h; exact ⟨fun _ => rfl, fun _ => by decide⟩
    · have hw : Scalar.cmpi .eq w 0#32 = 0#1 := by
        show BitVec.ofBool (w == 0#32) = 0#1
        rw [show (w == 0#32) = false from beq_eq_false_iff_ne.mpr h]; rfl
      rw [hw]
      exact ⟨fun h' => absurd h' (by decide), fun h' => absurd h' h⟩
  rw [key]
  constructor
  · intro h
    have := congrArg BitVec.toNat h
    rw [BitVec.toNat_ofNat, Nat.mod_eq_of_lt (by omega)] at this
    exact this
  · intro h; rw [h]

end Cert.Kernel1.Val

end
-- ==== Proof.SecondFlow.lean ====
module

public import proofs.«01_k».proof.Proof.SecondSched

@[expose] public section

set_option maxRecDepth 16384
set_option Elab.async false

noncomputable section

namespace Cert.Kernel1.Val

open Cert.Kernel1 Cert.Kernel1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) 𝕄 := emb₁

/-! ## The accumulator after a number of chunks -/

/-- One chunk's packed words out of one side of the packed array. -/
def blkX (side : Fin 2) (X : Vec F S2x10192x40x128 .i32) (n : ℕ) : Vec F S1x16x40x128 .i32 :=
  fun y => X (ix4 side ⟨(16 * n + (y 1).val) % 10192, Nat.mod_lt _ (by omega)⟩ (y 2) (y 3))

/-- One chunk's scale words out of one side of the scale array. -/
def blkS (side : Fin 2) (S : Vec F S2x10192x128 .i32) (n : ℕ) : Vec F S1x16x128 .i32 :=
  fun y => S (ix3 side ⟨(16 * n + (y 1).val) % 10192, Nat.mod_lt _ (by omega)⟩ (y 2))

/-- The accumulator after the first `n` chunks. -/
def accN (T : Vec F S16 .i32) (X : Vec F S2x10192x40x128 .i32) (S : Vec F S2x10192x128 .i32) : ℕ → Vec F S13x160x160 .f32
  | 0 => k0_pay2
  | n + 1 => step (BitVec.ofNat 32 n) T (blkX 0 X n) (blkX 1 X n) (blkS 0 S n) (blkS 1 S n) (accN T X S n)

variable (m : (ℓ : Loc nD τ sig) → Buf (Elt F) ℓ) (ρ : Dev nD → PrngReg)

/-- The buffers when the region begins: after the host operations. -/
def V (c : Dev nD) (b : Ref sig .tc) : Buf (Elt F) ((c.tc : Thread nD τ).loc b) := StableHlo.after hostOps0 (fun b => m (c, b)) b

/-- The tables the region is handed. -/
def tabs : pre0.Contents (Elt F) := fun k => V m 0 (pre0.ref k)

variable (hb : Bounded (tabs m))

/-- A window's block at a point, read off its array. -/
def iblk (c : Dev nD) (w : Fin (cfgA (tabs m) hb).W) (t : Fin (cfgA (tabs m) hb).N) :
    (((cfgA (tabs m) hb).win w).xblock (crd (tabs m) hb t)).Idx → Elt F ((cfgA (tabs m) hb).win w).elt :=
  (((cfgA (tabs m) hb).win w).blk t).view.read (Elt F) (V m c (Pipeline.arrRef spec0 w))

/-- The output after a point. -/
def outAt (c : Dev nD) (n : ℕ) : Vec F S13x160x160 .f32 :=
  accN (tabs m 1) (V m c main_arg0) (V m c main_arg1) n

/-- The proof data of the one pipeline. -/
def dats (_ : Fin 1) (c : Dev nD) : Dat τ (Elt F) Unit ℕ (UR sig nD τ) ℕ (cfgA (tabs m) hb) c where
  A w := V m c (Pipeline.arrRef spec0 w)
  after w t := match w with
    | ⟨0, _⟩ => iblk m hb c (0 : Fin 5) t
    | ⟨1, _⟩ => iblk m hb c (1 : Fin 5) t
    | ⟨2, _⟩ => iblk m hb c (2 : Fin 5) t
    | ⟨3, _⟩ => iblk m hb c (3 : Fin 5) t
    | ⟨4, _⟩ => outAt m c (t.val + 1)
  Φ _ := owns (c : Thread nD τ) (Memref.whole main_v0) fullShare.right (tabs m 1)
  q w := Pipeline.shareOf spec0 w
  owed _ := 0

theorem after0 (c : Dev nD) (t : Fin (cfgA (tabs m) hb).N) : (dats m hb 0 c).after (0 : Fin 5) t = iblk m hb c (0 : Fin 5) t := rfl
theorem before0 (c : Dev nD) (t : Fin (cfgA (tabs m) hb).N) (d) : (dats m hb 0 c).before (0 : Fin 5) t d = iblk m hb c (0 : Fin 5) t :=
  ((dats m hb 0 c).before_in_eq_fetched (0 : Fin 5) rfl (fun _ => rfl) (fun _ _ _ => rfl) (fun t => by rw [after0]; unfold Dat.blockOf iblk; rfl) t d).trans
    (by unfold Dat.fetched Dat.blockOf iblk; rfl)

theorem after1 (c : Dev nD) (t : Fin (cfgA (tabs m) hb).N) : (dats m hb 0 c).after (1 : Fin 5) t = iblk m hb c (1 : Fin 5) t := rfl
theorem before1 (c : Dev nD) (t : Fin (cfgA (tabs m) hb).N) (d) : (dats m hb 0 c).before (1 : Fin 5) t d = iblk m hb c (1 : Fin 5) t :=
  ((dats m hb 0 c).before_in_eq_fetched (1 : Fin 5) rfl (fun _ => rfl) (fun _ _ _ => rfl) (fun t => by rw [after1]; unfold Dat.blockOf iblk; rfl) t d).trans
    (by unfold Dat.fetched Dat.blockOf iblk; rfl)

theorem after2 (c : Dev nD) (t : Fin (cfgA (tabs m) hb).N) : (dats m hb 0 c).after (2 : Fin 5) t = iblk m hb c (2 : Fin 5) t := rfl
theorem before2 (c : Dev nD) (t : Fin (cfgA (tabs m) hb).N) (d) : (dats m hb 0 c).before (2 : Fin 5) t d = iblk m hb c (2 : Fin 5) t :=
  ((dats m hb 0 c).before_in_eq_fetched (2 : Fin 5) rfl (fun _ => rfl) (fun _ _ _ => rfl) (fun t => by rw [after2]; unfold Dat.blockOf iblk; rfl) t d).trans
    (by unfold Dat.fetched Dat.blockOf iblk; rfl)

theorem after3 (c : Dev nD) (t : Fin (cfgA (tabs m) hb).N) : (dats m hb 0 c).after (3 : Fin 5) t = iblk m hb c (3 : Fin 5) t := rfl
theorem before3 (c : Dev nD) (t : Fin (cfgA (tabs m) hb).N) (d) : (dats m hb 0 c).before (3 : Fin 5) t d = iblk m hb c (3 : Fin 5) t :=
  ((dats m hb 0 c).before_in_eq_fetched (3 : Fin 5) rfl (fun _ => rfl) (fun _ _ _ => rfl) (fun t => by rw [after3]; unfold Dat.blockOf iblk; rfl) t d).trans
    (by unfold Dat.fetched Dat.blockOf iblk; rfl)

theorem iblk0_eq (c : Dev nD) (t : Fin (cfgA (tabs m) hb).N) : (iblk m hb c (0 : Fin 5) t : Vec F S1x16x40x128 .i32) = blkX 0 (V m c main_arg0) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg0 _ = V m c main_arg0 _
  refine congrArg (V m c main_arg0) (funext fun a => Fin.ext ?_)
  match a with
  | ⟨0, _⟩ =>
    show (BitVec.ofNat 32 0).toNat * 1 + 1 * (y 0).val = 0
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 40 + 1 * (y 2).val = (y 2).val
    rw [BitVec.toNat_ofNat]; omega
  | ⟨3, _⟩ =>
    show (BitVec.ofNat 32 0).toNat * 128 + 1 * (y 3).val = (y 3).val
    rw [BitVec.toNat_ofNat]; omega

theorem iblk1_eq (c : Dev nD) (t : Fin (cfgA (tabs m) hb).N) : (iblk m hb c (1 : Fin 5) t : Vec F S1x16x40x128 .i32) = blkX 1 (V m c main_arg0) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg0 _ = V m c main_arg0 _
  refine congrArg (V m c main_arg0) (funext fun a => Fin.ext ?_)
  match a with
  | ⟨0, _⟩ =>
    show (BitVec.ofNat 32 1).toNat * 1 + 1 * (y 0).val = 1
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 40 + 1 * (y 2).val = (y 2).val
    rw [BitVec.toNat_ofNat]; omega
  | ⟨3, _⟩ =>
    show (BitVec.ofNat 32 0).toNat * 128 + 1 * (y 3).val = (y 3).val
    rw [BitVec.toNat_ofNat]; omega

theorem iblk2_eq (c : Dev nD) (t : Fin (cfgA (tabs m) hb).N) : (iblk m hb c (2 : Fin 5) t : Vec F S1x16x128 .i32) = blkS 0 (V m c main_arg1) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg1 _ = V m c main_arg1 _
  refine congrArg (V m c main_arg1) (funext fun a => Fin.ext ?_)
  match a with
  | ⟨0, _⟩ =>
    show (BitVec.ofNat 32 0).toNat * 1 + 1 * (y 0).val = 0
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 128 + 1 * (y 2).val = (y 2).val
    rw [BitVec.toNat_ofNat]; omega

theorem iblk3_eq (c : Dev nD) (t : Fin (cfgA (tabs m) hb).N) : (iblk m hb c (3 : Fin 5) t : Vec F S1x16x128 .i32) = blkS 1 (V m c main_arg1) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg1 _ = V m c main_arg1 _
  refine congrArg (V m c main_arg1) (funext fun a => Fin.ext ?_)
  match a with
  | ⟨0, _⟩ =>
    show (BitVec.ofNat 32 1).toNat * 1 + 1 * (y 0).val = 1
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 128 + 1 * (y 2).val = (y 2).val
    rw [BitVec.toNat_ofNat]; omega

theorem after4 (c : Dev nD) (t : Fin (cfgA (tabs m) hb).N) : (dats m hb 0 c).after (4 : Fin 5) t = outAt m c (t.val + 1) := rfl

theorem before4 (c : Dev nD) (t : Fin (cfgA (tabs m) hb).N) (d) :
    (dats m hb 0 c).before (4 : Fin 5) t d = if t.val = 0 then d else outAt m c t.val := by
  rw [(dats m hb 0 c).before_out_traj (4 : Fin 5) rfl (fun _ _ => rfl) (fun t _ hi _ => absurd hi (by rw [idle4]; decide)) t.val t rfl d, fresh4]
  by_cases h0 : t.val = 0
  · rw [if_pos h0, if_pos (decide_eq_true h0)]
  · rw [if_neg h0, if_neg (by rw [decide_eq_false h0]; decide), after4]
    exact congrArg (outAt m c) (by show t.val - 1 + 1 = t.val; omega)

theorem outAt_succ (c : Dev nD) (t : Fin (cfgA (tabs m) hb).N) :
    outAt m c (t.val + 1) = step (gw (tabs m) hb t) (tabs m 1) (iblk m hb c (0 : Fin 5) t) (iblk m hb c (1 : Fin 5) t) (iblk m hb c (2 : Fin 5) t) (iblk m hb c (3 : Fin 5) t) (outAt m c t.val) := by
  rw [gw_eq, iblk0_eq, iblk1_eq, iblk2_eq, iblk3_eq]; rfl

/-! ## The body obligation -/

/-- The body at a point on its staging memrefs, as the pipeline calls it. -/
abbrev bodyAt0 (t : Fin (cfgA (tabs m) hb).N) : Prog (TpuEff nD τ sig (Elt F) Λ₀ .tc) PUnit :=
  cc0_pair_matmul1 (dynb0 (tabs m)) (iS (tabs m) hb t) (gw (tabs m) hb t) (Memref.whole main_v0) (Memref.isWhole_whole _) (ms0 (tabs m) hb t) (hs0 (tabs m) hb t) (ms1 (tabs m) hb t) (hs1 (tabs m) hb t)
    (ms2 (tabs m) hb t) (hs2 (tabs m) hb t) (ms3 (tabs m) hb t) (hs3 (tabs m) hb t) (ms4 (tabs m) hb t) (hs4 (tabs m) hb t)

set_option maxHeartbeats 4000000 in
/-- The body at a point: the input blocks stay, the output becomes the accumulator after one more chunk. -/
theorem sound_body (c : Dev nD) (t : Fin (cfgA (tabs m) hb).N) :
    iprop((dats m hb 0 c).Φ t.castSucc ∗ (dats m hb 0 c).owesAt () t.castSucc
        ∗ (∃ d, owns (c : Thread nD τ) (ms0 (tabs m) hb t) fullShare ((dats m hb 0 c).before (0 : Fin 5) t d))
        ∗ (∃ d, owns (c : Thread nD τ) (ms1 (tabs m) hb t) fullShare ((dats m hb 0 c).before (1 : Fin 5) t d))
        ∗ (∃ d, owns (c : Thread nD τ) (ms2 (tabs m) hb t) fullShare ((dats m hb 0 c).before (2 : Fin 5) t d))
        ∗ (∃ d, owns (c : Thread nD τ) (ms3 (tabs m) hb t) fullShare ((dats m hb 0 c).before (3 : Fin 5) t d))
        ∗ (∃ d, owns (c : Thread nD τ) (ms4 (tabs m) hb t) fullShare ((dats m hb 0 c).before (4 : Fin 5) t d)))
      ⊢ wp frame (wpE (defs₀ (F := F)) Variants.none c none) Set.univ (bodyAt0 m hb t) fun _ =>
          iprop((dats m hb 0 c).Φ t.succ ∗ (dats m hb 0 c).owesAt () t.succ
            ∗ owns (c : Thread nD τ) (ms0 (tabs m) hb t) fullShare ((dats m hb 0 c).after (0 : Fin 5) t)
            ∗ owns (c : Thread nD τ) (ms1 (tabs m) hb t) fullShare ((dats m hb 0 c).after (1 : Fin 5) t)
            ∗ owns (c : Thread nD τ) (ms2 (tabs m) hb t) fullShare ((dats m hb 0 c).after (2 : Fin 5) t)
            ∗ owns (c : Thread nD τ) (ms3 (tabs m) hb t) fullShare ((dats m hb 0 c).after (3 : Fin 5) t)
            ∗ owns (c : Thread nD τ) (ms4 (tabs m) hb t) fullShare ((dats m hb 0 c).after (4 : Fin 5) t)) := by
  simp only [before0, before1, before2, before3, before4, after0, after1, after2, after3, after4]
  rewrite [show (dats m hb 0 c).Φ t.succ = owns (c : Thread nD τ) (Memref.whole main_v0) fullShare.right (tabs m 1) from rfl,
    show (dats m hb 0 c).Φ t.castSucc = owns (c : Thread nD τ) (Memref.whole main_v0) fullShare.right (tabs m 1) from rfl,
    show (dats m hb 0 c).owesAt () t.succ = (dats m hb 0 c).owesAt () t.castSucc from rfl]
  by_cases h0 : t.val = 0
  · have hc0 := (first_iff (tabs m) hb t).mpr h0
    simp only [h0, ↓reduceIte]
    rewrite [show outAt m c (0 + 1) = step (gw (tabs m) hb t) (tabs m 1) (iblk m hb c (0 : Fin 5) t) (iblk m hb c (1 : Fin 5) t) (iblk m hb c (2 : Fin 5) t) (iblk m hb c (3 : Fin 5) t) k0_pay2 from by
      have h := outAt_succ m hb c t; rw [h0] at h; exact h]
    iintro ⟨HT, Ho, ⟨%d0, H0⟩, ⟨%d1, H1⟩, ⟨%d2, H2⟩, ⟨%d3, H3⟩, ⟨%d4, H4⟩⟩
    iapply ((runA c (dynb0 (tabs m)) (iS (tabs m) hb t) (gw (tabs m) hb t) (Memref.whole main_v0) (Memref.isWhole_whole _) (ms0 (tabs m) hb t) (hs0 (tabs m) hb t) (ms1 (tabs m) hb t) (hs1 (tabs m) hb t)
      (ms2 (tabs m) hb t) (hs2 (tabs m) hb t) (ms3 (tabs m) hb t) (hs3 (tabs m) hb t) (ms4 (tabs m) hb t) (hs4 (tabs m) hb t)
      (tabs m 1) (iblk m hb c (0 : Fin 5) t) (iblk m hb c (1 : Fin 5) t) (iblk m hb c (2 : Fin 5) t) (iblk m hb c (3 : Fin 5) t) hc0).2 _)
    isplitl [HT]; · iapply rep_of_owns; iexact HT
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iexists _; iexact H4
    iintro ⟨HT, H0, H1, H2, H3, H4⟩
    isplitl [HT]; · iapply owns_of_rep; iexact HT
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact readA c _ _ _ _ _ _ _ _ _ _ _ _ _ _ _ _ _ _ _ _ hc0
  · have hc0 : ¬_ := fun h => h0 ((first_iff (tabs m) hb t).mp h)
    simp only [h0, ↓reduceIte]
    rewrite [outAt_succ m hb c t]
    iintro ⟨HT, Ho, ⟨%d0, H0⟩, ⟨%d1, H1⟩, ⟨%d2, H2⟩, ⟨%d3, H3⟩, ⟨%d4, H4⟩⟩
    iapply ((runB c (dynb0 (tabs m)) (iS (tabs m) hb t) (gw (tabs m) hb t) (Memref.whole main_v0) (Memref.isWhole_whole _) (ms0 (tabs m) hb t) (hs0 (tabs m) hb t) (ms1 (tabs m) hb t) (hs1 (tabs m) hb t)
      (ms2 (tabs m) hb t) (hs2 (tabs m) hb t) (ms3 (tabs m) hb t) (hs3 (tabs m) hb t) (ms4 (tabs m) hb t) (hs4 (tabs m) hb t)
      (tabs m 1) (iblk m hb c (0 : Fin 5) t) (iblk m hb c (1 : Fin 5) t) (iblk m hb c (2 : Fin 5) t) (iblk m hb c (3 : Fin 5) t) (outAt m c t.val) hc0).2 _)
    isplitl [HT]; · iapply rep_of_owns; iexact HT
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iexact H4
    iintro ⟨HT, H0, H1, H2, H3, H4⟩
    isplitl [HT]; · iapply owns_of_rep; iexact HT
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact readB c _ _ _ _ _ _ _ _ _ _ _ _ _ _ _ _ _ _ _ _ _ hc0

set_option maxHeartbeats 1000000 in
/-- The library's body obligation, at every point. -/
theorem body_obligation (c : Dev nD) : BodyObligation (dats m hb 0 c) (defs₀ (F := F)) Variants.none () Set.univ := fun t => by
  rw [bigSep_W0, bigSep_W0]
  exact sound_body m hb c t

/-! ## The launch -/

/-- The rounds library's launch element. -/
def u₀ : UR sig nD τ :=
  initOf (Pipeline.cells (pcs (tabs m) hb) (cellOf_inj (F := F) fun _ => adm (tabs m) hb))
    (Pipeline.launchToks (pcs (tabs m) hb) (cellOf_inj (F := F) fun _ => adm (tabs m) hb))

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v2) ↦{q 0} v 0) ∗ (((c : Thread nD τ).loc main_v0) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm (tabs m) hb).1 ∗ Pipeline.scopedRest spec0 c) ⊢ (dats m hb 0 c).Φ 0 := by
  rw [prefHeld_eq, scopedRest0_eq, show (dats m hb 0 c).Φ 0 = owns (c : Thread nD τ) (Memref.whole main_v0) fullShare.right (tabs m 1) from rfl]
  have h : (iprop(BI.emp ∗ ((((c : Thread nD τ).loc main_v2) ↦{fullShare.right} (adm (tabs m) hb).1 0) ∗ (((c : Thread nD τ).loc main_v0) ↦{fullShare.right} (adm (tabs m) hb).1 1)) ∗ BI.emp) : sProp 𝕄)
      ⊢ (((c : Thread nD τ).loc main_v0) ↦{fullShare.right} tabs m 1) := by
    iintro ⟨-, ⟨-, HT1⟩, -⟩
    iexact HT1
  rw [← owns_whole (c : Thread nD τ) main_v0 fullShare.right (tabs m 1)] at h
  exact h

theorem phiN_exit (c : Dev nD) : (dats m hb 0 c).Φ (Fin.last (cfgA (tabs m) hb).N) ⊢ iprop(BI.emp ∗ Pipeline.scopedRest spec0 c) := by
  rw [scopedRest0_eq]
  iintro -
  isplitr; · iempintro
  iempintro

/-- The physical post: every array at what the library computes, the chunk bounds unchanged. -/
def QC : PUnit × MemSt nD τ sig (Elt F) → Prop := fun r =>
  ∀ c : Dev nD, (∀ w : Fin (cfgA (tabs m) hb).W, r.2.mem (((cfgA (tabs m) hb).win w).arr.view.loc (c : Thread nD τ)) = (dats m hb 0 c).arrAt w (cfgA (tabs m) hb).N)
    ∧ r.2.mem ((c : Thread nD τ).loc main_arg2) = V m c main_arg2

theorem V_pre (c : Dev nD) (j : Fin 2) : V m c (pre0.ref j) = (adm (tabs m) hb).1 j := by
  obtain rfl : c = 0 := Subsingleton.elim _ _
  rfl

set_option backward.isDefEq.respectTransparency.types false in
set_option maxHeartbeats 4000000 in
/-- Every weakly fair run terminates with each array at the computed contents and every semaphore at zero. -/
theorem run_main_quiescent : θ_run (defs (F := F)) (onTc (τ := τ) (main (F := F))) ⟨m, fun _ => 0, ρ⟩ (fun r => QC m hb r ∧ r.2.sem = fun _ => 0) :=
  Pipeline.θ_run_region_noSem_pf_quiescent pcfgs (fun _ => adm (tabs m) hb) (dats m hb) () (cellOf_inj (F := F) fun _ => adm (tabs m) hb) (0 : Fin 1)
    winFacts₀0 preFacts0 EP defs₀ Variants.none m ρ main
    (hbody := fun c => (body_obligation m hb c).loose) (hne := block_pos0)
    (harr := arr_whole0) (hstage := stage_whole0) (howed := fun _ _ => rfl)
    (u₀ := u₀ m hb) (hu₀ := .rfl)
    (V := V m)
    (hmain := Pipeline.hmainP_prefix pcfgs 0 defs₀ Variants.none m main hostOps0 hostOps0_sub ⟨rfl, rfl, rfl⟩ main_chain)
    (hsplit := fun c => Pipeline.Dat.arrays_split_shared (dats m hb 0 c) sharedIn0 arr_whole0 (fun _ _ => rfl) (V m c) _ fun _ => rfl)
    (hpf := V_pre m hb)
    (X := fun _ => iprop(emp)) (Y := fun _ => iprop(emp)) (Z := fun c => iprop(((c : Thread nD τ).loc main_arg2) ↦{fullShare} V m c main_arg2))
    (hX := fun c => by
      rw [unscopedRestP0_eq]; iintro ⟨H2, -⟩
      isplitr; · iempintro
      iexact H2)
    (hin := phi0_intro m hb)
    (hout := phiN_exit m hb)
    (QY := fun c s => s.mem ((c : Thread nD τ).loc main_arg2) = V m c main_arg2)
    (hY := fun c s' => by
      iintro ⟨-, H2, HSI⟩
      icombine HSI H2 gives %h2
      imodintro
      isplitr; · ipureintro; exact Buf.eq_of_forall_mem_univ h2
      iexact HSI)
    (hQ := fun _ h hz => ⟨fun c => ⟨(h c).1, (h c).2.2⟩, hz⟩)

theorem V_arg0 (c : Dev nD) : V m c main_arg0 = m ((c.tc : Thread nD τ).loc main_arg0) := by
  unfold V; after_results
theorem V_arg1 (c : Dev nD) : V m c main_arg1 = m ((c.tc : Thread nD τ).loc main_arg1) := by
  unfold V; after_results
theorem V_arg2 (c : Dev nD) : V m c main_arg2 = m ((c.tc : Thread nD τ).loc main_arg2) := by
  unfold V; after_results
theorem V_v0 (c : Dev nD) : V m c main_v0 = extractStridedSlice S16 ![16] (m ((c.tc : Thread nD τ).loc main_arg2)) slices_S32_S16_16 := by
  unfold V; after_results
theorem V_v2 (c : Dev nD) : V m c main_v2 = shapeCast S_ (extractStridedSlice S1 ![13] (extractStridedSlice S16 ![16] (m ((c.tc : Thread nD τ).loc main_arg2)) slices_S32_S16_16) slices_S16_S1_13) shapeCasts_S1_S_ := by
  unfold V; after_results
  rfl

end Cert.Kernel1.Val

end
-- ==== Proof.Shift.lean ====
module

public import proofs.«01_k».proof.Pre_chunks_in_order
public import proofs.«01_k».proof.Pre_chunks_in_order1
public import Idealize.ShloMosaic.Lib.Pointwise

/-! The second batch's chunk bounds are words 16 to 29 of the bounds array. They are the first batch's of the array turned by
16 words, so what is proved of the first batch carries over. -/

@[expose] public section

set_option maxRecDepth 16384

noncomputable section

namespace Cert.Val

open Idealize.ShloMosaic

/-- The bounds array turned by 16 words, the second batch's bounds first. -/
def turn (T : IVec (⟨1, ![32]⟩ : Shape) 32) : IVec (⟨1, ![32]⟩ : Shape) 32 :=
  fun i => T (ix1 ⟨(16 + (i 0).val) % 32, Nat.mod_lt _ (by decide)⟩)

/-- A slice that begins at word `16 + o` is the turned array's slice that begins at `o`. -/
theorem slice_turn {n : ℕ} (T : IVec (⟨1, ![32]⟩ : Shape) 32) (o : ℕ) (ho : o + n ≤ 16)
    (h1 : (⟨1, ![32]⟩ : Shape).Slices ![16 + o] ⟨1, ![n]⟩) (h0 : (⟨1, ![32]⟩ : Shape).Slices ![o] ⟨1, ![n]⟩) :
    extractStridedSlice ⟨1, ![n]⟩ ![16 + o] T h1 = extractStridedSlice ⟨1, ![n]⟩ ![o] (turn T) h0 := by
  funext i
  refine congrArg T (funext fun a => Fin.ext ?_)
  obtain rfl : a = (0 : Fin 1) := Subsingleton.elim (α := Fin 1) _ _
  have hi : (i 0).val < n := (i 0).isLt
  show 16 + o + (i 0).val = (16 + (o + (i 0).val)) % 32
  omega

/-- The second batch's precondition is the first batch's of the turned array. -/
theorem pre_turn {F : FTy → Type} [FloatOps F] [Cert.Pre_chunks_in_order.Facts] [Cert.Pre_chunks_in_order1.Facts] (a0 a1) (a2 : IVec (⟨1, ![32]⟩ : Shape) 32) :
    Cert.Pre_chunks_in_order1.fn (F := F) a0 a1 a2 = Cert.Pre_chunks_in_order.fn (F := F) a0 a1 (turn a2) := by
  have e := slice_turn (n := 14) a2 0 (by decide) Cert.Pre_chunks_in_order1.Facts.slices_S32_S14_16 Cert.Pre_chunks_in_order.Facts.slices_S32_S14_0
  unfold Cert.Pre_chunks_in_order1.fn Cert.Pre_chunks_in_order.fn
  simp only []
  rw [show extractStridedSlice Cert.Pre_chunks_in_order1.S14 ![16] a2 Cert.Pre_chunks_in_order1.Facts.slices_S32_S14_16 = _ from e]

end Cert.Val

end
-- ==== Proof.Runs.lean ====
module

public import proofs.«01_k».proof.Proof.Gen.Kernel
public import proofs.«01_k».proof.Proof.Gen.Kernel.Launch
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384
set_option Elab.async false

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A one-bit word widened to 32 bits is at most one. -/
theorem ext_le (x : BitVec 1) : (Scalar.extui x : BitVec 32).toNat ≤ 1 := by
  revert x; decide

/-- A sum of two small words does not wrap. -/
theorem add_le {x y : BitVec 32} {n : ℕ} (hx : x.toNat ≤ n) (hy : y.toNat ≤ 1) (hn : n ≤ 100) :
    (Scalar.addi x y).toNat ≤ n + 1 := by
  have : (Scalar.addi x y).toNat = (x.toNat + y.toNat) % 2 ^ 32 := BitVec.toNat_add ..
  rw [this]; omega

/-- The offset row is a count of twelve comparisons, so the store always fits the accumulator. -/
theorem chk_all (g a1 a2 a3 a4 a5 a6 a7 a8 a9 a10 a11 a12 : BitVec 32) :
    k0_chk1 g a1 a2 a3 a4 a5 a6 a7 a8 a9 a10 a11 a12 := by
  unfold k0_chk1 k0_off1
  have h0 : (0#32 : BitVec 32).toNat ≤ 0 := by decide
  have h := add_le (add_le (add_le (add_le (add_le (add_le (add_le (add_le (add_le (add_le (add_le (add_le h0
    (ext_le (Scalar.cmpi .sge g a1)) (by decide)) (ext_le (Scalar.cmpi .sge g a2)) (by decide))
    (ext_le (Scalar.cmpi .sge g a3)) (by decide)) (ext_le (Scalar.cmpi .sge g a4)) (by decide))
    (ext_le (Scalar.cmpi .sge g a5)) (by decide)) (ext_le (Scalar.cmpi .sge g a6)) (by decide))
    (ext_le (Scalar.cmpi .sge g a7)) (by decide)) (ext_le (Scalar.cmpi .sge g a8)) (by decide))
    (ext_le (Scalar.cmpi .sge g a9)) (by decide)) (ext_le (Scalar.cmpi .sge g a10)) (by decide))
    (ext_le (Scalar.cmpi .sge g a11)) (by decide)) (ext_le (Scalar.cmpi .sge g a12)) (by decide)
  intro a
  fin_cases a
  · exact (Nat.add_le_add_right h 1)
  · exact le_refl 160
  · exact le_refl 160

set_option backward.proofsInPublic true in
set_option maxHeartbeats 40000000 in
/-- A later chunk's run: what the body stores in the accumulator. -/
noncomputable def runB (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32) (xo : Vec F S13x160x160 .f32)
    (hc0 : ¬((Scalar.cmpi .ne (Scalar.extui (Scalar.cmpi .eq arg0 0#32)) 0#32) = 1#1)) :
    { out0 : List (View.Piece (Elt F) S13x160x160 .f32) //
      ∀ (K : PUnit → sProp 𝕄),
        iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ owns (c : Thread nD τ) arg6 fullShare xo
          ∗ (iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ (arg6.view.loc (c : Thread nD τ) ↦[arg6.view.set]{fullShare} arg6.view.writes (Elt F) (harg6.unread xo) out0)) -∗ K ⟨⟩))
          ⊢ wp frame (wpE (defs₀ (F := F)) Variants.none c none) Set.univ (cc0_pair_matmul0 b i arg0 arg1 harg1 arg2 harg2 arg3 harg3 arg4 harg4 arg5 harg5 arg6 harg6) K } :=
  by
    refine ⟨?_, fun K => ?run⟩
    case run =>
      unfold owns
      rw [cc0_pair_matmul0_eq_skeleton]; unfold cc0_pair_matmul0_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
      iintro ⟨HT, H0, H1, H2, H3, ⟨%f1, %hf1, HO⟩, Hk⟩
      obtain rfl := harg6.eq_unread hf1
      sl_exec! (disch := first | with_reducible exact hc0 | with_reducible exact chk_all _ _ _ _ _ _ _ _ _ _ _ _ _)
      sl_step
      iapply Hk
      isplitl [HT]; · iexact HT
      isplitl [H0]; · iexact H0
      isplitl [H1]; · iexact H1
      isplitl [H2]; · iexact H2
      isplitl [H3]; · iexact H3
      iexact HO

set_option backward.proofsInPublic true in
set_option maxHeartbeats 40000000 in
/-- The first chunk's run. -/
noncomputable def runA (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32)
    (hc0 : (Scalar.cmpi .ne (Scalar.extui (Scalar.cmpi .eq arg0 0#32)) 0#32) = 1#1) :
    { out0 : List (View.Piece (Elt F) S13x160x160 .f32) //
      ∀ (K : PUnit → sProp 𝕄),
        iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ (∃ d, owns (c : Thread nD τ) arg6 fullShare d)
          ∗ (iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ (arg6.view.loc (c : Thread nD τ) ↦[arg6.view.set]{fullShare} arg6.view.writes (Elt F) arg6.view.junk out0)) -∗ K ⟨⟩))
          ⊢ wp frame (wpE (defs₀ (F := F)) Variants.none c none) Set.univ (cc0_pair_matmul0 b i arg0 arg1 harg1 arg2 harg2 arg3 harg3 arg4 harg4 arg5 harg5 arg6 harg6) K } :=
  by
    refine ⟨?_, fun K => ?run⟩
    case run =>
      unfold owns
      rw [cc0_pair_matmul0_eq_skeleton]; unfold cc0_pair_matmul0_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
      iintro ⟨HT, H0, H1, H2, H3, ⟨%d1, %f1, -, HO⟩, Hk⟩
      sl_exec! (disch := first | with_reducible exact hc0 | with_reducible exact chk_all _ _ _ _ _ _ _ _ _ _ _ _ _)
      sl_step
      iapply Hk
      isplitl [HT]; · iexact HT
      isplitl [H0]; · iexact H0
      isplitl [H1]; · iexact H1
      isplitl [H2]; · iexact H2
      isplitl [H3]; · iexact H3
      iexact HO

end Cert.Kernel.Val
-- ==== Proof.Zin.lean ====
module

public import proofs.«01_k».proof.Proof.Gen.Kernel
public import proofs.«01_k».proof.Proof.Gen.Kernel.Launch
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.Runs

@[expose] public section

set_option maxRecDepth 16384
set_option Elab.async false

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Word `j` of the prefetched chunk bounds. -/
def tw (T : Vec F S16 .i32) (j : Fin 16) : BitVec 32 := T (ix1 j)

/-- The `24 × 128` packed words of block `j`. -/
def ldX (p : Vec F S1x16x40x128 .i32) (j : Fin 16) : Vec F S1x1x24x128 .i32 := fun y =>
  p (ix4 (0 : Fin 1) j (⟨(y 2).val, lt_of_lt_of_le (y 2).isLt (by decide)⟩ : Fin 40) (y 3 : Fin 128))

/-- The `16 × 128` packed words of block `j`. -/
def ldD (p : Vec F S1x16x40x128 .i32) (j : Fin 16) : Vec F S1x1x16x128 .i32 := fun y =>
  p (ix4 (0 : Fin 1) j (⟨24 + (y 2).val, Nat.add_lt_add_left (y 2).isLt 24⟩ : Fin 40) (y 3 : Fin 128))

theorem readX (v : View sig .tc .vmem S1x16x40x128 .i32) (x : Vec F S1x16x40x128 .i32) (j : Fin 16) (o : Fin 4 → ℕ) (inb) (ho : o = ![0, j.val, 0, 0]) :
    v.readAt (Elt F) (Rect.unit (s := S1x16x40x128) o S1x1x24x128.size inb).toLoadRect (v.rep x) = ldX x j := by
  subst ho
  rw [View.readAt_rep]
  funext y
  refine congrArg x (funext fun a => Fin.ext ?_)
  have h0 : (y 0).val < 1 := (y 0).isLt
  have h1 : (y 1).val < 1 := (y 1).isLt
  fin_cases a
  · show 0 + 1 * (y 0).val = 0; omega
  · show j.val + 1 * (y 1).val = j.val; omega
  · show 0 + 1 * (y 2).val = (y 2).val; omega
  · show 0 + 1 * (y 3).val = (y 3).val; omega

theorem readD (v : View sig .tc .vmem S1x16x40x128 .i32) (x : Vec F S1x16x40x128 .i32) (j : Fin 16) (o : Fin 4 → ℕ) (inb) (ho : o = ![0, j.val, 24, 0]) :
    v.readAt (Elt F) (Rect.unit (s := S1x16x40x128) o S1x1x16x128.size inb).toLoadRect (v.rep x) = ldD x j := by
  subst ho
  rw [View.readAt_rep]
  funext y
  refine congrArg x (funext fun a => Fin.ext ?_)
  have h0 : (y 0).val < 1 := (y 0).isLt
  have h1 : (y 1).val < 1 := (y 1).isLt
  fin_cases a
  · show 0 + 1 * (y 0).val = 0; omega
  · show j.val + 1 * (y 1).val = j.val; omega
  · show 24 + 1 * (y 2).val = 24 + (y 2).val; omega
  · show 0 + 1 * (y 3).val = (y 3).val; omega

theorem readS (v : View sig .tc .vmem S1x16x128 .i32) (x : Vec F S1x16x128 .i32) (inb) :
    v.readAt (Elt F) (Rect.unit (s := S1x16x128) ![0, 0, 0] ![1, 16, 128] inb).toLoadRect (v.rep x) = x := by
  rw [View.readAt_rep]
  funext y
  refine congrArg x (funext fun a => Fin.ext ?_)
  fin_cases a
  · show 0 + 1 * (y 0).val = (y 0).val; omega
  · show 0 + 1 * (y 1).val = (y 1).val; omega
  · show 0 + 1 * (y 2).val = (y 2).val; omega

theorem ldX0 (v : View sig .tc .vmem S1x16x40x128 .i32) (x : Vec F S1x16x40x128 .i32) (inb) :
    v.readAt (Elt F) (Rect.unit (s := S1x16x40x128) ![0, 0, 0, 0] ![1, 1, 24, 128] inb).toLoadRect (v.rep x) = ldX x 0 := readX v x 0 _ inb rfl
theorem ldD0 (v : View sig .tc .vmem S1x16x40x128 .i32) (x : Vec F S1x16x40x128 .i32) (inb) :
    v.readAt (Elt F) (Rect.unit (s := S1x16x40x128) ![0, 0, 24, 0] ![1, 1, 16, 128] inb).toLoadRect (v.rep x) = ldD x 0 := readD v x 0 _ inb rfl
theorem ldX1 (v : View sig .tc .vmem S1x16x40x128 .i32) (x : Vec F S1x16x40x128 .i32) (inb) :
    v.readAt (Elt F) (Rect.unit (s := S1x16x40x128) ![0, 1, 0, 0] ![1, 1, 24, 128] inb).toLoadRect (v.rep x) = ldX x 1 := readX v x 1 _ inb rfl
theorem ldD1 (v : View sig .tc .vmem S1x16x40x128 .i32) (x : Vec F S1x16x40x128 .i32) (inb) :
    v.readAt (Elt F) (Rect.unit (s := S1x16x40x128) ![0, 1, 24, 0] ![1, 1, 16, 128] inb).toLoadRect (v.rep x) = ldD x 1 := readD v x 1 _ inb rfl
theorem ldX2 (v : View sig .tc .vmem S1x16x40x128 .i32) (x : Vec F S1x16x40x128 .i32) (inb) :
    v.readAt (Elt F) (Rect.unit (s := S1x16x40x128) ![0, 2, 0, 0] ![1, 1, 24, 128] inb).toLoadRect (v.rep x) = ldX x 2 := readX v x 2 _ inb rfl
theorem ldD2 (v : View sig .tc .vmem S1x16x40x128 .i32) (x : Vec F S1x16x40x128 .i32) (inb) :
    v.readAt (Elt F) (Rect.unit (s := S1x16x40x128) ![0, 2, 24, 0] ![1, 1, 16, 128] inb).toLoadRect (v.rep x) = ldD x 2 := readD v x 2 _ inb rfl
theorem ldX3 (v : View sig .tc .vmem S1x16x40x128 .i32) (x : Vec F S1x16x40x128 .i32) (inb) :
    v.readAt (Elt F) (Rect.unit (s := S1x16x40x128) ![0, 3, 0, 0] ![1, 1, 24, 128] inb).toLoadRect (v.rep x) = ldX x 3 := readX v x 3 _ inb rfl
theorem ldD3 (v : View sig .tc .vmem S1x16x40x128 .i32) (x : Vec F S1x16x40x128 .i32) (inb) :
    v.readAt (Elt F) (Rect.unit (s := S1x16x40x128) ![0, 3, 24, 0] ![1, 1, 16, 128] inb).toLoadRect (v.rep x) = ldD x 3 := readD v x 3 _ inb rfl
theorem ldX4 (v : View sig .tc .vmem S1x16x40x128 .i32) (x : Vec F S1x16x40x128 .i32) (inb) :
    v.readAt (Elt F) (Rect.unit (s := S1x16x40x128) ![0, 4, 0, 0] ![1, 1, 24, 128] inb).toLoadRect (v.rep x) = ldX x 4 := readX v x 4 _ inb rfl
theorem ldD4 (v : View sig .tc .vmem S1x16x40x128 .i32) (x : Vec F S1x16x40x128 .i32) (inb) :
    v.readAt (Elt F) (Rect.unit (s := S1x16x40x128) ![0, 4, 24, 0] ![1, 1, 16, 128] inb).toLoadRect (v.rep x) = ldD x 4 := readD v x 4 _ inb rfl
theorem ldX5 (v : View sig .tc .vmem S1x16x40x128 .i32) (x : Vec F S1x16x40x128 .i32) (inb) :
    v.readAt (Elt F) (Rect.unit (s := S1x16x40x128) ![0, 5, 0, 0] ![1, 1, 24, 128] inb).toLoadRect (v.rep x) = ldX x 5 := readX v x 5 _ inb rfl
theorem ldD5 (v : View sig .tc .vmem S1x16x40x128 .i32) (x : Vec F S1x16x40x128 .i32) (inb) :
    v.readAt (Elt F) (Rect.unit (s := S1x16x40x128) ![0, 5, 24, 0] ![1, 1, 16, 128] inb).toLoadRect (v.rep x) = ldD x 5 := readD v x 5 _ inb rfl
theorem ldX6 (v : View sig .tc .vmem S1x16x40x128 .i32) (x : Vec F S1x16x40x128 .i32) (inb) :
    v.readAt (Elt F) (Rect.unit (s := S1x16x40x128) ![0, 6, 0, 0] ![1, 1, 24, 128] inb).toLoadRect (v.rep x) = ldX x 6 := readX v x 6 _ inb rfl
theorem ldD6 (v : View sig .tc .vmem S1x16x40x128 .i32) (x : Vec F S1x16x40x128 .i32) (inb) :
    v.readAt (Elt F) (Rect.unit (s := S1x16x40x128) ![0, 6, 24, 0] ![1, 1, 16, 128] inb).toLoadRect (v.rep x) = ldD x 6 := readD v x 6 _ inb rfl
theorem ldX7 (v : View sig .tc .vmem S1x16x40x128 .i32) (x : Vec F S1x16x40x128 .i32) (inb) :
    v.readAt (Elt F) (Rect.unit (s := S1x16x40x128) ![0, 7, 0, 0] ![1, 1, 24, 128] inb).toLoadRect (v.rep x) = ldX x 7 := readX v x 7 _ inb rfl
theorem ldD7 (v : View sig .tc .vmem S1x16x40x128 .i32) (x : Vec F S1x16x40x128 .i32) (inb) :
    v.readAt (Elt F) (Rect.unit (s := S1x16x40x128) ![0, 7, 24, 0] ![1, 1, 16, 128] inb).toLoadRect (v.rep x) = ldD x 7 := readD v x 7 _ inb rfl
theorem ldX8 (v : View sig .tc .vmem S1x16x40x128 .i32) (x : Vec F S1x16x40x128 .i32) (inb) :
    v.readAt (Elt F) (Rect.unit (s := S1x16x40x128) ![0, 8, 0, 0] ![1, 1, 24, 128] inb).toLoadRect (v.rep x) = ldX x 8 := readX v x 8 _ inb rfl
theorem ldD8 (v : View sig .tc .vmem S1x16x40x128 .i32) (x : Vec F S1x16x40x128 .i32) (inb) :
    v.readAt (Elt F) (Rect.unit (s := S1x16x40x128) ![0, 8, 24, 0] ![1, 1, 16, 128] inb).toLoadRect (v.rep x) = ldD x 8 := readD v x 8 _ inb rfl
theorem ldX9 (v : View sig .tc .vmem S1x16x40x128 .i32) (x : Vec F S1x16x40x128 .i32) (inb) :
    v.readAt (Elt F) (Rect.unit (s := S1x16x40x128) ![0, 9, 0, 0] ![1, 1, 24, 128] inb).toLoadRect (v.rep x) = ldX x 9 := readX v x 9 _ inb rfl
theorem ldD9 (v : View sig .tc .vmem S1x16x40x128 .i32) (x : Vec F S1x16x40x128 .i32) (inb) :
    v.readAt (Elt F) (Rect.unit (s := S1x16x40x128) ![0, 9, 24, 0] ![1, 1, 16, 128] inb).toLoadRect (v.rep x) = ldD x 9 := readD v x 9 _ inb rfl
theorem ldX10 (v : View sig .tc .vmem S1x16x40x128 .i32) (x : Vec F S1x16x40x128 .i32) (inb) :
    v.readAt (Elt F) (Rect.unit (s := S1x16x40x128) ![0, 10, 0, 0] ![1, 1, 24, 128] inb).toLoadRect (v.rep x) = ldX x 10 := readX v x 10 _ inb rfl
theorem ldD10 (v : View sig .tc .vmem S1x16x40x128 .i32) (x : Vec F S1x16x40x128 .i32) (inb) :
    v.readAt (Elt F) (Rect.unit (s := S1x16x40x128) ![0, 10, 24, 0] ![1, 1, 16, 128] inb).toLoadRect (v.rep x) = ldD x 10 := readD v x 10 _ inb rfl
theorem ldX11 (v : View sig .tc .vmem S1x16x40x128 .i32) (x : Vec F S1x16x40x128 .i32) (inb) :
    v.readAt (Elt F) (Rect.unit (s := S1x16x40x128) ![0, 11, 0, 0] ![1, 1, 24, 128] inb).toLoadRect (v.rep x) = ldX x 11 := readX v x 11 _ inb rfl
theorem ldD11 (v : View sig .tc .vmem S1x16x40x128 .i32) (x : Vec F S1x16x40x128 .i32) (inb) :
    v.readAt (Elt F) (Rect.unit (s := S1x16x40x128) ![0, 11, 24, 0] ![1, 1, 16, 128] inb).toLoadRect (v.rep x) = ldD x 11 := readD v x 11 _ inb rfl
theorem ldX12 (v : View sig .tc .vmem S1x16x40x128 .i32) (x : Vec F S1x16x40x128 .i32) (inb) :
    v.readAt (Elt F) (Rect.unit (s := S1x16x40x128) ![0, 12, 0, 0] ![1, 1, 24, 128] inb).toLoadRect (v.rep x) = ldX x 12 := readX v x 12 _ inb rfl
theorem ldD12 (v : View sig .tc .vmem S1x16x40x128 .i32) (x : Vec F S1x16x40x128 .i32) (inb) :
    v.readAt (Elt F) (Rect.unit (s := S1x16x40x128) ![0, 12, 24, 0] ![1, 1, 16, 128] inb).toLoadRect (v.rep x) = ldD x 12 := readD v x 12 _ inb rfl
theorem ldX13 (v : View sig .tc .vmem S1x16x40x128 .i32) (x : Vec F S1x16x40x128 .i32) (inb) :
    v.readAt (Elt F) (Rect.unit (s := S1x16x40x128) ![0, 13, 0, 0] ![1, 1, 24, 128] inb).toLoadRect (v.rep x) = ldX x 13 := readX v x 13 _ inb rfl
theorem ldD13 (v : View sig .tc .vmem S1x16x40x128 .i32) (x : Vec F S1x16x40x128 .i32) (inb) :
    v.readAt (Elt F) (Rect.unit (s := S1x16x40x128) ![0, 13, 24, 0] ![1, 1, 16, 128] inb).toLoadRect (v.rep x) = ldD x 13 := readD v x 13 _ inb rfl
theorem ldX14 (v : View sig .tc .vmem S1x16x40x128 .i32) (x : Vec F S1x16x40x128 .i32) (inb) :
    v.readAt (Elt F) (Rect.unit (s := S1x16x40x128) ![0, 14, 0, 0] ![1, 1, 24, 128] inb).toLoadRect (v.rep x) = ldX x 14 := readX v x 14 _ inb rfl
theorem ldD14 (v : View sig .tc .vmem S1x16x40x128 .i32) (x : Vec F S1x16x40x128 .i32) (inb) :
    v.readAt (Elt F) (Rect.unit (s := S1x16x40x128) ![0, 14, 24, 0] ![1, 1, 16, 128] inb).toLoadRect (v.rep x) = ldD x 14 := readD v x 14 _ inb rfl
theorem ldX15 (v : View sig .tc .vmem S1x16x40x128 .i32) (x : Vec F S1x16x40x128 .i32) (inb) :
    v.readAt (Elt F) (Rect.unit (s := S1x16x40x128) ![0, 15, 0, 0] ![1, 1, 24, 128] inb).toLoadRect (v.rep x) = ldX x 15 := readX v x 15 _ inb rfl
theorem ldD15 (v : View sig .tc .vmem S1x16x40x128 .i32) (x : Vec F S1x16x40x128 .i32) (inb) :
    v.readAt (Elt F) (Rect.unit (s := S1x16x40x128) ![0, 15, 24, 0] ![1, 1, 16, 128] inb).toLoadRect (v.rep x) = ldD x 15 := readD v x 15 _ inb rfl

/-- Rows of one block of decoded and scaled values: 96 of the first codes, 64 of the second. -/
def tileOf (p : Vec F S1x16x40x128 .i32) (s : Vec F S1x16x128 .i32) (j : Fin 16) (o : Fin 2 → ℕ) (ho : S16x128.Slices o S1x128) : FVec F S160x128 .bf16 :=
  concatenate S160x128 0
    [⟨S96x128, mulf (extf .bf16 (bitcastToFloat .fp8e4m3 (bitcast S96x128 8 (shapeCast S24x128 (ldX p j) shapeCasts_S1x1x24x128_S24x128) bitcasts_S24x128_w32_S96x128_w8)) bitsLt_fp8e4m3_bf16)
      (truncf .bf16 (broadcastTo S96x128 (shapeCast S1x128 (extractStridedSlice S1x128 o (k0_pay4 s) ho) shapeCasts_S1x128_S1x128) broadcasts_S1x128_S96x128) bitsLt_bf16_f32)⟩,
     ⟨S64x128, mulf (extf .bf16 (bitcastToFloat .fp8e5m2 (bitcast S64x128 8 (shapeCast S16x128 (ldD p j) shapeCasts_S1x1x16x128_S16x128) bitcasts_S16x128_w32_S64x128_w8)) bitsLt_fp8e5m2_bf16)
      (truncf .bf16 (broadcastTo S64x128 (shapeCast S1x128 (extractStridedSlice S1x128 o (k0_pay5 s) ho) shapeCasts_S1x128_S1x128) broadcasts_S1x128_S64x128) bitsLt_bf16_f32)⟩]
    concatenates_S96x128_S64x128_S160x128_d0

/-- A chunk's decoded and scaled values: sixteen blocks side by side. -/
def zOf (p : Vec F S1x16x40x128 .i32) (s : Vec F S1x16x128 .i32) : FVec F S160x2048 .bf16 :=
  concatenate S160x2048 1 [⟨S160x128, tileOf p s 0 ![0, 0] slices_S16x128_o0_0_S1x128⟩, ⟨S160x128, tileOf p s 1 ![1, 0] slices_S16x128_o1_0_S1x128⟩, ⟨S160x128, tileOf p s 2 ![2, 0] slices_S16x128_o2_0_S1x128⟩, ⟨S160x128, tileOf p s 3 ![3, 0] slices_S16x128_o3_0_S1x128⟩, ⟨S160x128, tileOf p s 4 ![4, 0] slices_S16x128_o4_0_S1x128⟩, ⟨S160x128, tileOf p s 5 ![5, 0] slices_S16x128_o5_0_S1x128⟩, ⟨S160x128, tileOf p s 6 ![6, 0] slices_S16x128_o6_0_S1x128⟩, ⟨S160x128, tileOf p s 7 ![7, 0] slices_S16x128_o7_0_S1x128⟩, ⟨S160x128, tileOf p s 8 ![8, 0] slices_S16x128_o8_0_S1x128⟩, ⟨S160x128, tileOf p s 9 ![9, 0] slices_S16x128_o9_0_S1x128⟩, ⟨S160x128, tileOf p s 10 ![10, 0] slices_S16x128_o10_0_S1x128⟩, ⟨S160x128, tileOf p s 11 ![11, 0] slices_S16x128_o11_0_S1x128⟩, ⟨S160x128, tileOf p s 12 ![12, 0] slices_S16x128_o12_0_S1x128⟩, ⟨S160x128, tileOf p s 13 ![13, 0] slices_S16x128_o13_0_S1x128⟩, ⟨S160x128, tileOf p s 14 ![14, 0] slices_S16x128_o14_0_S1x128⟩, ⟨S160x128, tileOf p s 15 ![15, 0] slices_S16x128_o15_0_S1x128⟩] concatenates_S160x128_S160x128_S160x128_S160x128_S160x128_S160x128_S160x128_S160x128_S160x128_S160x128_S160x128_S160x128_S160x128_S160x128_S160x128_S160x128_S160x2048_d1

end Cert.Kernel.Val
-- ==== Proof.ZA.lean ====
module

public import proofs.«01_k».proof.Proof.Gen.Kernel
public import proofs.«01_k».proof.Proof.Gen.Kernel.Launch
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.Zin

@[expose] public section

set_option maxRecDepth 16384
set_option Elab.async false

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
theorem zinA (arg2 : Memref sig .tc .vmem S1x16x40x128 .i32) (arg4 : Memref sig .tc .vmem S1x16x128 .i32) (x0 : Vec F S1x16x40x128 .i32) (s0 : Vec F S1x16x128 .i32) :
    runA.sl.r_43 arg2 arg4 x0 s0 = zOf x0 s0 := by
  simp only [runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

set_option maxHeartbeats 4000000 in
theorem zoutA (arg2 : Memref sig .tc .vmem S1x16x40x128 .i32) (arg4 : Memref sig .tc .vmem S1x16x128 .i32) (x0 : Vec F S1x16x40x128 .i32) (s0 : Vec F S1x16x128 .i32) :
    runA.sl.r_74 arg2 arg4 x0 s0 = zOf x0 s0 := by
  simp only [runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

end Cert.Kernel.Val
-- ==== Proof.ZB.lean ====
module

public import proofs.«01_k».proof.Proof.Gen.Kernel
public import proofs.«01_k».proof.Proof.Gen.Kernel.Launch
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.Zin

@[expose] public section

set_option maxRecDepth 16384
set_option Elab.async false

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
theorem zinB (arg2 : Memref sig .tc .vmem S1x16x40x128 .i32) (arg4 : Memref sig .tc .vmem S1x16x128 .i32) (x0 : Vec F S1x16x40x128 .i32) (s0 : Vec F S1x16x128 .i32) :
    runB.sl.r_43 arg2 arg4 x0 s0 = zOf x0 s0 := by
  simp only [runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.r_56, runB.sl.r_57, runB.sl.r_58, runB.sl.r_59, runB.sl.r_60, runB.sl.r_61, runB.sl.r_62, runB.sl.r_63, runB.sl.r_64, runB.sl.r_65, runB.sl.r_66, runB.sl.r_67, runB.sl.r_68, runB.sl.r_69, runB.sl.r_70, runB.sl.r_71, runB.sl.r_72, runB.sl.r_73, runB.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

set_option maxHeartbeats 4000000 in
theorem zoutB (arg2 : Memref sig .tc .vmem S1x16x40x128 .i32) (arg4 : Memref sig .tc .vmem S1x16x128 .i32) (x0 : Vec F S1x16x40x128 .i32) (s0 : Vec F S1x16x128 .i32) :
    runB.sl.r_74 arg2 arg4 x0 s0 = zOf x0 s0 := by
  simp only [runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.r_56, runB.sl.r_57, runB.sl.r_58, runB.sl.r_59, runB.sl.r_60, runB.sl.r_61, runB.sl.r_62, runB.sl.r_63, runB.sl.r_64, runB.sl.r_65, runB.sl.r_66, runB.sl.r_67, runB.sl.r_68, runB.sl.r_69, runB.sl.r_70, runB.sl.r_71, runB.sl.r_72, runB.sl.r_73, runB.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

end Cert.Kernel.Val
-- ==== Proof.Body.lean ====
module

public import proofs.«01_k».proof.Proof.Gen.Kernel
public import proofs.«01_k».proof.Proof.Gen.Kernel.Launch
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.ZA
public import proofs.«01_k».proof.Proof.ZB

@[expose] public section

set_option maxRecDepth 16384
set_option Elab.async false

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulator row block a chunk adds to, as the offsets the body computes. -/
def oOf (g : BitVec 32) (T : Vec F S16 .i32) : Fin 3 → ℕ := k0_off1 g (tw T 1) (tw T 2) (tw T 3) (tw T 4) (tw T 5) (tw T 6) (tw T 7) (tw T 8) (tw T 9) (tw T 10) (tw T 11) (tw T 12)

theorem oOf_inb (g : BitVec 32) (T : Vec F S16 .i32) : ∀ a, oOf g T a + S1x160x160.size a ≤ S13x160x160.size a := chk_all _ _ _ _ _ _ _ _ _ _ _ _ _

/-- The rows of the accumulator at the given offsets. -/
def rowOf (acc : Vec F S13x160x160 .f32) (o : Fin 3 → ℕ) (h : ∀ a, o a + S1x160x160.size a ≤ S13x160x160.size a) : Vec F S1x160x160 .f32 :=
  fun z => acc ((Rect.unit (s := S13x160x160) o S1x160x160.size h).toLoadRect.idx z)

/-- One chunk's effect on the accumulator. -/
def step (g : BitVec 32) (T : Vec F S16 .i32) (x0 x1 : Vec F S1x16x40x128 .i32) (s0 s1 : Vec F S1x16x128 .i32) (acc : Vec F S13x160x160 .f32) : Vec F S13x160x160 .f32 :=
  fun y => if h : ∀ a, oOf g T a ≤ (y a).val ∧ (y a).val < oOf g T a + S1x160x160.size a then
      k0_pay1 (zOf x0 s0) (zOf x1 s1) (rowOf acc (oOf g T) (oOf_inb g T)) (Rect.unitLocal (s := S13x160x160) (off := oOf g T) (size := S1x160x160.size) y h)
    else acc y

theorem twA1 (arg1 : Memref sig .tc .smem S16 .i32) (T : Vec F S16 .i32) : runA.sl.r arg1 T = tw T 1 := by
  unfold runA.sl.r; rw [View.readAt_rep]; exact congrArg T (funext fun a => Fin.ext (by match a with | ⟨0, _⟩ => rfl))
theorem twA2 (arg1 : Memref sig .tc .smem S16 .i32) (T : Vec F S16 .i32) : runA.sl.r_1 arg1 T = tw T 2 := by
  unfold runA.sl.r_1; rw [View.readAt_rep]; exact congrArg T (funext fun a => Fin.ext (by match a with | ⟨0, _⟩ => rfl))
theorem twA3 (arg1 : Memref sig .tc .smem S16 .i32) (T : Vec F S16 .i32) : runA.sl.r_2 arg1 T = tw T 3 := by
  unfold runA.sl.r_2; rw [View.readAt_rep]; exact congrArg T (funext fun a => Fin.ext (by match a with | ⟨0, _⟩ => rfl))
theorem twA4 (arg1 : Memref sig .tc .smem S16 .i32) (T : Vec F S16 .i32) : runA.sl.r_3 arg1 T = tw T 4 := by
  unfold runA.sl.r_3; rw [View.readAt_rep]; exact congrArg T (funext fun a => Fin.ext (by match a with | ⟨0, _⟩ => rfl))
theorem twA5 (arg1 : Memref sig .tc .smem S16 .i32) (T : Vec F S16 .i32) : runA.sl.r_4 arg1 T = tw T 5 := by
  unfold runA.sl.r_4; rw [View.readAt_rep]; exact congrArg T (funext fun a => Fin.ext (by match a with | ⟨0, _⟩ => rfl))
theorem twA6 (arg1 : Memref sig .tc .smem S16 .i32) (T : Vec F S16 .i32) : runA.sl.r_5 arg1 T = tw T 6 := by
  unfold runA.sl.r_5; rw [View.readAt_rep]; exact congrArg T (funext fun a => Fin.ext (by match a with | ⟨0, _⟩ => rfl))
theorem twA7 (arg1 : Memref sig .tc .smem S16 .i32) (T : Vec F S16 .i32) : runA.sl.r_6 arg1 T = tw T 7 := by
  unfold runA.sl.r_6; rw [View.readAt_rep]; exact congrArg T (funext fun a => Fin.ext (by match a with | ⟨0, _⟩ => rfl))
theorem twA8 (arg1 : Memref sig .tc .smem S16 .i32) (T : Vec F S16 .i32) : runA.sl.r_7 arg1 T = tw T 8 := by
  unfold runA.sl.r_7; rw [View.readAt_rep]; exact congrArg T (funext fun a => Fin.ext (by match a with | ⟨0, _⟩ => rfl))
theorem twA9 (arg1 : Memref sig .tc .smem S16 .i32) (T : Vec F S16 .i32) : runA.sl.r_8 arg1 T = tw T 9 := by
  unfold runA.sl.r_8; rw [View.readAt_rep]; exact congrArg T (funext fun a => Fin.ext (by match a with | ⟨0, _⟩ => rfl))
theorem twA10 (arg1 : Memref sig .tc .smem S16 .i32) (T : Vec F S16 .i32) : runA.sl.r_9 arg1 T = tw T 10 := by
  unfold runA.sl.r_9; rw [View.readAt_rep]; exact congrArg T (funext fun a => Fin.ext (by match a with | ⟨0, _⟩ => rfl))
theorem twA11 (arg1 : Memref sig .tc .smem S16 .i32) (T : Vec F S16 .i32) : runA.sl.r_10 arg1 T = tw T 11 := by
  unfold runA.sl.r_10; rw [View.readAt_rep]; exact congrArg T (funext fun a => Fin.ext (by match a with | ⟨0, _⟩ => rfl))
theorem twA12 (arg1 : Memref sig .tc .smem S16 .i32) (T : Vec F S16 .i32) : runA.sl.r_11 arg1 T = tw T 12 := by
  unfold runA.sl.r_11; rw [View.readAt_rep]; exact congrArg T (funext fun a => Fin.ext (by match a with | ⟨0, _⟩ => rfl))
theorem twB1 (arg1 : Memref sig .tc .smem S16 .i32) (T : Vec F S16 .i32) : runB.sl.r arg1 T = tw T 1 := by
  unfold runB.sl.r; rw [View.readAt_rep]; exact congrArg T (funext fun a => Fin.ext (by match a with | ⟨0, _⟩ => rfl))
theorem twB2 (arg1 : Memref sig .tc .smem S16 .i32) (T : Vec F S16 .i32) : runB.sl.r_1 arg1 T = tw T 2 := by
  unfold runB.sl.r_1; rw [View.readAt_rep]; exact congrArg T (funext fun a => Fin.ext (by match a with | ⟨0, _⟩ => rfl))
theorem twB3 (arg1 : Memref sig .tc .smem S16 .i32) (T : Vec F S16 .i32) : runB.sl.r_2 arg1 T = tw T 3 := by
  unfold runB.sl.r_2; rw [View.readAt_rep]; exact congrArg T (funext fun a => Fin.ext (by match a with | ⟨0, _⟩ => rfl))
theorem twB4 (arg1 : Memref sig .tc .smem S16 .i32) (T : Vec F S16 .i32) : runB.sl.r_3 arg1 T = tw T 4 := by
  unfold runB.sl.r_3; rw [View.readAt_rep]; exact congrArg T (funext fun a => Fin.ext (by match a with | ⟨0, _⟩ => rfl))
theorem twB5 (arg1 : Memref sig .tc .smem S16 .i32) (T : Vec F S16 .i32) : runB.sl.r_4 arg1 T = tw T 5 := by
  unfold runB.sl.r_4; rw [View.readAt_rep]; exact congrArg T (funext fun a => Fin.ext (by match a with | ⟨0, _⟩ => rfl))
theorem twB6 (arg1 : Memref sig .tc .smem S16 .i32) (T : Vec F S16 .i32) : runB.sl.r_5 arg1 T = tw T 6 := by
  unfold runB.sl.r_5; rw [View.readAt_rep]; exact congrArg T (funext fun a => Fin.ext (by match a with | ⟨0, _⟩ => rfl))
theorem twB7 (arg1 : Memref sig .tc .smem S16 .i32) (T : Vec F S16 .i32) : runB.sl.r_6 arg1 T = tw T 7 := by
  unfold runB.sl.r_6; rw [View.readAt_rep]; exact congrArg T (funext fun a => Fin.ext (by match a with | ⟨0, _⟩ => rfl))
theorem twB8 (arg1 : Memref sig .tc .smem S16 .i32) (T : Vec F S16 .i32) : runB.sl.r_7 arg1 T = tw T 8 := by
  unfold runB.sl.r_7; rw [View.readAt_rep]; exact congrArg T (funext fun a => Fin.ext (by match a with | ⟨0, _⟩ => rfl))
theorem twB9 (arg1 : Memref sig .tc .smem S16 .i32) (T : Vec F S16 .i32) : runB.sl.r_8 arg1 T = tw T 9 := by
  unfold runB.sl.r_8; rw [View.readAt_rep]; exact congrArg T (funext fun a => Fin.ext (by match a with | ⟨0, _⟩ => rfl))
theorem twB10 (arg1 : Memref sig .tc .smem S16 .i32) (T : Vec F S16 .i32) : runB.sl.r_9 arg1 T = tw T 10 := by
  unfold runB.sl.r_9; rw [View.readAt_rep]; exact congrArg T (funext fun a => Fin.ext (by match a with | ⟨0, _⟩ => rfl))
theorem twB11 (arg1 : Memref sig .tc .smem S16 .i32) (T : Vec F S16 .i32) : runB.sl.r_10 arg1 T = tw T 11 := by
  unfold runB.sl.r_10; rw [View.readAt_rep]; exact congrArg T (funext fun a => Fin.ext (by match a with | ⟨0, _⟩ => rfl))
theorem twB12 (arg1 : Memref sig .tc .smem S16 .i32) (T : Vec F S16 .i32) : runB.sl.r_11 arg1 T = tw T 12 := by
  unfold runB.sl.r_11; rw [View.readAt_rep]; exact congrArg T (funext fun a => Fin.ext (by match a with | ⟨0, _⟩ => rfl))

/-- The one store of a chunk, over contents that read `acc`, reads as `step` of `acc`. -/
theorem read_piece (g : BitVec 32) (T : Vec F S16 .i32) (x0 x1 : Vec F S1x16x40x128 .i32) (s0 s1 : Vec F S1x16x128 .i32) (acc : Vec F S13x160x160 .f32)
    (v : View sig .tc .vmem S13x160x160 .f32) (f : v.ty.Contents (Elt F)) (L : List (View.Piece (Elt F) S13x160x160 .f32))
    (w1 w2 w3 w4 w5 w6 w7 w8 w9 w10 w11 w12 : BitVec 32) (h1 : w1 = tw T 1) (h2 : w2 = tw T 2) (h3 : w3 = tw T 3) (h4 : w4 = tw T 4) (h5 : w5 = tw T 5) (h6 : w6 = tw T 6) (h7 : w7 = tw T 7) (h8 : w8 = tw T 8) (h9 : w9 = tw T 9) (h10 : w10 = tw T 10) (h11 : w11 = tw T 11) (h12 : w12 = tw T 12)
    (zi zo : FVec F S160x2048 .bf16) (hzi : zi = zOf x0 s0) (hzo : zo = zOf x1 s1)
    (h : ∀ a, k0_off1 g w1 w2 w3 w4 w5 w6 w7 w8 w9 w10 w11 w12 a + S1x160x160.size a ≤ S13x160x160.size a)
    (hacc : v.read (Elt F) (v.writes (Elt F) f L) = acc)
    (row : Vec F S1x160x160 .f32) (hrow : row = rowOf acc (k0_off1 g w1 w2 w3 w4 w5 w6 w7 w8 w9 w10 w11 w12) h) :
    v.read (Elt F) (v.writes (Elt F) f (⟨Rect.unit (s := S13x160x160) (k0_off1 g w1 w2 w3 w4 w5 w6 w7 w8 w9 w10 w11 w12) S1x160x160.size h, k0_pay1 zi zo row⟩ :: L)) = step g T x0 x1 s0 s1 acc := by
  subst h1 h2 h3 h4 h5 h6 h7 h8 h9 h10 h11 h12 hzi hzo hrow hacc
  funext y
  rw [View.read_writes_cons_unit v f h _ L y rfl]
  rfl

set_option maxHeartbeats 4000000 in
/-- A later chunk leaves `step` of what the accumulator held. -/
theorem readB (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32) (xo : Vec F S13x160x160 .f32)
    (hc0 : ¬((Scalar.cmpi .ne (Scalar.extui (Scalar.cmpi .eq arg0 0#32)) 0#32) = 1#1)) :
    arg6.view.read (Elt F) (arg6.view.writes (Elt F) (harg6.unread xo) (runB c b i arg0 arg1 harg1 arg2 harg2 arg3 harg3 arg4 harg4 arg5 harg5 arg6 harg6 T x0 x1 s0 s1 xo hc0).1) = step arg0 T x0 x1 s0 s1 xo :=
  read_piece arg0 T x0 x1 s0 s1 xo arg6.view (harg6.unread xo) [] _ _ _ _ _ _ _ _ _ _ _ _ (twB1 _ _) (twB2 _ _) (twB3 _ _) (twB4 _ _) (twB5 _ _) (twB6 _ _) (twB7 _ _) (twB8 _ _) (twB9 _ _) (twB10 _ _) (twB11 _ _) (twB12 _ _)
    _ _ (zinB arg2 arg4 x0 s0) (zoutB arg3 arg5 x1 s1) (chk_all _ _ _ _ _ _ _ _ _ _ _ _ _) (harg6.read_unread xo) _ (by
      funext z; exact harg6.readAt_unread xo _ z)

theorem read_zero (v : View sig .tc .vmem S13x160x160 .f32) (f : v.ty.Contents (Elt F)) :
    v.read (Elt F) (v.writes (Elt F) f runA.sl.HO_1) = k0_pay2 := by
  funext y
  unfold runA.sl.HO_1
  rw [View.read_writes_cons_unit v f _ _ [] y rfl, dif_pos (fun a => ⟨by fin_cases a <;> exact Nat.zero_le _, by
    have := (y a).isLt; fin_cases a <;> exact lt_of_lt_of_eq (y _).isLt (Nat.zero_add _).symm⟩)]
  rfl

set_option maxHeartbeats 4000000 in
/-- The first chunk leaves `step` of zero. -/
theorem readA (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32)
    (hc0 : (Scalar.cmpi .ne (Scalar.extui (Scalar.cmpi .eq arg0 0#32)) 0#32) = 1#1) :
    arg6.view.read (Elt F) (arg6.view.writes (Elt F) arg6.view.junk (runA c b i arg0 arg1 harg1 arg2 harg2 arg3 harg3 arg4 harg4 arg5 harg5 arg6 harg6 T x0 x1 s0 s1 hc0).1) = step arg0 T x0 x1 s0 s1 k0_pay2 :=
  read_piece arg0 T x0 x1 s0 s1 k0_pay2 arg6.view arg6.view.junk runA.sl.HO_1 _ _ _ _ _ _ _ _ _ _ _ _ (twA1 _ _) (twA2 _ _) (twA3 _ _) (twA4 _ _) (twA5 _ _) (twA6 _ _) (twA7 _ _) (twA8 _ _) (twA9 _ _) (twA10 _ _) (twA11 _ _) (twA12 _ _)
    _ _ (zinA arg2 arg4 x0 s0) (zoutA arg3 arg5 x1 s1) (chk_all _ _ _ _ _ _ _ _ _ _ _ _ _) (read_zero arg6.view _) _ (by
      funext z; exact congrFun (read_zero arg6.view _) _)

end Cert.Kernel.Val
-- ==== Proof.Sched.lean ====
module

public import proofs.«01_k».proof.Proof.Body
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Affine

@[expose] public section

set_option maxRecDepth 16384
set_option Elab.async false

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The grid the tables give, and the side condition on them -/

variable (pf : pre0.Contents (Elt F))

/-- The number of chunks the tables name. -/
def nOf (pf : pre0.Contents (Elt F)) : ℕ := (pf 0 fun a => a.elim0).toNat

/-- What the precondition gives of the tables: between one and 637 chunks. -/
def Bounded (pf : pre0.Contents (Elt F)) : Prop := 1 ≤ nOf pf ∧ nOf pf ≤ 637

theorem coord_lt (hb : Bounded pf) (i : (grid0.at (dynb0 pf)).Coords) : (i 0).val < 637 := by
  have h : (i 0).val < grid0.boundAt (dynb0 pf) 0 := (i 0).isLt
  have h2 : grid0.boundAt (dynb0 pf) 0 = nOf pf := rfl
  rw [h2] at h
  exact lt_of_lt_of_le h hb.2

theorem N_eq : (grid0.at (dynb0 pf)).N = nOf pf := by
  show (List.ofFn fun a : Fin 1 => grid0.boundAt (dynb0 pf) a).prod = nOf pf
  rw [List.ofFn_succ, List.ofFn_zero, List.prod_cons, List.prod_nil, mul_one]
  rfl

theorem admits (hb : Bounded pf) : grid0.Admits (dynb0 pf) := by
  unfold Pipeline.Grid.Admits
  rw [N_eq]
  have := hb.2
  omega

theorem inb0 (hb : Bounded pf) (i : (grid0.at (dynb0 pf)).Coords) : ∀ a, (cc0_transform_0 (dynb0 pf) i a + 1) * S1x16x40x128.size a ≤ S2x10192x40x128.size a := by
  have hi := coord_lt pf hb i
  have hs : Affine.IsInt 0#32 (0) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_cons h0 (by omega) <| Affine.blk_nil

theorem inb1 (hb : Bounded pf) (i : (grid0.at (dynb0 pf)).Coords) : ∀ a, (cc0_transform_1 (dynb0 pf) i a + 1) * S1x16x40x128.size a ≤ S2x10192x40x128.size a := by
  have hi := coord_lt pf hb i
  have hs : Affine.IsInt 1#32 (1) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_cons h0 (by omega) <| Affine.blk_nil

theorem inb2 (hb : Bounded pf) (i : (grid0.at (dynb0 pf)).Coords) : ∀ a, (cc0_transform_2 (dynb0 pf) i a + 1) * S1x16x128.size a ≤ S2x10192x128.size a := by
  have hi := coord_lt pf hb i
  have hs : Affine.IsInt 0#32 (0) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_nil

theorem inb3 (hb : Bounded pf) (i : (grid0.at (dynb0 pf)).Coords) : ∀ a, (cc0_transform_3 (dynb0 pf) i a + 1) * S1x16x128.size a ≤ S2x10192x128.size a := by
  have hi := coord_lt pf hb i
  have hs : Affine.IsInt 1#32 (1) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_nil

theorem inb4 (i : (grid0.at (dynb0 pf)).Coords) : ∀ a, (cc0_transform_4 (dynb0 pf) i a + 1) * S13x160x160.size a ≤ S13x160x160.size a := by
  have h0 : Affine.IsInt 0#32 (0) := Affine.ofNat _ (by omega)
  exact Affine.blk_cons h0 (by omega) <| Affine.blk_cons h0 (by omega) <| Affine.blk_cons h0 (by omega) <| Affine.blk_nil

/-- Tables naming between one and 637 chunks meet the side condition. -/
theorem ok_of_bounded (hb : Bounded pf) : ok0 pf :=
  ⟨admits pf hb, fun i => ⟨inb0 pf hb i, .inl rfl⟩, fun i => ⟨inb1 pf hb i, .inl rfl⟩, fun i => ⟨inb2 pf hb i, .inl rfl⟩,
    fun i => ⟨inb3 pf hb i, .inl rfl⟩, fun i => ⟨inb4 pf i, .inl rfl⟩⟩

variable (hb : Bounded pf)

/-- The tables as admissible contents, and the pipeline at them. -/
def adm : (pcfg0 (F := F)).Adm := ⟨pf, ok_of_bounded pf hb⟩
abbrev cfgA : Pipeline.Cfg sig Λ₀ := cfg0 (F := F) (adm pf hb)
abbrev pcs : Fin 1 → Pipeline.Cfg sig Λ₀ := Pipeline.pin (pcfgs (F := F)) fun _ => adm pf hb

theorem NA_eq : (cfgA pf hb).N = nOf pf := N_eq pf

/-! ## A point's words and staging memrefs -/

abbrev crd (t : Fin (cfgA pf hb).N) : (cfgA pf hb).grid.Coords := (cfgA pf hb).grid.coords t
abbrev iS (t : Fin (cfgA pf hb).N) : grid0.Static := Pipeline.Grid.Coords.static grid0 (crd pf hb t)
abbrev gw (t : Fin (cfgA pf hb).N) : BitVec 32 := BitVec.ofNat 32 ((crd pf hb t) 0).val

theorem crd_val (t : Fin (cfgA pf hb).N) : ((crd pf hb t) 0).val = t.val := by
  have hN := NA_eq pf hb
  have ht := t.isLt
  have h1 : ((crd pf hb t) 0).val = t.val / (grid0.at (dynb0 pf)).stride 0 % nOf pf := rfl
  have h2 : (grid0.at (dynb0 pf)).stride 0 = 1 := by
    show (List.ofFn fun b : Fin 1 => if (0 : Fin 1) < b then grid0.boundAt (dynb0 pf) b else 1).prod = 1
    rw [List.ofFn_succ, List.ofFn_zero, List.prod_cons, List.prod_nil, mul_one]
    rfl
  rw [h1, h2, Nat.div_one, Nat.mod_eq_of_lt (by omega)]

theorem gw_eq (t : Fin (cfgA pf hb).N) : gw pf hb t = BitVec.ofNat 32 t.val := by
  show BitVec.ofNat 32 ((crd pf hb t) 0).val = _
  rw [crd_val]

abbrev ms0 (t : Fin (cfgA pf hb).N) : Memref sig .tc .vmem S1x16x40x128 .i32 := spec0_0.stage ((cfgA pf hb).slots t (0 : Fin 5))
abbrev hs0 (t : Fin (cfgA pf hb).N) : (ms0 pf hb t).IsWhole := hstage0_0 (((cfgA pf hb).slots t (0 : Fin 5)).cast nbuf0_0)

abbrev ms1 (t : Fin (cfgA pf hb).N) : Memref sig .tc .vmem S1x16x40x128 .i32 := spec0_1.stage ((cfgA pf hb).slots t (1 : Fin 5))
abbrev hs1 (t : Fin (cfgA pf hb).N) : (ms1 pf hb t).IsWhole := hstage0_1 (((cfgA pf hb).slots t (1 : Fin 5)).cast nbuf0_1)

abbrev ms2 (t : Fin (cfgA pf hb).N) : Memref sig .tc .vmem S1x16x128 .i32 := spec0_2.stage ((cfgA pf hb).slots t (2 : Fin 5))
abbrev hs2 (t : Fin (cfgA pf hb).N) : (ms2 pf hb t).IsWhole := hstage0_2 (((cfgA pf hb).slots t (2 : Fin 5)).cast nbuf0_2)

abbrev ms3 (t : Fin (cfgA pf hb).N) : Memref sig .tc .vmem S1x16x128 .i32 := spec0_3.stage ((cfgA pf hb).slots t (3 : Fin 5))
abbrev hs3 (t : Fin (cfgA pf hb).N) : (ms3 pf hb t).IsWhole := hstage0_3 (((cfgA pf hb).slots t (3 : Fin 5)).cast nbuf0_3)

abbrev ms4 (t : Fin (cfgA pf hb).N) : Memref sig .tc .vmem S13x160x160 .f32 := spec0_4.stage ((cfgA pf hb).slots t (4 : Fin 5))
abbrev hs4 (t : Fin (cfgA pf hb).N) : (ms4 pf hb t).IsWhole := hstage0_4 (((cfgA pf hb).slots t (4 : Fin 5)).cast nbuf0_4)

/-! ## The output's schedule: one block, stored into at every point, written back after the last -/

theorem idx4 (t t' : Fin (cfgA pf hb).N) : ((cfgA pf hb).win (4 : Fin 5)).index t = ((cfgA pf hb).win (4 : Fin 5)).index t' := rfl

theorem flush4 (t : Fin (cfgA pf hb).N) : ((cfgA pf hb).win (4 : Fin 5)).flush t = decide (t.val + 1 = nOf pf) := by
  have hN : (cfgA pf hb).grid.N = nOf pf := NA_eq pf hb
  rw [Pipeline.Window.flush, show ((cfgA pf hb).win (4 : Fin 5)).isOut = true from rfl, Bool.true_and]
  rw [decide_eq_false (fun ⟨h, hne⟩ => hne (idx4 pf hb _ _) : ¬∃ h : t.val + 1 < (cfgA pf hb).grid.N, ((cfgA pf hb).win (4 : Fin 5)).index ⟨t.val + 1, h⟩ ≠ ((cfgA pf hb).win (4 : Fin 5)).index t), Bool.or_false]
  exact decide_eq_decide.mpr (by rw [← hN])

theorem idle4 (i : (cfgA pf hb).grid.Coords) : (cfgA pf hb).idle (4 : Fin 5) i = false := rfl

theorem fresh4 (t : Fin (cfgA pf hb).N) : (cfgA pf hb).fresh (4 : Fin 5) t.val = decide (t.val = 0) := by
  obtain ⟨n, hn⟩ := t
  cases n with
  | zero => rfl
  | succ n =>
    have hN : (cfgA pf hb).N = nOf pf := NA_eq pf hb
    show (cfgA pf hb).fresh (4 : Fin 5) (n + 1) = _
    rw [Pipeline.Cfg.fresh_succ (cfgA pf hb) (4 : Fin 5) n (Nat.lt_of_succ_lt hn), flush4, idle4, Bool.false_and, Bool.or_false]
    rw [decide_eq_false (by have := hn; simp only; omega), decide_eq_false (by simp)]

/-- The first point is the one whose word is zero. -/
theorem first_iff (t : Fin (cfgA pf hb).N) :
    (Scalar.cmpi .ne (Scalar.extui (Scalar.cmpi .eq (gw pf hb t) 0#32)) 0#32) = 1#1 ↔ t.val = 0 := by
  rw [gw_eq]
  have hN : (cfgA pf hb).N = nOf pf := NA_eq pf hb
  have ht := t.isLt
  have h2 := hb.2
  have key : ∀ w : BitVec 32, (Scalar.cmpi .ne (Scalar.extui (Scalar.cmpi .eq w 0#32)) 0#32) = 1#1 ↔ w = 0#32 := by
    intro w
    by_cases h : w = 0#32
    · subst h; exact ⟨fun _ => rfl, fun _ => by decide⟩
    · have hw : Scalar.cmpi .eq w 0#32 = 0#1 := by
        show BitVec.ofBool (w == 0#32) = 0#1
        rw [show (w == 0#32) = false from beq_eq_false_iff_ne.mpr h]; rfl
      rw [hw]
      exact ⟨fun h' => absurd h' (by decide), fun h' => absurd h' h⟩
  rw [key]
  constructor
  · intro h
    have := congrArg BitVec.toNat h
    rw [BitVec.toNat_ofNat, Nat.mod_eq_of_lt (by omega)] at this
    exact this
  · intro h; rw [h]

end Cert.Kernel.Val

end
-- ==== Proof.Flow.lean ====
module

public import proofs.«01_k».proof.Proof.Sched

@[expose] public section

set_option maxRecDepth 16384
set_option Elab.async false

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) 𝕄 := emb₁

/-! ## The accumulator after a number of chunks -/

/-- One chunk's packed words out of one side of the packed array. -/
def blkX (side : Fin 2) (X : Vec F S2x10192x40x128 .i32) (n : ℕ) : Vec F S1x16x40x128 .i32 :=
  fun y => X (ix4 side ⟨(16 * n + (y 1).val) % 10192, Nat.mod_lt _ (by omega)⟩ (y 2) (y 3))

/-- One chunk's scale words out of one side of the scale array. -/
def blkS (side : Fin 2) (S : Vec F S2x10192x128 .i32) (n : ℕ) : Vec F S1x16x128 .i32 :=
  fun y => S (ix3 side ⟨(16 * n + (y 1).val) % 10192, Nat.mod_lt _ (by omega)⟩ (y 2))

/-- The accumulator after the first `n` chunks. -/
def accN (T : Vec F S16 .i32) (X : Vec F S2x10192x40x128 .i32) (S : Vec F S2x10192x128 .i32) : ℕ → Vec F S13x160x160 .f32
  | 0 => k0_pay2
  | n + 1 => step (BitVec.ofNat 32 n) T (blkX 0 X n) (blkX 1 X n) (blkS 0 S n) (blkS 1 S n) (accN T X S n)

variable (m : (ℓ : Loc nD τ sig) → Buf (Elt F) ℓ) (ρ : Dev nD → PrngReg)

/-- The buffers when the region begins: after the host operations. -/
def V (c : Dev nD) (b : Ref sig .tc) : Buf (Elt F) ((c.tc : Thread nD τ).loc b) := StableHlo.after hostOps0 (fun b => m (c, b)) b

/-- The tables the region is handed. -/
def tabs : pre0.Contents (Elt F) := fun k => V m 0 (pre0.ref k)

variable (hb : Bounded (tabs m))

/-- A window's block at a point, read off its array. -/
def iblk (c : Dev nD) (w : Fin (cfgA (tabs m) hb).W) (t : Fin (cfgA (tabs m) hb).N) :
    (((cfgA (tabs m) hb).win w).xblock (crd (tabs m) hb t)).Idx → Elt F ((cfgA (tabs m) hb).win w).elt :=
  (((cfgA (tabs m) hb).win w).blk t).view.read (Elt F) (V m c (Pipeline.arrRef spec0 w))

/-- The output after a point. -/
def outAt (c : Dev nD) (n : ℕ) : Vec F S13x160x160 .f32 :=
  accN (tabs m 1) (V m c main_arg0) (V m c main_arg1) n

/-- The proof data of the one pipeline. -/
def dats (_ : Fin 1) (c : Dev nD) : Dat τ (Elt F) Unit ℕ (UR sig nD τ) ℕ (cfgA (tabs m) hb) c where
  A w := V m c (Pipeline.arrRef spec0 w)
  after w t := match w with
    | ⟨0, _⟩ => iblk m hb c (0 : Fin 5) t
    | ⟨1, _⟩ => iblk m hb c (1 : Fin 5) t
    | ⟨2, _⟩ => iblk m hb c (2 : Fin 5) t
    | ⟨3, _⟩ => iblk m hb c (3 : Fin 5) t
    | ⟨4, _⟩ => outAt m c (t.val + 1)
  Φ _ := owns (c : Thread nD τ) (Memref.whole main_v0) fullShare.right (tabs m 1)
  q w := Pipeline.shareOf spec0 w
  owed _ := 0

theorem after0 (c : Dev nD) (t : Fin (cfgA (tabs m) hb).N) : (dats m hb 0 c).after (0 : Fin 5) t = iblk m hb c (0 : Fin 5) t := rfl
theorem before0 (c : Dev nD) (t : Fin (cfgA (tabs m) hb).N) (d) : (dats m hb 0 c).before (0 : Fin 5) t d = iblk m hb c (0 : Fin 5) t :=
  ((dats m hb 0 c).before_in_eq_fetched (0 : Fin 5) rfl (fun _ => rfl) (fun _ _ _ => rfl) (fun t => by rw [after0]; unfold Dat.blockOf iblk; rfl) t d).trans
    (by unfold Dat.fetched Dat.blockOf iblk; rfl)

theorem after1 (c : Dev nD) (t : Fin (cfgA (tabs m) hb).N) : (dats m hb 0 c).after (1 : Fin 5) t = iblk m hb c (1 : Fin 5) t := rfl
theorem before1 (c : Dev nD) (t : Fin (cfgA (tabs m) hb).N) (d) : (dats m hb 0 c).before (1 : Fin 5) t d = iblk m hb c (1 : Fin 5) t :=
  ((dats m hb 0 c).before_in_eq_fetched (1 : Fin 5) rfl (fun _ => rfl) (fun _ _ _ => rfl) (fun t => by rw [after1]; unfold Dat.blockOf iblk; rfl) t d).trans
    (by unfold Dat.fetched Dat.blockOf iblk; rfl)

theorem after2 (c : Dev nD) (t : Fin (cfgA (tabs m) hb).N) : (dats m hb 0 c).after (2 : Fin 5) t = iblk m hb c (2 : Fin 5) t := rfl
theorem before2 (c : Dev nD) (t : Fin (cfgA (tabs m) hb).N) (d) : (dats m hb 0 c).before (2 : Fin 5) t d = iblk m hb c (2 : Fin 5) t :=
  ((dats m hb 0 c).before_in_eq_fetched (2 : Fin 5) rfl (fun _ => rfl) (fun _ _ _ => rfl) (fun t => by rw [after2]; unfold Dat.blockOf iblk; rfl) t d).trans
    (by unfold Dat.fetched Dat.blockOf iblk; rfl)

theorem after3 (c : Dev nD) (t : Fin (cfgA (tabs m) hb).N) : (dats m hb 0 c).after (3 : Fin 5) t = iblk m hb c (3 : Fin 5) t := rfl
theorem before3 (c : Dev nD) (t : Fin (cfgA (tabs m) hb).N) (d) : (dats m hb 0 c).before (3 : Fin 5) t d = iblk m hb c (3 : Fin 5) t :=
  ((dats m hb 0 c).before_in_eq_fetched (3 : Fin 5) rfl (fun _ => rfl) (fun _ _ _ => rfl) (fun t => by rw [after3]; unfold Dat.blockOf iblk; rfl) t d).trans
    (by unfold Dat.fetched Dat.blockOf iblk; rfl)

theorem iblk0_eq (c : Dev nD) (t : Fin (cfgA (tabs m) hb).N) : (iblk m hb c (0 : Fin 5) t : Vec F S1x16x40x128 .i32) = blkX 0 (V m c main_arg0) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg0 _ = V m c main_arg0 _
  refine congrArg (V m c main_arg0) (funext fun a => Fin.ext ?_)
  match a with
  | ⟨0, _⟩ =>
    show (BitVec.ofNat 32 0).toNat * 1 + 1 * (y 0).val = 0
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 40 + 1 * (y 2).val = (y 2).val
    rw [BitVec.toNat_ofNat]; omega
  | ⟨3, _⟩ =>
    show (BitVec.ofNat 32 0).toNat * 128 + 1 * (y 3).val = (y 3).val
    rw [BitVec.toNat_ofNat]; omega

theorem iblk1_eq (c : Dev nD) (t : Fin (cfgA (tabs m) hb).N) : (iblk m hb c (1 : Fin 5) t : Vec F S1x16x40x128 .i32) = blkX 1 (V m c main_arg0) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg0 _ = V m c main_arg0 _
  refine congrArg (V m c main_arg0) (funext fun a => Fin.ext ?_)
  match a with
  | ⟨0, _⟩ =>
    show (BitVec.ofNat 32 1).toNat * 1 + 1 * (y 0).val = 1
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 40 + 1 * (y 2).val = (y 2).val
    rw [BitVec.toNat_ofNat]; omega
  | ⟨3, _⟩ =>
    show (BitVec.ofNat 32 0).toNat * 128 + 1 * (y 3).val = (y 3).val
    rw [BitVec.toNat_ofNat]; omega

theorem iblk2_eq (c : Dev nD) (t : Fin (cfgA (tabs m) hb).N) : (iblk m hb c (2 : Fin 5) t : Vec F S1x16x128 .i32) = blkS 0 (V m c main_arg1) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg1 _ = V m c main_arg1 _
  refine congrArg (V m c main_arg1) (funext fun a => Fin.ext ?_)
  match a with
  | ⟨0, _⟩ =>
    show (BitVec.ofNat 32 0).toNat * 1 + 1 * (y 0).val = 0
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 128 + 1 * (y 2).val = (y 2).val
    rw [BitVec.toNat_ofNat]; omega

theorem iblk3_eq (c : Dev nD) (t : Fin (cfgA (tabs m) hb).N) : (iblk m hb c (3 : Fin 5) t : Vec F S1x16x128 .i32) = blkS 1 (V m c main_arg1) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg1 _ = V m c main_arg1 _
  refine congrArg (V m c main_arg1) (funext fun a => Fin.ext ?_)
  match a with
  | ⟨0, _⟩ =>
    show (BitVec.ofNat 32 1).toNat * 1 + 1 * (y 0).val = 1
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 128 + 1 * (y 2).val = (y 2).val
    rw [BitVec.toNat_ofNat]; omega

theorem after4 (c : Dev nD) (t : Fin (cfgA (tabs m) hb).N) : (dats m hb 0 c).after (4 : Fin 5) t = outAt m c (t.val + 1) := rfl

theorem before4 (c : Dev nD) (t : Fin (cfgA (tabs m) hb).N) (d) :
    (dats m hb 0 c).before (4 : Fin 5) t d = if t.val = 0 then d else outAt m c t.val := by
  rw [(dats m hb 0 c).before_out_traj (4 : Fin 5) rfl (fun _ _ => rfl) (fun t _ hi _ => absurd hi (by rw [idle4]; decide)) t.val t rfl d, fresh4]
  by_cases h0 : t.val = 0
  · rw [if_pos h0, if_pos (decide_eq_true h0)]
  · rw [if_neg h0, if_neg (by rw [decide_eq_false h0]; decide), after4]
    exact congrArg (outAt m c) (by show t.val - 1 + 1 = t.val; omega)

theorem outAt_succ (c : Dev nD) (t : Fin (cfgA (tabs m) hb).N) :
    outAt m c (t.val + 1) = step (gw (tabs m) hb t) (tabs m 1) (iblk m hb c (0 : Fin 5) t) (iblk m hb c (1 : Fin 5) t) (iblk m hb c (2 : Fin 5) t) (iblk m hb c (3 : Fin 5) t) (outAt m c t.val) := by
  rw [gw_eq, iblk0_eq, iblk1_eq, iblk2_eq, iblk3_eq]; rfl

/-! ## The body obligation -/

/-- The body at a point on its staging memrefs, as the pipeline calls it. -/
abbrev bodyAt0 (t : Fin (cfgA (tabs m) hb).N) : Prog (TpuEff nD τ sig (Elt F) Λ₀ .tc) PUnit :=
  cc0_pair_matmul0 (dynb0 (tabs m)) (iS (tabs m) hb t) (gw (tabs m) hb t) (Memref.whole main_v0) (Memref.isWhole_whole _) (ms0 (tabs m) hb t) (hs0 (tabs m) hb t) (ms1 (tabs m) hb t) (hs1 (tabs m) hb t)
    (ms2 (tabs m) hb t) (hs2 (tabs m) hb t) (ms3 (tabs m) hb t) (hs3 (tabs m) hb t) (ms4 (tabs m) hb t) (hs4 (tabs m) hb t)

set_option maxHeartbeats 4000000 in
/-- The body at a point: the input blocks stay, the output becomes the accumulator after one more chunk. -/
theorem sound_body (c : Dev nD) (t : Fin (cfgA (tabs m) hb).N) :
    iprop((dats m hb 0 c).Φ t.castSucc ∗ (dats m hb 0 c).owesAt () t.castSucc
        ∗ (∃ d, owns (c : Thread nD τ) (ms0 (tabs m) hb t) fullShare ((dats m hb 0 c).before (0 : Fin 5) t d))
        ∗ (∃ d, owns (c : Thread nD τ) (ms1 (tabs m) hb t) fullShare ((dats m hb 0 c).before (1 : Fin 5) t d))
        ∗ (∃ d, owns (c : Thread nD τ) (ms2 (tabs m) hb t) fullShare ((dats m hb 0 c).before (2 : Fin 5) t d))
        ∗ (∃ d, owns (c : Thread nD τ) (ms3 (tabs m) hb t) fullShare ((dats m hb 0 c).before (3 : Fin 5) t d))
        ∗ (∃ d, owns (c : Thread nD τ) (ms4 (tabs m) hb t) fullShare ((dats m hb 0 c).before (4 : Fin 5) t d)))
      ⊢ wp frame (wpE (defs₀ (F := F)) Variants.none c none) Set.univ (bodyAt0 m hb t) fun _ =>
          iprop((dats m hb 0 c).Φ t.succ ∗ (dats m hb 0 c).owesAt () t.succ
            ∗ owns (c : Thread nD τ) (ms0 (tabs m) hb t) fullShare ((dats m hb 0 c).after (0 : Fin 5) t)
            ∗ owns (c : Thread nD τ) (ms1 (tabs m) hb t) fullShare ((dats m hb 0 c).after (1 : Fin 5) t)
            ∗ owns (c : Thread nD τ) (ms2 (tabs m) hb t) fullShare ((dats m hb 0 c).after (2 : Fin 5) t)
            ∗ owns (c : Thread nD τ) (ms3 (tabs m) hb t) fullShare ((dats m hb 0 c).after (3 : Fin 5) t)
            ∗ owns (c : Thread nD τ) (ms4 (tabs m) hb t) fullShare ((dats m hb 0 c).after (4 : Fin 5) t)) := by
  simp only [before0, before1, before2, before3, before4, after0, after1, after2, after3, after4]
  rewrite [show (dats m hb 0 c).Φ t.succ = owns (c : Thread nD τ) (Memref.whole main_v0) fullShare.right (tabs m 1) from rfl,
    show (dats m hb 0 c).Φ t.castSucc = owns (c : Thread nD τ) (Memref.whole main_v0) fullShare.right (tabs m 1) from rfl,
    show (dats m hb 0 c).owesAt () t.succ = (dats m hb 0 c).owesAt () t.castSucc from rfl]
  by_cases h0 : t.val = 0
  · have hc0 := (first_iff (tabs m) hb t).mpr h0
    simp only [h0, ↓reduceIte]
    rewrite [show outAt m c (0 + 1) = step (gw (tabs m) hb t) (tabs m 1) (iblk m hb c (0 : Fin 5) t) (iblk m hb c (1 : Fin 5) t) (iblk m hb c (2 : Fin 5) t) (iblk m hb c (3 : Fin 5) t) k0_pay2 from by
      have h := outAt_succ m hb c t; rw [h0] at h; exact h]
    iintro ⟨HT, Ho, ⟨%d0, H0⟩, ⟨%d1, H1⟩, ⟨%d2, H2⟩, ⟨%d3, H3⟩, ⟨%d4, H4⟩⟩
    iapply ((runA c (dynb0 (tabs m)) (iS (tabs m) hb t) (gw (tabs m) hb t) (Memref.whole main_v0) (Memref.isWhole_whole _) (ms0 (tabs m) hb t) (hs0 (tabs m) hb t) (ms1 (tabs m) hb t) (hs1 (tabs m) hb t)
      (ms2 (tabs m) hb t) (hs2 (tabs m) hb t) (ms3 (tabs m) hb t) (hs3 (tabs m) hb t) (ms4 (tabs m) hb t) (hs4 (tabs m) hb t)
      (tabs m 1) (iblk m hb c (0 : Fin 5) t) (iblk m hb c (1 : Fin 5) t) (iblk m hb c (2 : Fin 5) t) (iblk m hb c (3 : Fin 5) t) hc0).2 _)
    isplitl [HT]; · iapply rep_of_owns; iexact HT
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iexists _; iexact H4
    iintro ⟨HT, H0, H1, H2, H3, H4⟩
    isplitl [HT]; · iapply owns_of_rep; iexact HT
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact readA c _ _ _ _ _ _ _ _ _ _ _ _ _ _ _ _ _ _ _ _ hc0
  · have hc0 : ¬_ := fun h => h0 ((first_iff (tabs m) hb t).mp h)
    simp only [h0, ↓reduceIte]
    rewrite [outAt_succ m hb c t]
    iintro ⟨HT, Ho, ⟨%d0, H0⟩, ⟨%d1, H1⟩, ⟨%d2, H2⟩, ⟨%d3, H3⟩, ⟨%d4, H4⟩⟩
    iapply ((runB c (dynb0 (tabs m)) (iS (tabs m) hb t) (gw (tabs m) hb t) (Memref.whole main_v0) (Memref.isWhole_whole _) (ms0 (tabs m) hb t) (hs0 (tabs m) hb t) (ms1 (tabs m) hb t) (hs1 (tabs m) hb t)
      (ms2 (tabs m) hb t) (hs2 (tabs m) hb t) (ms3 (tabs m) hb t) (hs3 (tabs m) hb t) (ms4 (tabs m) hb t) (hs4 (tabs m) hb t)
      (tabs m 1) (iblk m hb c (0 : Fin 5) t) (iblk m hb c (1 : Fin 5) t) (iblk m hb c (2 : Fin 5) t) (iblk m hb c (3 : Fin 5) t) (outAt m c t.val) hc0).2 _)
    isplitl [HT]; · iapply rep_of_owns; iexact HT
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iexact H4
    iintro ⟨HT, H0, H1, H2, H3, H4⟩
    isplitl [HT]; · iapply owns_of_rep; iexact HT
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact readB c _ _ _ _ _ _ _ _ _ _ _ _ _ _ _ _ _ _ _ _ _ hc0

set_option maxHeartbeats 1000000 in
/-- The library's body obligation, at every point. -/
theorem body_obligation (c : Dev nD) : BodyObligation (dats m hb 0 c) (defs₀ (F := F)) Variants.none () Set.univ := fun t => by
  rw [bigSep_W0, bigSep_W0]
  exact sound_body m hb c t

/-! ## The launch -/

/-- The rounds library's launch element. -/
def u₀ : UR sig nD τ :=
  initOf (Pipeline.cells (pcs (tabs m) hb) (cellOf_inj (F := F) fun _ => adm (tabs m) hb))
    (Pipeline.launchToks (pcs (tabs m) hb) (cellOf_inj (F := F) fun _ => adm (tabs m) hb))

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v2) ↦{q 0} v 0) ∗ (((c : Thread nD τ).loc main_v0) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm (tabs m) hb).1 ∗ Pipeline.scopedRest spec0 c) ⊢ (dats m hb 0 c).Φ 0 := by
  rw [prefHeld_eq, scopedRest0_eq, show (dats m hb 0 c).Φ 0 = owns (c : Thread nD τ) (Memref.whole main_v0) fullShare.right (tabs m 1) from rfl]
  have h : (iprop(BI.emp ∗ ((((c : Thread nD τ).loc main_v2) ↦{fullShare.right} (adm (tabs m) hb).1 0) ∗ (((c : Thread nD τ).loc main_v0) ↦{fullShare.right} (adm (tabs m) hb).1 1)) ∗ BI.emp) : sProp 𝕄)
      ⊢ (((c : Thread nD τ).loc main_v0) ↦{fullShare.right} tabs m 1) := by
    iintro ⟨-, ⟨-, HT1⟩, -⟩
    iexact HT1
  rw [← owns_whole (c : Thread nD τ) main_v0 fullShare.right (tabs m 1)] at h
  exact h

theorem phiN_exit (c : Dev nD) : (dats m hb 0 c).Φ (Fin.last (cfgA (tabs m) hb).N) ⊢ iprop(BI.emp ∗ Pipeline.scopedRest spec0 c) := by
  rw [scopedRest0_eq]
  iintro -
  isplitr; · iempintro
  iempintro

/-- The physical post: every array at what the library computes, the chunk bounds unchanged. -/
def QC : PUnit × MemSt nD τ sig (Elt F) → Prop := fun r =>
  ∀ c : Dev nD, (∀ w : Fin (cfgA (tabs m) hb).W, r.2.mem (((cfgA (tabs m) hb).win w).arr.view.loc (c : Thread nD τ)) = (dats m hb 0 c).arrAt w (cfgA (tabs m) hb).N)
    ∧ r.2.mem ((c : Thread nD τ).loc main_arg2) = V m c main_arg2

theorem V_pre (c : Dev nD) (j : Fin 2) : V m c (pre0.ref j) = (adm (tabs m) hb).1 j := by
  obtain rfl : c = 0 := Subsingleton.elim _ _
  rfl

set_option backward.isDefEq.respectTransparency.types false in
set_option maxHeartbeats 4000000 in
/-- Every weakly fair run terminates with each array at the computed contents and every semaphore at zero. -/
theorem run_main_quiescent : θ_run (defs (F := F)) (onTc (τ := τ) (main (F := F))) ⟨m, fun _ => 0, ρ⟩ (fun r => QC m hb r ∧ r.2.sem = fun _ => 0) :=
  Pipeline.θ_run_region_noSem_pf_quiescent pcfgs (fun _ => adm (tabs m) hb) (dats m hb) () (cellOf_inj (F := F) fun _ => adm (tabs m) hb) (0 : Fin 1)
    winFacts₀0 preFacts0 EP defs₀ Variants.none m ρ main
    (hbody := fun c => (body_obligation m hb c).loose) (hne := block_pos0)
    (harr := arr_whole0) (hstage := stage_whole0) (howed := fun _ _ => rfl)
    (u₀ := u₀ m hb) (hu₀ := .rfl)
    (V := V m)
    (hmain := Pipeline.hmainP_prefix pcfgs 0 defs₀ Variants.none m main hostOps0 hostOps0_sub ⟨rfl, rfl, rfl⟩ main_chain)
    (hsplit := fun c => Pipeline.Dat.arrays_split_shared (dats m hb 0 c) sharedIn0 arr_whole0 (fun _ _ => rfl) (V m c) _ fun _ => rfl)
    (hpf := V_pre m hb)
    (X := fun _ => iprop(emp)) (Y := fun _ => iprop(emp)) (Z := fun c => iprop(((c : Thread nD τ).loc main_arg2) ↦{fullShare} V m c main_arg2))
    (hX := fun c => by
      rw [unscopedRestP0_eq]; iintro ⟨H2, -⟩
      isplitr; · iempintro
      iexact H2)
    (hin := phi0_intro m hb)
    (hout := phiN_exit m hb)
    (QY := fun c s => s.mem ((c : Thread nD τ).loc main_arg2) = V m c main_arg2)
    (hY := fun c s' => by
      iintro ⟨-, H2, HSI⟩
      icombine HSI H2 gives %h2
      imodintro
      isplitr; · ipureintro; exact Buf.eq_of_forall_mem_univ h2
      iexact HSI)
    (hQ := fun _ h hz => ⟨fun c => ⟨(h c).1, (h c).2.2⟩, hz⟩)

theorem V_arg0 (c : Dev nD) : V m c main_arg0 = m ((c.tc : Thread nD τ).loc main_arg0) := by
  unfold V; after_results
theorem V_arg1 (c : Dev nD) : V m c main_arg1 = m ((c.tc : Thread nD τ).loc main_arg1) := by
  unfold V; after_results
theorem V_arg2 (c : Dev nD) : V m c main_arg2 = m ((c.tc : Thread nD τ).loc main_arg2) := by
  unfold V; after_results
theorem V_v0 (c : Dev nD) : V m c main_v0 = extractStridedSlice S16 ![0] (m ((c.tc : Thread nD τ).loc main_arg2)) slices_S32_S16_0 := by
  unfold V; after_results
theorem V_v2 (c : Dev nD) : V m c main_v2 = shapeCast S_ (extractStridedSlice S1 ![13] (extractStridedSlice S16 ![0] (m ((c.tc : Thread nD τ).loc main_arg2)) slices_S32_S16_0) slices_S16_S1_13) shapeCasts_S1_S_ := by
  unfold V; after_results
  rfl

end Cert.Kernel.Val

end
-- ==== Proof.Res.lean ====
module

public import proofs.«01_k».proof.Proof.Flow
public import proofs.«01_k».proof.Pre_chunks_in_order
public import Idealize.ShloMosaic.Lib.ReduceAll

@[expose] public section

set_option maxRecDepth 16384
set_option Elab.async false

noncomputable section

namespace Cert.Kernel.Val

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hb : Bounded (tabs m))

/-! ## What the run leaves behind -/

/-- The last chunk's grid point, the only one at which the output is written back. -/
def tl : Fin (cfgA (tabs m) hb).N := ⟨nOf (tabs m) - 1, by have h := NA_eq (tabs m) hb; have h1 := hb.1; omega⟩

theorem arr4_final (c : Dev nD) : (dats m hb 0 c).arrAt (4 : Fin 5) (cfgA (tabs m) hb).N = outAt m c (nOf (tabs m)) := by
  refine (dats m hb 0 c).arrAt_eq_of_cover (4 : Fin 5) (outAt m c (nOf (tabs m))) (fun t hf => ?_) (fun i => ⟨tl m hb, ?_, ?_⟩)
  · rw [flush4] at hf
    have ht : t.val + 1 = nOf (tabs m) := of_decide_eq_true hf
    funext y
    show outAt m c (t.val + 1) _ = outAt m c (nOf (tabs m)) _
    rw [ht]
    refine congrArg _ (funext fun a => Fin.ext ?_)
    fin_cases a <;> (first | rfl | (show _ = 0 + _; simp))
  · rw [flush4]
    exact decide_eq_true (by have h1 := hb.1; show nOf (tabs m) - 1 + 1 = _; omega)
  · have e : (((cfgA (tabs m) hb).win (4 : Fin 5)).blk (tl m hb)).view.emb i = i := by
      refine (funext fun a => Fin.ext ?_)
      fin_cases a <;> (first | rfl | (show 0 + _ = _; simp))
    exact e ▸ View.emb_mem_set _ i

theorem args_final {r : PUnit × MemSt nD τ sig (Elt F)} (h : QC m hb r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 (0 : Fin 5)).trans (((dats m hb 0 c).arrAt_in (0 : Fin 5) rfl _).trans (V_arg0 m c)),
   ((h c).1 (2 : Fin 5)).trans (((dats m hb 0 c).arrAt_in (2 : Fin 5) rfl _).trans (V_arg1 m c)),
   (h c).2.trans (V_arg2 m c)⟩

theorem res_final {r : PUnit × MemSt nD τ sig (Elt F)} (h : QC m hb r) (c : Dev nD) :
    r.2.mem ((c.tc : Thread nD τ).loc main_v3) = outAt m c (nOf (tabs m)) :=
  ((h c).1 (4 : Fin 5)).trans (arr4_final m hb c)

include hb in
/-- The run terminates with its arguments unchanged and every semaphore at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_final m hb h.1, h.2⟩) (run_main_quiescent m ρ hb)

include hb in
/-- The run leaves the accumulator after the last chunk in the result array. -/
theorem value : θ_run (defs (F := F)) (onTc (τ := τ) (main (F := F))) ⟨m, fun _ => 0, ρ⟩ (fun r => ∀ c : Dev nD,
      r.2.mem ((c.tc : Thread nD τ).loc main_v3) = outAt m c (nOf (tabs m))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨res_final m hb h.1 c, args_final m hb h.1 c⟩) (run_main_quiescent m ρ hb)

/-! ## The precondition read off -/

/-- The precondition's meaning on the chunk-bound words. -/
structure Ordered (B : Fin 14 → BitVec 32) : Prop where
  zero : B 0 = 0#32
  mono : ∀ k : Fin 13, (B k.castSucc).toInt ≤ (B k.succ).toInt
  lo : 1 ≤ (B 13).toInt
  hi : (B 13).toInt ≤ 637

theorem and_one {a b : BitVec 1} (h : a &&& b = 1#1) : a = 1#1 ∧ b = 1#1 := by
  revert h; revert a b; decide

instance : Subsingleton (Cert.Pre_chunks_in_order.S_).Idx := ⟨fun a b => funext fun x => x.elim0⟩

instance : Subsingleton (Cert.Pre_chunks_in_order.S1).Idx := ⟨fun a b => funext fun x => Fin.ext (by
  have ha := (a x).isLt
  have hb := (b x).isLt
  obtain rfl : x = 0 := Subsingleton.elim _ _
  change _ < 1 at ha
  change _ < 1 at hb
  omega)⟩

theorem word_at (a2 : IVec Cert.Pre_chunks_in_order.S32 32) (o : ℕ) (ho : o < 14) (h1 h2 h3) (i) :
    shapeCast Cert.Pre_chunks_in_order.S_ (extractStridedSlice Cert.Pre_chunks_in_order.S1 ![o] (extractStridedSlice Cert.Pre_chunks_in_order.S14 ![0] a2 h1) h2) h3 i
      = a2 (ix1 ⟨o, by omega⟩) := by
  have e : ∀ (v : IVec Cert.Pre_chunks_in_order.S1 32), shapeCast Cert.Pre_chunks_in_order.S_ v h3 i = v (ix1 0) := fun v => congrArg v (Subsingleton.elim _ _)
  rw [e]
  refine congrArg a2 (funext fun a => Fin.ext ?_)
  obtain rfl : a = 0 := Subsingleton.elim _ _
  show 0 + (o + 0) = o
  omega

theorem ordered_of_pre [Cert.Pre_chunks_in_order.Facts] (a0 a1) (a2 : IVec S32 32)
    (h : Cert.Pre_chunks_in_order.fn (F := F) a0 a1 a2 = fun _ => 1#1) : Ordered fun k => a2 (ix1 ⟨k.val, by omega⟩) := by
  have h0 := congrFun h (fun a => a.elim0)
  obtain ⟨h1, hhi⟩ := and_one h0
  obtain ⟨h2, hlo⟩ := and_one h1
  obtain ⟨hz, hm⟩ := and_one h2
  refine ⟨?_, fun k => ?_, ?_, ?_⟩
  · exact (word_at a2 0 (by decide) _ _ _ _).symm.trans (IntOp.cmpi_eq.1 hz)
  · have e := IntOp.cmpi_sle.1 (Host.reduce_andi_all _ _ _ _ _ hm (ix1 k))
    have e1 : ∀ (o : ℕ) (h1 h2) (ho : o + k.val < 32), extractStridedSlice Cert.Pre_chunks_in_order.S13 ![o] (extractStridedSlice Cert.Pre_chunks_in_order.S14 ![0] a2 h1) h2 (ix1 k) = a2 (ix1 ⟨o + k.val, ho⟩) := fun o h1 h2 ho => by
      refine congrArg a2 (funext fun a => Fin.ext ?_)
      obtain rfl : a = 0 := Subsingleton.elim _ _
      show 0 + (o + k.val) = o + k.val
      omega
    have e2 := e1 0 Cert.Pre_chunks_in_order.Facts.slices_S32_S14_0 Cert.Pre_chunks_in_order.Facts.slices_S14_S13_0 (by omega)
    have e3 := e1 1 Cert.Pre_chunks_in_order.Facts.slices_S32_S14_0 Cert.Pre_chunks_in_order.Facts.slices_S14_S13_1 (by omega)
    have e4 : (a2 (ix1 ⟨0 + k.val, by omega⟩)).toInt ≤ (a2 (ix1 ⟨1 + k.val, by omega⟩)).toInt := by
      rw [← e2, ← e3]; exact e
    have q1 : (⟨0 + k.val, by omega⟩ : Fin 32) = ⟨k.castSucc.val, by have := k.castSucc.isLt; omega⟩ := Fin.ext (Nat.zero_add _)
    have q2 : (⟨1 + k.val, by omega⟩ : Fin 32) = ⟨k.succ.val, by have := k.succ.isLt; omega⟩ := Fin.ext (Nat.add_comm _ _)
    rw [q1, q2] at e4
    exact e4
  · have e := IntOp.cmpi_sge.1 hlo
    have w := word_at a2 13 (by decide) Cert.Pre_chunks_in_order.Facts.slices_S32_S14_0 Cert.Pre_chunks_in_order.Facts.slices_S14_S1_13 Cert.Pre_chunks_in_order.Facts.shapeCasts_S1_S_ (fun a => a.elim0)
    show 1 ≤ (a2 (ix1 ⟨13, by omega⟩)).toInt
    rw [← w]
    exact e
  · have e := IntOp.cmpi_sle.1 hhi
    have w := word_at a2 13 (by decide) Cert.Pre_chunks_in_order.Facts.slices_S32_S14_0 Cert.Pre_chunks_in_order.Facts.slices_S14_S1_13 Cert.Pre_chunks_in_order.Facts.shapeCasts_S1_S_ (fun a => a.elim0)
    show (a2 (ix1 ⟨13, by omega⟩)).toInt ≤ 637
    rw [← w]
    exact e

/-- Chunk bounds in order, as natural numbers. -/
theorem Ordered.nonneg {B : Fin 14 → BitVec 32} (h : Ordered B) : ∀ (n : ℕ) (hn : n < 14), 0 ≤ (B ⟨n, hn⟩).toInt
  | 0, _ => by have := h.zero; rw [show (⟨0, by omega⟩ : Fin 14) = 0 from rfl, this]; decide
  | n + 1, hn => le_trans (h.nonneg n (by omega)) (h.mono ⟨n, by omega⟩)

theorem Ordered.toInt {B : Fin 14 → BitVec 32} (h : Ordered B) (k : Fin 14) : (B k).toInt = ((B k).toNat : ℤ) := by
  have h0 := h.nonneg k.val k.isLt
  have h3 := (B k).isLt
  rw [BitVec.toInt_eq_toNat_cond] at h0 ⊢
  split at h0 <;> rename_i hh
  · rw [if_pos hh]
  · omega

theorem Ordered.mono_nat {B : Fin 14 → BitVec 32} (h : Ordered B) (k : Fin 13) : (B k.castSucc).toNat ≤ (B k.succ).toNat := by
  have := h.mono k
  rw [h.toInt, h.toInt] at this
  exact_mod_cast this

theorem Ordered.hi_nat {B : Fin 14 → BitVec 32} (h : Ordered B) : (B 13).toNat ≤ 637 := by
  have := h.hi
  rw [h.toInt] at this
  exact_mod_cast this

theorem Ordered.le_of_le {B : Fin 14 → BitVec 32} (h : Ordered B) (i : ℕ) (hi : i < 14) : ∀ (j : ℕ) (hj : j < 14), i ≤ j → (B ⟨i, hi⟩).toNat ≤ (B ⟨j, hj⟩).toNat
  | 0, hj, hij => by
    obtain rfl : i = 0 := by omega
    exact le_refl _
  | j + 1, hj, hij => by
    by_cases e : i = j + 1
    · subst e; exact le_refl _
    · exact le_trans (h.le_of_le i hi j (by omega) (by omega)) (h.mono_nat ⟨j, by omega⟩)

/-! ## The launch's tables in terms of the chunk bounds -/

/-- The chunk-bound words the kernel is handed. -/
def B : Fin 14 → BitVec 32 := fun k => m (((0 : Dev nD).tc : Thread nD τ).loc main_arg2) (ix1 ⟨k.val, by omega⟩)

theorem tabs1 (k : Fin 14) : tabs m 1 (ix1 ⟨k.val, by omega⟩) = B m k := by
  refine (congrFun (V_v0 m 0) _).trans ?_
  refine congrArg (m (((0 : Dev nD).tc : Thread nD τ).loc main_arg2)) (funext fun a => Fin.ext ?_)
  obtain rfl : a = (0 : Fin 1) := Subsingleton.elim (α := Fin 1) _ _
  show 0 + k.val = k.val
  omega

theorem nOf_eq : nOf (tabs m) = (B m 13).toNat := by
  have e : tabs m 0 (fun a => a.elim0) = B m 13 := by
    refine (congrFun (V_v2 m 0) _).trans ?_
    have e : ∀ (v : IVec Cert.Pre_chunks_in_order.S1 32) (i) (h3), shapeCast S_ v h3 i = v (ix1 0) := fun v i h3 => congrArg v (Subsingleton.elim _ _)
    refine (e _ _ _).trans ?_
    refine congrArg (m (((0 : Dev nD).tc : Thread nD τ).loc main_arg2)) (funext fun a => Fin.ext ?_)
    obtain rfl : a = (0 : Fin 1) := Subsingleton.elim (α := Fin 1) _ _
    rfl
  exact congrArg BitVec.toNat e

/-- Chunk bounds in order make the grid's size an admissible one. -/
theorem bounded (h : Ordered (B m)) : Bounded (tabs m) := by
  have h1 := h.lo
  have h2 := h.hi
  rw [BitVec.toInt_eq_toNat_cond] at h1 h2
  have h3 := (B m 13).isLt
  unfold Bounded
  rw [nOf_eq]
  split at h1 <;> omega

end Cert.Kernel.Val

end
-- ==== Proof.SecondRes.lean ====
module

public import proofs.«01_k».proof.Proof.SecondFlow
public import proofs.«01_k».proof.Proof.Shift
public import proofs.«01_k».proof.Proof.Res

@[expose] public section

set_option maxRecDepth 16384
set_option Elab.async false

noncomputable section

namespace Cert.Kernel1.Val

open Cert.Kernel1 Cert.Kernel1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hb : Bounded (tabs m))

/-! ## What the run leaves behind -/

/-- The last chunk's grid point, the only one at which the output is written back. -/
def tl : Fin (cfgA (tabs m) hb).N := ⟨nOf (tabs m) - 1, by have h := NA_eq (tabs m) hb; have h1 := hb.1; omega⟩

theorem arr4_final (c : Dev nD) : (dats m hb 0 c).arrAt (4 : Fin 5) (cfgA (tabs m) hb).N = outAt m c (nOf (tabs m)) := by
  refine (dats m hb 0 c).arrAt_eq_of_cover (4 : Fin 5) (outAt m c (nOf (tabs m))) (fun t hf => ?_) (fun i => ⟨tl m hb, ?_, ?_⟩)
  · rw [flush4] at hf
    have ht : t.val + 1 = nOf (tabs m) := of_decide_eq_true hf
    funext y
    show outAt m c (t.val + 1) _ = outAt m c (nOf (tabs m)) _
    rw [ht]
    refine congrArg _ (funext fun a => Fin.ext ?_)
    fin_cases a <;> (first | rfl | (show _ = 0 + _; simp))
  · rw [flush4]
    exact decide_eq_true (by have h1 := hb.1; show nOf (tabs m) - 1 + 1 = _; omega)
  · have e : (((cfgA (tabs m) hb).win (4 : Fin 5)).blk (tl m hb)).view.emb i = i := by
      refine (funext fun a => Fin.ext ?_)
      fin_cases a <;> (first | rfl | (show 0 + _ = _; simp))
    exact e ▸ View.emb_mem_set _ i

theorem args_final {r : PUnit × MemSt nD τ sig (Elt F)} (h : QC m hb r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 (0 : Fin 5)).trans (((dats m hb 0 c).arrAt_in (0 : Fin 5) rfl _).trans (V_arg0 m c)),
   ((h c).1 (2 : Fin 5)).trans (((dats m hb 0 c).arrAt_in (2 : Fin 5) rfl _).trans (V_arg1 m c)),
   (h c).2.trans (V_arg2 m c)⟩

theorem res_final {r : PUnit × MemSt nD τ sig (Elt F)} (h : QC m hb r) (c : Dev nD) :
    r.2.mem ((c.tc : Thread nD τ).loc main_v3) = outAt m c (nOf (tabs m)) :=
  ((h c).1 (4 : Fin 5)).trans (arr4_final m hb c)

include hb in
/-- The run terminates with its arguments unchanged and every semaphore at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_final m hb h.1, h.2⟩) (run_main_quiescent m ρ hb)

include hb in
/-- The run leaves the accumulator after the last chunk in the result array. -/
theorem value : θ_run (defs (F := F)) (onTc (τ := τ) (main (F := F))) ⟨m, fun _ => 0, ρ⟩ (fun r => ∀ c : Dev nD,
      r.2.mem ((c.tc : Thread nD τ).loc main_v3) = outAt m c (nOf (tabs m))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨res_final m hb h.1 c, args_final m hb h.1 c⟩) (run_main_quiescent m ρ hb)

/-! ## The precondition read off -/

open Cert.Val (turn)
open Cert.Kernel.Val (Ordered)

/-- The precondition puts the second batch's chunk bounds in order. -/
theorem ordered_of_pre [Cert.Pre_chunks_in_order.Facts] [Cert.Pre_chunks_in_order1.Facts] (a0 a1) (a2 : IVec S32 32)
    (h : Cert.Pre_chunks_in_order1.fn (F := F) a0 a1 a2 = fun _ => 1#1) : Ordered fun k => turn a2 (ix1 (⟨k.val, by omega⟩ : Fin 32)) :=
  Cert.Kernel.Val.ordered_of_pre (F := F) a0 a1 (turn a2) ((Cert.Val.pre_turn a0 a1 a2).symm.trans h)

/-! ## The launch's tables in terms of the chunk bounds -/

/-- The chunk-bound words the kernel is handed. -/
def B : Fin 14 → BitVec 32 := fun k => turn (m (((0 : Dev nD).tc : Thread nD τ).loc main_arg2)) (ix1 (⟨k.val, by omega⟩ : Fin 32))

theorem tabs1 (k : Fin 14) : tabs m 1 (ix1 ⟨k.val, by omega⟩) = B m k := by
  refine (congrFun (V_v0 m 0) _).trans ?_
  refine congrArg (m (((0 : Dev nD).tc : Thread nD τ).loc main_arg2)) (funext fun a => Fin.ext ?_)
  obtain rfl : a = (0 : Fin 1) := Subsingleton.elim (α := Fin 1) _ _
  show 16 + k.val = (16 + k.val) % 32
  omega

theorem nOf_eq : nOf (tabs m) = (B m 13).toNat := by
  have e : tabs m 0 (fun a => a.elim0) = B m 13 := by
    refine (congrFun (V_v2 m 0) _).trans ?_
    have e : ∀ (v : IVec Cert.Pre_chunks_in_order.S1 32) (i) (h3), shapeCast S_ v h3 i = v (ix1 0) := fun v i h3 => congrArg v (Subsingleton.elim _ _)
    refine (e _ _ _).trans ?_
    refine congrArg (m (((0 : Dev nD).tc : Thread nD τ).loc main_arg2)) (funext fun a => Fin.ext ?_)
    obtain rfl : a = (0 : Fin 1) := Subsingleton.elim (α := Fin 1) _ _
    rfl
  exact congrArg BitVec.toNat e

/-- Chunk bounds in order make the grid's size an admissible one. -/
theorem bounded (h : Ordered (B m)) : Bounded (tabs m) := by
  have h1 := h.lo
  have h2 := h.hi
  rw [BitVec.toInt_eq_toNat_cond] at h1 h2
  have h3 := (B m 13).isLt
  unfold Bounded
  rw [nOf_eq]
  split at h1 <;> omega

end Cert.Kernel1.Val

end
-- ==== Proof.SecondIdealRuns.lean ====
module

public import proofs.«01_k».proof.Proof.Gen.Kernel1Ideal
public import proofs.«01_k».proof.Proof.Gen.Kernel1Ideal.Launch
public import proofs.«01_k».proof.Proof.Gen.Kernel1Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384
set_option Elab.async false

noncomputable section

namespace Cert.Kernel1Ideal.Val

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A one-bit word widened to 32 bits is at most one. -/
theorem ext_le (x : BitVec 1) : (Scalar.extui x : BitVec 32).toNat ≤ 1 := by
  revert x; decide

/-- A sum of two small words does not wrap. -/
theorem add_le {x y : BitVec 32} {n : ℕ} (hx : x.toNat ≤ n) (hy : y.toNat ≤ 1) (hn : n ≤ 100) :
    (Scalar.addi x y).toNat ≤ n + 1 := by
  have : (Scalar.addi x y).toNat = (x.toNat + y.toNat) % 2 ^ 32 := BitVec.toNat_add ..
  rw [this]; omega

/-- The offset row is a count of twelve comparisons, so the store always fits the accumulator. -/
theorem chk_all (g a1 a2 a3 a4 a5 a6 a7 a8 a9 a10 a11 a12 : BitVec 32) :
    k0_chk1 g a1 a2 a3 a4 a5 a6 a7 a8 a9 a10 a11 a12 := by
  unfold k0_chk1 k0_off1
  have h0 : (0#32 : BitVec 32).toNat ≤ 0 := by decide
  have h := add_le (add_le (add_le (add_le (add_le (add_le (add_le (add_le (add_le (add_le (add_le (add_le h0
    (ext_le (Scalar.cmpi .sge g a1)) (by decide)) (ext_le (Scalar.cmpi .sge g a2)) (by decide))
    (ext_le (Scalar.cmpi .sge g a3)) (by decide)) (ext_le (Scalar.cmpi .sge g a4)) (by decide))
    (ext_le (Scalar.cmpi .sge g a5)) (by decide)) (ext_le (Scalar.cmpi .sge g a6)) (by decide))
    (ext_le (Scalar.cmpi .sge g a7)) (by decide)) (ext_le (Scalar.cmpi .sge g a8)) (by decide))
    (ext_le (Scalar.cmpi .sge g a9)) (by decide)) (ext_le (Scalar.cmpi .sge g a10)) (by decide))
    (ext_le (Scalar.cmpi .sge g a11)) (by decide)) (ext_le (Scalar.cmpi .sge g a12)) (by decide)
  intro a
  fin_cases a
  · exact (Nat.add_le_add_right h 1)
  · exact le_refl 160
  · exact le_refl 160

set_option backward.proofsInPublic true in
set_option maxHeartbeats 40000000 in
/-- A later chunk's run: what the body stores in the accumulator. -/
noncomputable def runB (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32) (xo : Vec F S13x160x160 .f32)
    (hc0 : ¬((Scalar.cmpi .ne (Scalar.extui (Scalar.cmpi .eq arg0 0#32)) 0#32) = 1#1)) :
    { out0 : List (View.Piece (Elt F) S13x160x160 .f32) //
      ∀ (K : PUnit → sProp 𝕄),
        iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ owns (c : Thread nD τ) arg6 fullShare xo
          ∗ (iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ (arg6.view.loc (c : Thread nD τ) ↦[arg6.view.set]{fullShare} arg6.view.writes (Elt F) (harg6.unread xo) out0)) -∗ K ⟨⟩))
          ⊢ wp frame (wpE (defs₀ (F := F)) Variants.none c none) Set.univ (cc0_pair_matmul1 b i arg0 arg1 harg1 arg2 harg2 arg3 harg3 arg4 harg4 arg5 harg5 arg6 harg6) K } :=
  by
    refine ⟨?_, fun K => ?run⟩
    case run =>
      unfold owns
      rw [cc0_pair_matmul1_eq_skeleton]; unfold cc0_pair_matmul1_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
      iintro ⟨HT, H0, H1, H2, H3, ⟨%f1, %hf1, HO⟩, Hk⟩
      obtain rfl := harg6.eq_unread hf1
      sl_exec! (disch := first | with_reducible exact hc0 | with_reducible exact chk_all _ _ _ _ _ _ _ _ _ _ _ _ _)
      sl_step
      iapply Hk
      isplitl [HT]; · iexact HT
      isplitl [H0]; · iexact H0
      isplitl [H1]; · iexact H1
      isplitl [H2]; · iexact H2
      isplitl [H3]; · iexact H3
      iexact HO

set_option backward.proofsInPublic true in
set_option maxHeartbeats 40000000 in
/-- The first chunk's run. -/
noncomputable def runA (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32)
    (hc0 : (Scalar.cmpi .ne (Scalar.extui (Scalar.cmpi .eq arg0 0#32)) 0#32) = 1#1) :
    { out0 : List (View.Piece (Elt F) S13x160x160 .f32) //
      ∀ (K : PUnit → sProp 𝕄),
        iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ (∃ d, owns (c : Thread nD τ) arg6 fullShare d)
          ∗ (iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ (arg6.view.loc (c : Thread nD τ) ↦[arg6.view.set]{fullShare} arg6.view.writes (Elt F) arg6.view.junk out0)) -∗ K ⟨⟩))
          ⊢ wp frame (wpE (defs₀ (F := F)) Variants.none c none) Set.univ (cc0_pair_matmul1 b i arg0 arg1 harg1 arg2 harg2 arg3 harg3 arg4 harg4 arg5 harg5 arg6 harg6) K } :=
  by
    refine ⟨?_, fun K => ?run⟩
    case run =>
      unfold owns
      rw [cc0_pair_matmul1_eq_skeleton]; unfold cc0_pair_matmul1_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
      iintro ⟨HT, H0, H1, H2, H3, ⟨%d1, %f1, -, HO⟩, Hk⟩
      sl_exec! (disch := first | with_reducible exact hc0 | with_reducible exact chk_all _ _ _ _ _ _ _ _ _ _ _ _ _)
      sl_step
      iapply Hk
      isplitl [HT]; · iexact HT
      isplitl [H0]; · iexact H0
      isplitl [H1]; · iexact H1
      isplitl [H2]; · iexact H2
      isplitl [H3]; · iexact H3
      iexact HO

end Cert.Kernel1Ideal.Val
-- ==== Proof.SecondIdealZin.lean ====
module

public import proofs.«01_k».proof.Proof.Gen.Kernel1Ideal
public import proofs.«01_k».proof.Proof.Gen.Kernel1Ideal.Launch
public import proofs.«01_k».proof.Proof.Gen.Kernel1Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.SecondIdealRuns

@[expose] public section

set_option maxRecDepth 16384
set_option Elab.async false

noncomputable section

namespace Cert.Kernel1Ideal.Val

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Word `j` of the prefetched chunk bounds. -/
def tw (T : Vec F S16 .i32) (j : Fin 16) : BitVec 32 := T (ix1 j)

/-- The `24 × 128` packed words of block `j`. -/
def ldX (p : Vec F S1x16x40x128 .i32) (j : Fin 16) : Vec F S1x1x24x128 .i32 := fun y =>
  p (ix4 (0 : Fin 1) j (⟨(y 2).val, lt_of_lt_of_le (y 2).isLt (by decide)⟩ : Fin 40) (y 3 : Fin 128))

/-- The `16 × 128` packed words of block `j`. -/
def ldD (p : Vec F S1x16x40x128 .i32) (j : Fin 16) : Vec F S1x1x16x128 .i32 := fun y =>
  p (ix4 (0 : Fin 1) j (⟨24 + (y 2).val, Nat.add_lt_add_left (y 2).isLt 24⟩ : Fin 40) (y 3 : Fin 128))

theorem readX (v : View sig .tc .vmem S1x16x40x128 .i32) (x : Vec F S1x16x40x128 .i32) (j : Fin 16) (o : Fin 4 → ℕ) (inb) (ho : o = ![0, j.val, 0, 0]) :
    v.readAt (Elt F) (Rect.unit (s := S1x16x40x128) o S1x1x24x128.size inb).toLoadRect (v.rep x) = ldX x j := by
  subst ho
  rw [View.readAt_rep]
  funext y
  refine congrArg x (funext fun a => Fin.ext ?_)
  have h0 : (y 0).val < 1 := (y 0).isLt
  have h1 : (y 1).val < 1 := (y 1).isLt
  fin_cases a
  · show 0 + 1 * (y 0).val = 0; omega
  · show j.val + 1 * (y 1).val = j.val; omega
  · show 0 + 1 * (y 2).val = (y 2).val; omega
  · show 0 + 1 * (y 3).val = (y 3).val; omega

theorem readD (v : View sig .tc .vmem S1x16x40x128 .i32) (x : Vec F S1x16x40x128 .i32) (j : Fin 16) (o : Fin 4 → ℕ) (inb) (ho : o = ![0, j.val, 24, 0]) :
    v.readAt (Elt F) (Rect.unit (s := S1x16x40x128) o S1x1x16x128.size inb).toLoadRect (v.rep x) = ldD x j := by
  subst ho
  rw [View.readAt_rep]
  funext y
  refine congrArg x (funext fun a => Fin.ext ?_)
  have h0 : (y 0).val < 1 := (y 0).isLt
  have h1 : (y 1).val < 1 := (y 1).isLt
  fin_cases a
  · show 0 + 1 * (y 0).val = 0; omega
  · show j.val + 1 * (y 1).val = j.val; omega
  · show 24 + 1 * (y 2).val = 24 + (y 2).val; omega
  · show 0 + 1 * (y 3).val = (y 3).val; omega

theorem readS (v : View sig .tc .vmem S1x16x128 .i32) (x : Vec F S1x16x128 .i32) (inb) :
    v.readAt (Elt F) (Rect.unit (s := S1x16x128) ![0, 0, 0] ![1, 16, 128] inb).toLoadRect (v.rep x) = x := by
  rw [View.readAt_rep]
  funext y
  refine congrArg x (funext fun a => Fin.ext ?_)
  fin_cases a
  · show 0 + 1 * (y 0).val = (y 0).val; omega
  · show 0 + 1 * (y 1).val = (y 1).val; omega
  · show 0 + 1 * (y 2).val = (y 2).val; omega

theorem ldX0 (v : View sig .tc .vmem S1x16x40x128 .i32) (x : Vec F S1x16x40x128 .i32) (inb) :
    v.readAt (Elt F) (Rect.unit (s := S1x16x40x128) ![0, 0, 0, 0] ![1, 1, 24, 128] inb).toLoadRect (v.rep x) = ldX x 0 := readX v x 0 _ inb rfl
theorem ldD0 (v : View sig .tc .vmem S1x16x40x128 .i32) (x : Vec F S1x16x40x128 .i32) (inb) :
    v.readAt (Elt F) (Rect.unit (s := S1x16x40x128) ![0, 0, 24, 0] ![1, 1, 16, 128] inb).toLoadRect (v.rep x) = ldD x 0 := readD v x 0 _ inb rfl
theorem ldX1 (v : View sig .tc .vmem S1x16x40x128 .i32) (x : Vec F S1x16x40x128 .i32) (inb) :
    v.readAt (Elt F) (Rect.unit (s := S1x16x40x128) ![0, 1, 0, 0] ![1, 1, 24, 128] inb).toLoadRect (v.rep x) = ldX x 1 := readX v x 1 _ inb rfl
theorem ldD1 (v : View sig .tc .vmem S1x16x40x128 .i32) (x : Vec F S1x16x40x128 .i32) (inb) :
    v.readAt (Elt F) (Rect.unit (s := S1x16x40x128) ![0, 1, 24, 0] ![1, 1, 16, 128] inb).toLoadRect (v.rep x) = ldD x 1 := readD v x 1 _ inb rfl
theorem ldX2 (v : View sig .tc .vmem S1x16x40x128 .i32) (x : Vec F S1x16x40x128 .i32) (inb) :
    v.readAt (Elt F) (Rect.unit (s := S1x16x40x128) ![0, 2, 0, 0] ![1, 1, 24, 128] inb).toLoadRect (v.rep x) = ldX x 2 := readX v x 2 _ inb rfl
theorem ldD2 (v : View sig .tc .vmem S1x16x40x128 .i32) (x : Vec F S1x16x40x128 .i32) (inb) :
    v.readAt (Elt F) (Rect.unit (s := S1x16x40x128) ![0, 2, 24, 0] ![1, 1, 16, 128] inb).toLoadRect (v.rep x) = ldD x 2 := readD v x 2 _ inb rfl
theorem ldX3 (v : View sig .tc .vmem S1x16x40x128 .i32) (x : Vec F S1x16x40x128 .i32) (inb) :
    v.readAt (Elt F) (Rect.unit (s := S1x16x40x128) ![0, 3, 0, 0] ![1, 1, 24, 128] inb).toLoadRect (v.rep x) = ldX x 3 := readX v x 3 _ inb rfl
theorem ldD3 (v : View sig .tc .vmem S1x16x40x128 .i32) (x : Vec F S1x16x40x128 .i32) (inb) :
    v.readAt (Elt F) (Rect.unit (s := S1x16x40x128) ![0, 3, 24, 0] ![1, 1, 16, 128] inb).toLoadRect (v.rep x) = ldD x 3 := readD v x 3 _ inb rfl
theorem ldX4 (v : View sig .tc .vmem S1x16x40x128 .i32) (x : Vec F S1x16x40x128 .i32) (inb) :
    v.readAt (Elt F) (Rect.unit (s := S1x16x40x128) ![0, 4, 0, 0] ![1, 1, 24, 128] inb).toLoadRect (v.rep x) = ldX x 4 := readX v x 4 _ inb rfl
theorem ldD4 (v : View sig .tc .vmem S1x16x40x128 .i32) (x : Vec F S1x16x40x128 .i32) (inb) :
    v.readAt (Elt F) (Rect.unit (s := S1x16x40x128) ![0, 4, 24, 0] ![1, 1, 16, 128] inb).toLoadRect (v.rep x) = ldD x 4 := readD v x 4 _ inb rfl
theorem ldX5 (v : View sig .tc .vmem S1x16x40x128 .i32) (x : Vec F S1x16x40x128 .i32) (inb) :
    v.readAt (Elt F) (Rect.unit (s := S1x16x40x128) ![0, 5, 0, 0] ![1, 1, 24, 128] inb).toLoadRect (v.rep x) = ldX x 5 := readX v x 5 _ inb rfl
theorem ldD5 (v : View sig .tc .vmem S1x16x40x128 .i32) (x : Vec F S1x16x40x128 .i32) (inb) :
    v.readAt (Elt F) (Rect.unit (s := S1x16x40x128) ![0, 5, 24, 0] ![1, 1, 16, 128] inb).toLoadRect (v.rep x) = ldD x 5 := readD v x 5 _ inb rfl
theorem ldX6 (v : View sig .tc .vmem S1x16x40x128 .i32) (x : Vec F S1x16x40x128 .i32) (inb) :
    v.readAt (Elt F) (Rect.unit (s := S1x16x40x128) ![0, 6, 0, 0] ![1, 1, 24, 128] inb).toLoadRect (v.rep x) = ldX x 6 := readX v x 6 _ inb rfl
theorem ldD6 (v : View sig .tc .vmem S1x16x40x128 .i32) (x : Vec F S1x16x40x128 .i32) (inb) :
    v.readAt (Elt F) (Rect.unit (s := S1x16x40x128) ![0, 6, 24, 0] ![1, 1, 16, 128] inb).toLoadRect (v.rep x) = ldD x 6 := readD v x 6 _ inb rfl
theorem ldX7 (v : View sig .tc .vmem S1x16x40x128 .i32) (x : Vec F S1x16x40x128 .i32) (inb) :
    v.readAt (Elt F) (Rect.unit (s := S1x16x40x128) ![0, 7, 0, 0] ![1, 1, 24, 128] inb).toLoadRect (v.rep x) = ldX x 7 := readX v x 7 _ inb rfl
theorem ldD7 (v : View sig .tc .vmem S1x16x40x128 .i32) (x : Vec F S1x16x40x128 .i32) (inb) :
    v.readAt (Elt F) (Rect.unit (s := S1x16x40x128) ![0, 7, 24, 0] ![1, 1, 16, 128] inb).toLoadRect (v.rep x) = ldD x 7 := readD v x 7 _ inb rfl
theorem ldX8 (v : View sig .tc .vmem S1x16x40x128 .i32) (x : Vec F S1x16x40x128 .i32) (inb) :
    v.readAt (Elt F) (Rect.unit (s := S1x16x40x128) ![0, 8, 0, 0] ![1, 1, 24, 128] inb).toLoadRect (v.rep x) = ldX x 8 := readX v x 8 _ inb rfl
theorem ldD8 (v : View sig .tc .vmem S1x16x40x128 .i32) (x : Vec F S1x16x40x128 .i32) (inb) :
    v.readAt (Elt F) (Rect.unit (s := S1x16x40x128) ![0, 8, 24, 0] ![1, 1, 16, 128] inb).toLoadRect (v.rep x) = ldD x 8 := readD v x 8 _ inb rfl
theorem ldX9 (v : View sig .tc .vmem S1x16x40x128 .i32) (x : Vec F S1x16x40x128 .i32) (inb) :
    v.readAt (Elt F) (Rect.unit (s := S1x16x40x128) ![0, 9, 0, 0] ![1, 1, 24, 128] inb).toLoadRect (v.rep x) = ldX x 9 := readX v x 9 _ inb rfl
theorem ldD9 (v : View sig .tc .vmem S1x16x40x128 .i32) (x : Vec F S1x16x40x128 .i32) (inb) :
    v.readAt (Elt F) (Rect.unit (s := S1x16x40x128) ![0, 9, 24, 0] ![1, 1, 16, 128] inb).toLoadRect (v.rep x) = ldD x 9 := readD v x 9 _ inb rfl
theorem ldX10 (v : View sig .tc .vmem S1x16x40x128 .i32) (x : Vec F S1x16x40x128 .i32) (inb) :
    v.readAt (Elt F) (Rect.unit (s := S1x16x40x128) ![0, 10, 0, 0] ![1, 1, 24, 128] inb).toLoadRect (v.rep x) = ldX x 10 := readX v x 10 _ inb rfl
theorem ldD10 (v : View sig .tc .vmem S1x16x40x128 .i32) (x : Vec F S1x16x40x128 .i32) (inb) :
    v.readAt (Elt F) (Rect.unit (s := S1x16x40x128) ![0, 10, 24, 0] ![1, 1, 16, 128] inb).toLoadRect (v.rep x) = ldD x 10 := readD v x 10 _ inb rfl
theorem ldX11 (v : View sig .tc .vmem S1x16x40x128 .i32) (x : Vec F S1x16x40x128 .i32) (inb) :
    v.readAt (Elt F) (Rect.unit (s := S1x16x40x128) ![0, 11, 0, 0] ![1, 1, 24, 128] inb).toLoadRect (v.rep x) = ldX x 11 := readX v x 11 _ inb rfl
theorem ldD11 (v : View sig .tc .vmem S1x16x40x128 .i32) (x : Vec F S1x16x40x128 .i32) (inb) :
    v.readAt (Elt F) (Rect.unit (s := S1x16x40x128) ![0, 11, 24, 0] ![1, 1, 16, 128] inb).toLoadRect (v.rep x) = ldD x 11 := readD v x 11 _ inb rfl
theorem ldX12 (v : View sig .tc .vmem S1x16x40x128 .i32) (x : Vec F S1x16x40x128 .i32) (inb) :
    v.readAt (Elt F) (Rect.unit (s := S1x16x40x128) ![0, 12, 0, 0] ![1, 1, 24, 128] inb).toLoadRect (v.rep x) = ldX x 12 := readX v x 12 _ inb rfl
theorem ldD12 (v : View sig .tc .vmem S1x16x40x128 .i32) (x : Vec F S1x16x40x128 .i32) (inb) :
    v.readAt (Elt F) (Rect.unit (s := S1x16x40x128) ![0, 12, 24, 0] ![1, 1, 16, 128] inb).toLoadRect (v.rep x) = ldD x 12 := readD v x 12 _ inb rfl
theorem ldX13 (v : View sig .tc .vmem S1x16x40x128 .i32) (x : Vec F S1x16x40x128 .i32) (inb) :
    v.readAt (Elt F) (Rect.unit (s := S1x16x40x128) ![0, 13, 0, 0] ![1, 1, 24, 128] inb).toLoadRect (v.rep x) = ldX x 13 := readX v x 13 _ inb rfl
theorem ldD13 (v : View sig .tc .vmem S1x16x40x128 .i32) (x : Vec F S1x16x40x128 .i32) (inb) :
    v.readAt (Elt F) (Rect.unit (s := S1x16x40x128) ![0, 13, 24, 0] ![1, 1, 16, 128] inb).toLoadRect (v.rep x) = ldD x 13 := readD v x 13 _ inb rfl
theorem ldX14 (v : View sig .tc .vmem S1x16x40x128 .i32) (x : Vec F S1x16x40x128 .i32) (inb) :
    v.readAt (Elt F) (Rect.unit (s := S1x16x40x128) ![0, 14, 0, 0] ![1, 1, 24, 128] inb).toLoadRect (v.rep x) = ldX x 14 := readX v x 14 _ inb rfl
theorem ldD14 (v : View sig .tc .vmem S1x16x40x128 .i32) (x : Vec F S1x16x40x128 .i32) (inb) :
    v.readAt (Elt F) (Rect.unit (s := S1x16x40x128) ![0, 14, 24, 0] ![1, 1, 16, 128] inb).toLoadRect (v.rep x) = ldD x 14 := readD v x 14 _ inb rfl
theorem ldX15 (v : View sig .tc .vmem S1x16x40x128 .i32) (x : Vec F S1x16x40x128 .i32) (inb) :
    v.readAt (Elt F) (Rect.unit (s := S1x16x40x128) ![0, 15, 0, 0] ![1, 1, 24, 128] inb).toLoadRect (v.rep x) = ldX x 15 := readX v x 15 _ inb rfl
theorem ldD15 (v : View sig .tc .vmem S1x16x40x128 .i32) (x : Vec F S1x16x40x128 .i32) (inb) :
    v.readAt (Elt F) (Rect.unit (s := S1x16x40x128) ![0, 15, 24, 0] ![1, 1, 16, 128] inb).toLoadRect (v.rep x) = ldD x 15 := readD v x 15 _ inb rfl

/-- Rows of one block of decoded and scaled values: 96 of the first codes, 64 of the second. -/
def tileOf (p : Vec F S1x16x40x128 .i32) (s : Vec F S1x16x128 .i32) (j : Fin 16) (o : Fin 2 → ℕ) (ho : S16x128.Slices o S1x128) : FVec F S160x128 .bf16 :=
  concatenate S160x128 0
    [⟨S96x128, mulf (extf .bf16 (bitcastToFloat .fp8e4m3 (bitcast S96x128 8 (shapeCast S24x128 (ldX p j) shapeCasts_S1x1x24x128_S24x128) bitcasts_S24x128_w32_S96x128_w8)) bitsLt_fp8e4m3_bf16)
      (truncf .bf16 (broadcastTo S96x128 (shapeCast S1x128 (extractStridedSlice S1x128 o (k0_pay4 s) ho) shapeCasts_S1x128_S1x128) broadcasts_S1x128_S96x128) bitsLt_bf16_f32)⟩,
     ⟨S64x128, mulf (extf .bf16 (bitcastToFloat .fp8e5m2 (bitcast S64x128 8 (shapeCast S16x128 (ldD p j) shapeCasts_S1x1x16x128_S16x128) bitcasts_S16x128_w32_S64x128_w8)) bitsLt_fp8e5m2_bf16)
      (truncf .bf16 (broadcastTo S64x128 (shapeCast S1x128 (extractStridedSlice S1x128 o (k0_pay5 s) ho) shapeCasts_S1x128_S1x128) broadcasts_S1x128_S64x128) bitsLt_bf16_f32)⟩]
    concatenates_S96x128_S64x128_S160x128_d0

/-- A chunk's decoded and scaled values: sixteen blocks side by side. -/
def zOf (p : Vec F S1x16x40x128 .i32) (s : Vec F S1x16x128 .i32) : FVec F S160x2048 .bf16 :=
  concatenate S160x2048 1 [⟨S160x128, tileOf p s 0 ![0, 0] slices_S16x128_o0_0_S1x128⟩, ⟨S160x128, tileOf p s 1 ![1, 0] slices_S16x128_o1_0_S1x128⟩, ⟨S160x128, tileOf p s 2 ![2, 0] slices_S16x128_o2_0_S1x128⟩, ⟨S160x128, tileOf p s 3 ![3, 0] slices_S16x128_o3_0_S1x128⟩, ⟨S160x128, tileOf p s 4 ![4, 0] slices_S16x128_o4_0_S1x128⟩, ⟨S160x128, tileOf p s 5 ![5, 0] slices_S16x128_o5_0_S1x128⟩, ⟨S160x128, tileOf p s 6 ![6, 0] slices_S16x128_o6_0_S1x128⟩, ⟨S160x128, tileOf p s 7 ![7, 0] slices_S16x128_o7_0_S1x128⟩, ⟨S160x128, tileOf p s 8 ![8, 0] slices_S16x128_o8_0_S1x128⟩, ⟨S160x128, tileOf p s 9 ![9, 0] slices_S16x128_o9_0_S1x128⟩, ⟨S160x128, tileOf p s 10 ![10, 0] slices_S16x128_o10_0_S1x128⟩, ⟨S160x128, tileOf p s 11 ![11, 0] slices_S16x128_o11_0_S1x128⟩, ⟨S160x128, tileOf p s 12 ![12, 0] slices_S16x128_o12_0_S1x128⟩, ⟨S160x128, tileOf p s 13 ![13, 0] slices_S16x128_o13_0_S1x128⟩, ⟨S160x128, tileOf p s 14 ![14, 0] slices_S16x128_o14_0_S1x128⟩, ⟨S160x128, tileOf p s 15 ![15, 0] slices_S16x128_o15_0_S1x128⟩] concatenates_S160x128_S160x128_S160x128_S160x128_S160x128_S160x128_S160x128_S160x128_S160x128_S160x128_S160x128_S160x128_S160x128_S160x128_S160x128_S160x128_S160x2048_d1

end Cert.Kernel1Ideal.Val
-- ==== Proof.SecondIdealZA.lean ====
module

public import proofs.«01_k».proof.Proof.Gen.Kernel1Ideal
public import proofs.«01_k».proof.Proof.Gen.Kernel1Ideal.Launch
public import proofs.«01_k».proof.Proof.Gen.Kernel1Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.SecondIdealZin

@[expose] public section

set_option maxRecDepth 16384
set_option Elab.async false

noncomputable section

namespace Cert.Kernel1Ideal.Val

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
theorem zinA (arg2 : Memref sig .tc .vmem S1x16x40x128 .i32) (arg4 : Memref sig .tc .vmem S1x16x128 .i32) (x0 : Vec F S1x16x40x128 .i32) (s0 : Vec F S1x16x128 .i32) :
    runA.sl.r_43 arg2 arg4 x0 s0 = zOf x0 s0 := by
  simp only [runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

set_option maxHeartbeats 4000000 in
theorem zoutA (arg2 : Memref sig .tc .vmem S1x16x40x128 .i32) (arg4 : Memref sig .tc .vmem S1x16x128 .i32) (x0 : Vec F S1x16x40x128 .i32) (s0 : Vec F S1x16x128 .i32) :
    runA.sl.r_74 arg2 arg4 x0 s0 = zOf x0 s0 := by
  simp only [runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

end Cert.Kernel1Ideal.Val
-- ==== Proof.SecondIdealZB.lean ====
module

public import proofs.«01_k».proof.Proof.Gen.Kernel1Ideal
public import proofs.«01_k».proof.Proof.Gen.Kernel1Ideal.Launch
public import proofs.«01_k».proof.Proof.Gen.Kernel1Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.SecondIdealZin

@[expose] public section

set_option maxRecDepth 16384
set_option Elab.async false

noncomputable section

namespace Cert.Kernel1Ideal.Val

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
theorem zinB (arg2 : Memref sig .tc .vmem S1x16x40x128 .i32) (arg4 : Memref sig .tc .vmem S1x16x128 .i32) (x0 : Vec F S1x16x40x128 .i32) (s0 : Vec F S1x16x128 .i32) :
    runB.sl.r_43 arg2 arg4 x0 s0 = zOf x0 s0 := by
  simp only [runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.r_56, runB.sl.r_57, runB.sl.r_58, runB.sl.r_59, runB.sl.r_60, runB.sl.r_61, runB.sl.r_62, runB.sl.r_63, runB.sl.r_64, runB.sl.r_65, runB.sl.r_66, runB.sl.r_67, runB.sl.r_68, runB.sl.r_69, runB.sl.r_70, runB.sl.r_71, runB.sl.r_72, runB.sl.r_73, runB.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

set_option maxHeartbeats 4000000 in
theorem zoutB (arg2 : Memref sig .tc .vmem S1x16x40x128 .i32) (arg4 : Memref sig .tc .vmem S1x16x128 .i32) (x0 : Vec F S1x16x40x128 .i32) (s0 : Vec F S1x16x128 .i32) :
    runB.sl.r_74 arg2 arg4 x0 s0 = zOf x0 s0 := by
  simp only [runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.r_56, runB.sl.r_57, runB.sl.r_58, runB.sl.r_59, runB.sl.r_60, runB.sl.r_61, runB.sl.r_62, runB.sl.r_63, runB.sl.r_64, runB.sl.r_65, runB.sl.r_66, runB.sl.r_67, runB.sl.r_68, runB.sl.r_69, runB.sl.r_70, runB.sl.r_71, runB.sl.r_72, runB.sl.r_73, runB.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

end Cert.Kernel1Ideal.Val
-- ==== Proof.SecondIdealBody.lean ====
module

public import proofs.«01_k».proof.Proof.Gen.Kernel1Ideal
public import proofs.«01_k».proof.Proof.Gen.Kernel1Ideal.Launch
public import proofs.«01_k».proof.Proof.Gen.Kernel1Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.SecondIdealZA
public import proofs.«01_k».proof.Proof.SecondIdealZB

@[expose] public section

set_option maxRecDepth 16384
set_option Elab.async false

noncomputable section

namespace Cert.Kernel1Ideal.Val

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulator row block a chunk adds to, as the offsets the body computes. -/
def oOf (g : BitVec 32) (T : Vec F S16 .i32) : Fin 3 → ℕ := k0_off1 g (tw T 1) (tw T 2) (tw T 3) (tw T 4) (tw T 5) (tw T 6) (tw T 7) (tw T 8) (tw T 9) (tw T 10) (tw T 11) (tw T 12)

theorem oOf_inb (g : BitVec 32) (T : Vec F S16 .i32) : ∀ a, oOf g T a + S1x160x160.size a ≤ S13x160x160.size a := chk_all _ _ _ _ _ _ _ _ _ _ _ _ _

/-- The rows of the accumulator at the given offsets. -/
def rowOf (acc : Vec F S13x160x160 .f32) (o : Fin 3 → ℕ) (h : ∀ a, o a + S1x160x160.size a ≤ S13x160x160.size a) : Vec F S1x160x160 .f32 :=
  fun z => acc ((Rect.unit (s := S13x160x160) o S1x160x160.size h).toLoadRect.idx z)

/-- One chunk's effect on the accumulator. -/
def step (g : BitVec 32) (T : Vec F S16 .i32) (x0 x1 : Vec F S1x16x40x128 .i32) (s0 s1 : Vec F S1x16x128 .i32) (acc : Vec F S13x160x160 .f32) : Vec F S13x160x160 .f32 :=
  fun y => if h : ∀ a, oOf g T a ≤ (y a).val ∧ (y a).val < oOf g T a + S1x160x160.size a then
      k0_pay1 (zOf x0 s0) (zOf x1 s1) (rowOf acc (oOf g T) (oOf_inb g T)) (Rect.unitLocal (s := S13x160x160) (off := oOf g T) (size := S1x160x160.size) y h)
    else acc y

theorem twA1 (arg1 : Memref sig .tc .smem S16 .i32) (T : Vec F S16 .i32) : runA.sl.r arg1 T = tw T 1 := by
  unfold runA.sl.r; rw [View.readAt_rep]; exact congrArg T (funext fun a => Fin.ext (by match a with | ⟨0, _⟩ => rfl))
theorem twA2 (arg1 : Memref sig .tc .smem S16 .i32) (T : Vec F S16 .i32) : runA.sl.r_1 arg1 T = tw T 2 := by
  unfold runA.sl.r_1; rw [View.readAt_rep]; exact congrArg T (funext fun a => Fin.ext (by match a with | ⟨0, _⟩ => rfl))
theorem twA3 (arg1 : Memref sig .tc .smem S16 .i32) (T : Vec F S16 .i32) : runA.sl.r_2 arg1 T = tw T 3 := by
  unfold runA.sl.r_2; rw [View.readAt_rep]; exact congrArg T (funext fun a => Fin.ext (by match a with | ⟨0, _⟩ => rfl))
theorem twA4 (arg1 : Memref sig .tc .smem S16 .i32) (T : Vec F S16 .i32) : runA.sl.r_3 arg1 T = tw T 4 := by
  unfold runA.sl.r_3; rw [View.readAt_rep]; exact congrArg T (funext fun a => Fin.ext (by match a with | ⟨0, _⟩ => rfl))
theorem twA5 (arg1 : Memref sig .tc .smem S16 .i32) (T : Vec F S16 .i32) : runA.sl.r_4 arg1 T = tw T 5 := by
  unfold runA.sl.r_4; rw [View.readAt_rep]; exact congrArg T (funext fun a => Fin.ext (by match a with | ⟨0, _⟩ => rfl))
theorem twA6 (arg1 : Memref sig .tc .smem S16 .i32) (T : Vec F S16 .i32) : runA.sl.r_5 arg1 T = tw T 6 := by
  unfold runA.sl.r_5; rw [View.readAt_rep]; exact congrArg T (funext fun a => Fin.ext (by match a with | ⟨0, _⟩ => rfl))
theorem twA7 (arg1 : Memref sig .tc .smem S16 .i32) (T : Vec F S16 .i32) : runA.sl.r_6 arg1 T = tw T 7 := by
  unfold runA.sl.r_6; rw [View.readAt_rep]; exact congrArg T (funext fun a => Fin.ext (by match a with | ⟨0, _⟩ => rfl))
theorem twA8 (arg1 : Memref sig .tc .smem S16 .i32) (T : Vec F S16 .i32) : runA.sl.r_7 arg1 T = tw T 8 := by
  unfold runA.sl.r_7; rw [View.readAt_rep]; exact congrArg T (funext fun a => Fin.ext (by match a with | ⟨0, _⟩ => rfl))
theorem twA9 (arg1 : Memref sig .tc .smem S16 .i32) (T : Vec F S16 .i32) : runA.sl.r_8 arg1 T = tw T 9 := by
  unfold runA.sl.r_8; rw [View.readAt_rep]; exact congrArg T (funext fun a => Fin.ext (by match a with | ⟨0, _⟩ => rfl))
theorem twA10 (arg1 : Memref sig .tc .smem S16 .i32) (T : Vec F S16 .i32) : runA.sl.r_9 arg1 T = tw T 10 := by
  unfold runA.sl.r_9; rw [View.readAt_rep]; exact congrArg T (funext fun a => Fin.ext (by match a with | ⟨0, _⟩ => rfl))
theorem twA11 (arg1 : Memref sig .tc .smem S16 .i32) (T : Vec F S16 .i32) : runA.sl.r_10 arg1 T = tw T 11 := by
  unfold runA.sl.r_10; rw [View.readAt_rep]; exact congrArg T (funext fun a => Fin.ext (by match a with | ⟨0, _⟩ => rfl))
theorem twA12 (arg1 : Memref sig .tc .smem S16 .i32) (T : Vec F S16 .i32) : runA.sl.r_11 arg1 T = tw T 12 := by
  unfold runA.sl.r_11; rw [View.readAt_rep]; exact congrArg T (funext fun a => Fin.ext (by match a with | ⟨0, _⟩ => rfl))
theorem twB1 (arg1 : Memref sig .tc .smem S16 .i32) (T : Vec F S16 .i32) : runB.sl.r arg1 T = tw T 1 := by
  unfold runB.sl.r; rw [View.readAt_rep]; exact congrArg T (funext fun a => Fin.ext (by match a with | ⟨0, _⟩ => rfl))
theorem twB2 (arg1 : Memref sig .tc .smem S16 .i32) (T : Vec F S16 .i32) : runB.sl.r_1 arg1 T = tw T 2 := by
  unfold runB.sl.r_1; rw [View.readAt_rep]; exact congrArg T (funext fun a => Fin.ext (by match a with | ⟨0, _⟩ => rfl))
theorem twB3 (arg1 : Memref sig .tc .smem S16 .i32) (T : Vec F S16 .i32) : runB.sl.r_2 arg1 T = tw T 3 := by
  unfold runB.sl.r_2; rw [View.readAt_rep]; exact congrArg T (funext fun a => Fin.ext (by match a with | ⟨0, _⟩ => rfl))
theorem twB4 (arg1 : Memref sig .tc .smem S16 .i32) (T : Vec F S16 .i32) : runB.sl.r_3 arg1 T = tw T 4 := by
  unfold runB.sl.r_3; rw [View.readAt_rep]; exact congrArg T (funext fun a => Fin.ext (by match a with | ⟨0, _⟩ => rfl))
theorem twB5 (arg1 : Memref sig .tc .smem S16 .i32) (T : Vec F S16 .i32) : runB.sl.r_4 arg1 T = tw T 5 := by
  unfold runB.sl.r_4; rw [View.readAt_rep]; exact congrArg T (funext fun a => Fin.ext (by match a with | ⟨0, _⟩ => rfl))
theorem twB6 (arg1 : Memref sig .tc .smem S16 .i32) (T : Vec F S16 .i32) : runB.sl.r_5 arg1 T = tw T 6 := by
  unfold runB.sl.r_5; rw [View.readAt_rep]; exact congrArg T (funext fun a => Fin.ext (by match a with | ⟨0, _⟩ => rfl))
theorem twB7 (arg1 : Memref sig .tc .smem S16 .i32) (T : Vec F S16 .i32) : runB.sl.r_6 arg1 T = tw T 7 := by
  unfold runB.sl.r_6; rw [View.readAt_rep]; exact congrArg T (funext fun a => Fin.ext (by match a with | ⟨0, _⟩ => rfl))
theorem twB8 (arg1 : Memref sig .tc .smem S16 .i32) (T : Vec F S16 .i32) : runB.sl.r_7 arg1 T = tw T 8 := by
  unfold runB.sl.r_7; rw [View.readAt_rep]; exact congrArg T (funext fun a => Fin.ext (by match a with | ⟨0, _⟩ => rfl))
theorem twB9 (arg1 : Memref sig .tc .smem S16 .i32) (T : Vec F S16 .i32) : runB.sl.r_8 arg1 T = tw T 9 := by
  unfold runB.sl.r_8; rw [View.readAt_rep]; exact congrArg T (funext fun a => Fin.ext (by match a with | ⟨0, _⟩ => rfl))
theorem twB10 (arg1 : Memref sig .tc .smem S16 .i32) (T : Vec F S16 .i32) : runB.sl.r_9 arg1 T = tw T 10 := by
  unfold runB.sl.r_9; rw [View.readAt_rep]; exact congrArg T (funext fun a => Fin.ext (by match a with | ⟨0, _⟩ => rfl))
theorem twB11 (arg1 : Memref sig .tc .smem S16 .i32) (T : Vec F S16 .i32) : runB.sl.r_10 arg1 T = tw T 11 := by
  unfold runB.sl.r_10; rw [View.readAt_rep]; exact congrArg T (funext fun a => Fin.ext (by match a with | ⟨0, _⟩ => rfl))
theorem twB12 (arg1 : Memref sig .tc .smem S16 .i32) (T : Vec F S16 .i32) : runB.sl.r_11 arg1 T = tw T 12 := by
  unfold runB.sl.r_11; rw [View.readAt_rep]; exact congrArg T (funext fun a => Fin.ext (by match a with | ⟨0, _⟩ => rfl))

/-- The one store of a chunk, over contents that read `acc`, reads as `step` of `acc`. -/
theorem read_piece (g : BitVec 32) (T : Vec F S16 .i32) (x0 x1 : Vec F S1x16x40x128 .i32) (s0 s1 : Vec F S1x16x128 .i32) (acc : Vec F S13x160x160 .f32)
    (v : View sig .tc .vmem S13x160x160 .f32) (f : v.ty.Contents (Elt F)) (L : List (View.Piece (Elt F) S13x160x160 .f32))
    (w1 w2 w3 w4 w5 w6 w7 w8 w9 w10 w11 w12 : BitVec 32) (h1 : w1 = tw T 1) (h2 : w2 = tw T 2) (h3 : w3 = tw T 3) (h4 : w4 = tw T 4) (h5 : w5 = tw T 5) (h6 : w6 = tw T 6) (h7 : w7 = tw T 7) (h8 : w8 = tw T 8) (h9 : w9 = tw T 9) (h10 : w10 = tw T 10) (h11 : w11 = tw T 11) (h12 : w12 = tw T 12)
    (zi zo : FVec F S160x2048 .bf16) (hzi : zi = zOf x0 s0) (hzo : zo = zOf x1 s1)
    (h : ∀ a, k0_off1 g w1 w2 w3 w4 w5 w6 w7 w8 w9 w10 w11 w12 a + S1x160x160.size a ≤ S13x160x160.size a)
    (hacc : v.read (Elt F) (v.writes (Elt F) f L) = acc)
    (row : Vec F S1x160x160 .f32) (hrow : row = rowOf acc (k0_off1 g w1 w2 w3 w4 w5 w6 w7 w8 w9 w10 w11 w12) h) :
    v.read (Elt F) (v.writes (Elt F) f (⟨Rect.unit (s := S13x160x160) (k0_off1 g w1 w2 w3 w4 w5 w6 w7 w8 w9 w10 w11 w12) S1x160x160.size h, k0_pay1 zi zo row⟩ :: L)) = step g T x0 x1 s0 s1 acc := by
  subst h1 h2 h3 h4 h5 h6 h7 h8 h9 h10 h11 h12 hzi hzo hrow hacc
  funext y
  rw [View.read_writes_cons_unit v f h _ L y rfl]
  rfl

set_option maxHeartbeats 4000000 in
/-- A later chunk leaves `step` of what the accumulator held. -/
theorem readB (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32) (xo : Vec F S13x160x160 .f32)
    (hc0 : ¬((Scalar.cmpi .ne (Scalar.extui (Scalar.cmpi .eq arg0 0#32)) 0#32) = 1#1)) :
    arg6.view.read (Elt F) (arg6.view.writes (Elt F) (harg6.unread xo) (runB c b i arg0 arg1 harg1 arg2 harg2 arg3 harg3 arg4 harg4 arg5 harg5 arg6 harg6 T x0 x1 s0 s1 xo hc0).1) = step arg0 T x0 x1 s0 s1 xo :=
  read_piece arg0 T x0 x1 s0 s1 xo arg6.view (harg6.unread xo) [] _ _ _ _ _ _ _ _ _ _ _ _ (twB1 _ _) (twB2 _ _) (twB3 _ _) (twB4 _ _) (twB5 _ _) (twB6 _ _) (twB7 _ _) (twB8 _ _) (twB9 _ _) (twB10 _ _) (twB11 _ _) (twB12 _ _)
    _ _ (zinB arg2 arg4 x0 s0) (zoutB arg3 arg5 x1 s1) (chk_all _ _ _ _ _ _ _ _ _ _ _ _ _) (harg6.read_unread xo) _ (by
      funext z; exact harg6.readAt_unread xo _ z)

theorem read_zero (v : View sig .tc .vmem S13x160x160 .f32) (f : v.ty.Contents (Elt F)) :
    v.read (Elt F) (v.writes (Elt F) f runA.sl.HO_1) = k0_pay2 := by
  funext y
  unfold runA.sl.HO_1
  rw [View.read_writes_cons_unit v f _ _ [] y rfl, dif_pos (fun a => ⟨by fin_cases a <;> exact Nat.zero_le _, by
    have := (y a).isLt; fin_cases a <;> exact lt_of_lt_of_eq (y _).isLt (Nat.zero_add _).symm⟩)]
  rfl

set_option maxHeartbeats 4000000 in
/-- The first chunk leaves `step` of zero. -/
theorem readA (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32)
    (hc0 : (Scalar.cmpi .ne (Scalar.extui (Scalar.cmpi .eq arg0 0#32)) 0#32) = 1#1) :
    arg6.view.read (Elt F) (arg6.view.writes (Elt F) arg6.view.junk (runA c b i arg0 arg1 harg1 arg2 harg2 arg3 harg3 arg4 harg4 arg5 harg5 arg6 harg6 T x0 x1 s0 s1 hc0).1) = step arg0 T x0 x1 s0 s1 k0_pay2 :=
  read_piece arg0 T x0 x1 s0 s1 k0_pay2 arg6.view arg6.view.junk runA.sl.HO_1 _ _ _ _ _ _ _ _ _ _ _ _ (twA1 _ _) (twA2 _ _) (twA3 _ _) (twA4 _ _) (twA5 _ _) (twA6 _ _) (twA7 _ _) (twA8 _ _) (twA9 _ _) (twA10 _ _) (twA11 _ _) (twA12 _ _)
    _ _ (zinA arg2 arg4 x0 s0) (zoutA arg3 arg5 x1 s1) (chk_all _ _ _ _ _ _ _ _ _ _ _ _ _) (read_zero arg6.view _) _ (by
      funext z; exact congrFun (read_zero arg6.view _) _)

end Cert.Kernel1Ideal.Val
-- ==== Proof.SecondIdealSched.lean ====
module

public import proofs.«01_k».proof.Proof.SecondIdealBody
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Affine

@[expose] public section

set_option maxRecDepth 16384
set_option Elab.async false

noncomputable section

namespace Cert.Kernel1Ideal.Val

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The grid the tables give, and the side condition on them -/

variable (pf : pre0.Contents (Elt F))

/-- The number of chunks the tables name. -/
def nOf (pf : pre0.Contents (Elt F)) : ℕ := (pf 0 fun a => a.elim0).toNat

/-- What the precondition gives of the tables: between one and 637 chunks. -/
def Bounded (pf : pre0.Contents (Elt F)) : Prop := 1 ≤ nOf pf ∧ nOf pf ≤ 637

theorem coord_lt (hb : Bounded pf) (i : (grid0.at (dynb0 pf)).Coords) : (i 0).val < 637 := by
  have h : (i 0).val < grid0.boundAt (dynb0 pf) 0 := (i 0).isLt
  have h2 : grid0.boundAt (dynb0 pf) 0 = nOf pf := rfl
  rw [h2] at h
  exact lt_of_lt_of_le h hb.2

theorem N_eq : (grid0.at (dynb0 pf)).N = nOf pf := by
  show (List.ofFn fun a : Fin 1 => grid0.boundAt (dynb0 pf) a).prod = nOf pf
  rw [List.ofFn_succ, List.ofFn_zero, List.prod_cons, List.prod_nil, mul_one]
  rfl

theorem admits (hb : Bounded pf) : grid0.Admits (dynb0 pf) := by
  unfold Pipeline.Grid.Admits
  rw [N_eq]
  have := hb.2
  omega

theorem inb0 (hb : Bounded pf) (i : (grid0.at (dynb0 pf)).Coords) : ∀ a, (cc0_transform_0 (dynb0 pf) i a + 1) * S1x16x40x128.size a ≤ S2x10192x40x128.size a := by
  have hi := coord_lt pf hb i
  have hs : Affine.IsInt 0#32 (0) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_cons h0 (by omega) <| Affine.blk_nil

theorem inb1 (hb : Bounded pf) (i : (grid0.at (dynb0 pf)).Coords) : ∀ a, (cc0_transform_1 (dynb0 pf) i a + 1) * S1x16x40x128.size a ≤ S2x10192x40x128.size a := by
  have hi := coord_lt pf hb i
  have hs : Affine.IsInt 1#32 (1) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_cons h0 (by omega) <| Affine.blk_nil

theorem inb2 (hb : Bounded pf) (i : (grid0.at (dynb0 pf)).Coords) : ∀ a, (cc0_transform_2 (dynb0 pf) i a + 1) * S1x16x128.size a ≤ S2x10192x128.size a := by
  have hi := coord_lt pf hb i
  have hs : Affine.IsInt 0#32 (0) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_nil

theorem inb3 (hb : Bounded pf) (i : (grid0.at (dynb0 pf)).Coords) : ∀ a, (cc0_transform_3 (dynb0 pf) i a + 1) * S1x16x128.size a ≤ S2x10192x128.size a := by
  have hi := coord_lt pf hb i
  have hs : Affine.IsInt 1#32 (1) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_nil

theorem inb4 (i : (grid0.at (dynb0 pf)).Coords) : ∀ a, (cc0_transform_4 (dynb0 pf) i a + 1) * S13x160x160.size a ≤ S13x160x160.size a := by
  have h0 : Affine.IsInt 0#32 (0) := Affine.ofNat _ (by omega)
  exact Affine.blk_cons h0 (by omega) <| Affine.blk_cons h0 (by omega) <| Affine.blk_cons h0 (by omega) <| Affine.blk_nil

/-- Tables naming between one and 637 chunks meet the side condition. -/
theorem ok_of_bounded (hb : Bounded pf) : ok0 pf :=
  ⟨admits pf hb, fun i => ⟨inb0 pf hb i, .inl rfl⟩, fun i => ⟨inb1 pf hb i, .inl rfl⟩, fun i => ⟨inb2 pf hb i, .inl rfl⟩,
    fun i => ⟨inb3 pf hb i, .inl rfl⟩, fun i => ⟨inb4 pf i, .inl rfl⟩⟩

variable (hb : Bounded pf)

/-- The tables as admissible contents, and the pipeline at them. -/
def adm : (pcfg0 (F := F)).Adm := ⟨pf, ok_of_bounded pf hb⟩
abbrev cfgA : Pipeline.Cfg sig Λ₀ := cfg0 (F := F) (adm pf hb)
abbrev pcs : Fin 1 → Pipeline.Cfg sig Λ₀ := Pipeline.pin (pcfgs (F := F)) fun _ => adm pf hb

theorem NA_eq : (cfgA pf hb).N = nOf pf := N_eq pf

/-! ## A point's words and staging memrefs -/

abbrev crd (t : Fin (cfgA pf hb).N) : (cfgA pf hb).grid.Coords := (cfgA pf hb).grid.coords t
abbrev iS (t : Fin (cfgA pf hb).N) : grid0.Static := Pipeline.Grid.Coords.static grid0 (crd pf hb t)
abbrev gw (t : Fin (cfgA pf hb).N) : BitVec 32 := BitVec.ofNat 32 ((crd pf hb t) 0).val

theorem crd_val (t : Fin (cfgA pf hb).N) : ((crd pf hb t) 0).val = t.val := by
  have hN := NA_eq pf hb
  have ht := t.isLt
  have h1 : ((crd pf hb t) 0).val = t.val / (grid0.at (dynb0 pf)).stride 0 % nOf pf := rfl
  have h2 : (grid0.at (dynb0 pf)).stride 0 = 1 := by
    show (List.ofFn fun b : Fin 1 => if (0 : Fin 1) < b then grid0.boundAt (dynb0 pf) b else 1).prod = 1
    rw [List.ofFn_succ, List.ofFn_zero, List.prod_cons, List.prod_nil, mul_one]
    rfl
  rw [h1, h2, Nat.div_one, Nat.mod_eq_of_lt (by omega)]

theorem gw_eq (t : Fin (cfgA pf hb).N) : gw pf hb t = BitVec.ofNat 32 t.val := by
  show BitVec.ofNat 32 ((crd pf hb t) 0).val = _
  rw [crd_val]

abbrev ms0 (t : Fin (cfgA pf hb).N) : Memref sig .tc .vmem S1x16x40x128 .i32 := spec0_0.stage ((cfgA pf hb).slots t (0 : Fin 5))
abbrev hs0 (t : Fin (cfgA pf hb).N) : (ms0 pf hb t).IsWhole := hstage0_0 (((cfgA pf hb).slots t (0 : Fin 5)).cast nbuf0_0)

abbrev ms1 (t : Fin (cfgA pf hb).N) : Memref sig .tc .vmem S1x16x40x128 .i32 := spec0_1.stage ((cfgA pf hb).slots t (1 : Fin 5))
abbrev hs1 (t : Fin (cfgA pf hb).N) : (ms1 pf hb t).IsWhole := hstage0_1 (((cfgA pf hb).slots t (1 : Fin 5)).cast nbuf0_1)

abbrev ms2 (t : Fin (cfgA pf hb).N) : Memref sig .tc .vmem S1x16x128 .i32 := spec0_2.stage ((cfgA pf hb).slots t (2 : Fin 5))
abbrev hs2 (t : Fin (cfgA pf hb).N) : (ms2 pf hb t).IsWhole := hstage0_2 (((cfgA pf hb).slots t (2 : Fin 5)).cast nbuf0_2)

abbrev ms3 (t : Fin (cfgA pf hb).N) : Memref sig .tc .vmem S1x16x128 .i32 := spec0_3.stage ((cfgA pf hb).slots t (3 : Fin 5))
abbrev hs3 (t : Fin (cfgA pf hb).N) : (ms3 pf hb t).IsWhole := hstage0_3 (((cfgA pf hb).slots t (3 : Fin 5)).cast nbuf0_3)

abbrev ms4 (t : Fin (cfgA pf hb).N) : Memref sig .tc .vmem S13x160x160 .f32 := spec0_4.stage ((cfgA pf hb).slots t (4 : Fin 5))
abbrev hs4 (t : Fin (cfgA pf hb).N) : (ms4 pf hb t).IsWhole := hstage0_4 (((cfgA pf hb).slots t (4 : Fin 5)).cast nbuf0_4)

/-! ## The output's schedule: one block, stored into at every point, written back after the last -/

theorem idx4 (t t' : Fin (cfgA pf hb).N) : ((cfgA pf hb).win (4 : Fin 5)).index t = ((cfgA pf hb).win (4 : Fin 5)).index t' := rfl

theorem flush4 (t : Fin (cfgA pf hb).N) : ((cfgA pf hb).win (4 : Fin 5)).flush t = decide (t.val + 1 = nOf pf) := by
  have hN : (cfgA pf hb).grid.N = nOf pf := NA_eq pf hb
  rw [Pipeline.Window.flush, show ((cfgA pf hb).win (4 : Fin 5)).isOut = true from rfl, Bool.true_and]
  rw [decide_eq_false (fun ⟨h, hne⟩ => hne (idx4 pf hb _ _) : ¬∃ h : t.val + 1 < (cfgA pf hb).grid.N, ((cfgA pf hb).win (4 : Fin 5)).index ⟨t.val + 1, h⟩ ≠ ((cfgA pf hb).win (4 : Fin 5)).index t), Bool.or_false]
  exact decide_eq_decide.mpr (by rw [← hN])

theorem idle4 (i : (cfgA pf hb).grid.Coords) : (cfgA pf hb).idle (4 : Fin 5) i = false := rfl

theorem fresh4 (t : Fin (cfgA pf hb).N) : (cfgA pf hb).fresh (4 : Fin 5) t.val = decide (t.val = 0) := by
  obtain ⟨n, hn⟩ := t
  cases n with
  | zero => rfl
  | succ n =>
    have hN : (cfgA pf hb).N = nOf pf := NA_eq pf hb
    show (cfgA pf hb).fresh (4 : Fin 5) (n + 1) = _
    rw [Pipeline.Cfg.fresh_succ (cfgA pf hb) (4 : Fin 5) n (Nat.lt_of_succ_lt hn), flush4, idle4, Bool.false_and, Bool.or_false]
    rw [decide_eq_false (by have := hn; simp only; omega), decide_eq_false (by simp)]

/-- The first point is the one whose word is zero. -/
theorem first_iff (t : Fin (cfgA pf hb).N) :
    (Scalar.cmpi .ne (Scalar.extui (Scalar.cmpi .eq (gw pf hb t) 0#32)) 0#32) = 1#1 ↔ t.val = 0 := by
  rw [gw_eq]
  have hN : (cfgA pf hb).N = nOf pf := NA_eq pf hb
  have ht := t.isLt
  have h2 := hb.2
  have key : ∀ w : BitVec 32, (Scalar.cmpi .ne (Scalar.extui (Scalar.cmpi .eq w 0#32)) 0#32) = 1#1 ↔ w = 0#32 := by
    intro w
    by_cases h : w = 0#32
    · subst h; exact ⟨fun _ => rfl, fun _ => by decide⟩
    · have hw : Scalar.cmpi .eq w 0#32 = 0#1 := by
        show BitVec.ofBool (w == 0#32) = 0#1
        rw [show (w == 0#32) = false from beq_eq_false_iff_ne.mpr h]; rfl
      rw [hw]
      exact ⟨fun h' => absurd h' (by decide), fun h' => absurd h' h⟩
  rw [key]
  constructor
  · intro h
    have := congrArg BitVec.toNat h
    rw [BitVec.toNat_ofNat, Nat.mod_eq_of_lt (by omega)] at this
    exact this
  · intro h; rw [h]

end Cert.Kernel1Ideal.Val

end
-- ==== Proof.SecondIdealFlow.lean ====
module

public import proofs.«01_k».proof.Proof.SecondIdealSched

@[expose] public section

set_option maxRecDepth 16384
set_option Elab.async false

noncomputable section

namespace Cert.Kernel1Ideal.Val

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) 𝕄 := emb₁

/-! ## The accumulator after a number of chunks -/

/-- One chunk's packed words out of one side of the packed array. -/
def blkX (side : Fin 2) (X : Vec F S2x10192x40x128 .i32) (n : ℕ) : Vec F S1x16x40x128 .i32 :=
  fun y => X (ix4 side ⟨(16 * n + (y 1).val) % 10192, Nat.mod_lt _ (by omega)⟩ (y 2) (y 3))

/-- One chunk's scale words out of one side of the scale array. -/
def blkS (side : Fin 2) (S : Vec F S2x10192x128 .i32) (n : ℕ) : Vec F S1x16x128 .i32 :=
  fun y => S (ix3 side ⟨(16 * n + (y 1).val) % 10192, Nat.mod_lt _ (by omega)⟩ (y 2))

/-- The accumulator after the first `n` chunks. -/
def accN (T : Vec F S16 .i32) (X : Vec F S2x10192x40x128 .i32) (S : Vec F S2x10192x128 .i32) : ℕ → Vec F S13x160x160 .f32
  | 0 => k0_pay2
  | n + 1 => step (BitVec.ofNat 32 n) T (blkX 0 X n) (blkX 1 X n) (blkS 0 S n) (blkS 1 S n) (accN T X S n)

variable (m : (ℓ : Loc nD τ sig) → Buf (Elt F) ℓ) (ρ : Dev nD → PrngReg)

/-- The buffers when the region begins: after the host operations. -/
def V (c : Dev nD) (b : Ref sig .tc) : Buf (Elt F) ((c.tc : Thread nD τ).loc b) := StableHlo.after hostOps0 (fun b => m (c, b)) b

/-- The tables the region is handed. -/
def tabs : pre0.Contents (Elt F) := fun k => V m 0 (pre0.ref k)

variable (hb : Bounded (tabs m))

/-- A window's block at a point, read off its array. -/
def iblk (c : Dev nD) (w : Fin (cfgA (tabs m) hb).W) (t : Fin (cfgA (tabs m) hb).N) :
    (((cfgA (tabs m) hb).win w).xblock (crd (tabs m) hb t)).Idx → Elt F ((cfgA (tabs m) hb).win w).elt :=
  (((cfgA (tabs m) hb).win w).blk t).view.read (Elt F) (V m c (Pipeline.arrRef spec0 w))

/-- The output after a point. -/
def outAt (c : Dev nD) (n : ℕ) : Vec F S13x160x160 .f32 :=
  accN (tabs m 1) (V m c main_arg0) (V m c main_arg1) n

/-- The proof data of the one pipeline. -/
def dats (_ : Fin 1) (c : Dev nD) : Dat τ (Elt F) Unit ℕ (UR sig nD τ) ℕ (cfgA (tabs m) hb) c where
  A w := V m c (Pipeline.arrRef spec0 w)
  after w t := match w with
    | ⟨0, _⟩ => iblk m hb c (0 : Fin 5) t
    | ⟨1, _⟩ => iblk m hb c (1 : Fin 5) t
    | ⟨2, _⟩ => iblk m hb c (2 : Fin 5) t
    | ⟨3, _⟩ => iblk m hb c (3 : Fin 5) t
    | ⟨4, _⟩ => outAt m c (t.val + 1)
  Φ _ := owns (c : Thread nD τ) (Memref.whole main_v0) fullShare.right (tabs m 1)
  q w := Pipeline.shareOf spec0 w
  owed _ := 0

theorem after0 (c : Dev nD) (t : Fin (cfgA (tabs m) hb).N) : (dats m hb 0 c).after (0 : Fin 5) t = iblk m hb c (0 : Fin 5) t := rfl
theorem before0 (c : Dev nD) (t : Fin (cfgA (tabs m) hb).N) (d) : (dats m hb 0 c).before (0 : Fin 5) t d = iblk m hb c (0 : Fin 5) t :=
  ((dats m hb 0 c).before_in_eq_fetched (0 : Fin 5) rfl (fun _ => rfl) (fun _ _ _ => rfl) (fun t => by rw [after0]; unfold Dat.blockOf iblk; rfl) t d).trans
    (by unfold Dat.fetched Dat.blockOf iblk; rfl)

theorem after1 (c : Dev nD) (t : Fin (cfgA (tabs m) hb).N) : (dats m hb 0 c).after (1 : Fin 5) t = iblk m hb c (1 : Fin 5) t := rfl
theorem before1 (c : Dev nD) (t : Fin (cfgA (tabs m) hb).N) (d) : (dats m hb 0 c).before (1 : Fin 5) t d = iblk m hb c (1 : Fin 5) t :=
  ((dats m hb 0 c).before_in_eq_fetched (1 : Fin 5) rfl (fun _ => rfl) (fun _ _ _ => rfl) (fun t => by rw [after1]; unfold Dat.blockOf iblk; rfl) t d).trans
    (by unfold Dat.fetched Dat.blockOf iblk; rfl)

theorem after2 (c : Dev nD) (t : Fin (cfgA (tabs m) hb).N) : (dats m hb 0 c).after (2 : Fin 5) t = iblk m hb c (2 : Fin 5) t := rfl
theorem before2 (c : Dev nD) (t : Fin (cfgA (tabs m) hb).N) (d) : (dats m hb 0 c).before (2 : Fin 5) t d = iblk m hb c (2 : Fin 5) t :=
  ((dats m hb 0 c).before_in_eq_fetched (2 : Fin 5) rfl (fun _ => rfl) (fun _ _ _ => rfl) (fun t => by rw [after2]; unfold Dat.blockOf iblk; rfl) t d).trans
    (by unfold Dat.fetched Dat.blockOf iblk; rfl)

theorem after3 (c : Dev nD) (t : Fin (cfgA (tabs m) hb).N) : (dats m hb 0 c).after (3 : Fin 5) t = iblk m hb c (3 : Fin 5) t := rfl
theorem before3 (c : Dev nD) (t : Fin (cfgA (tabs m) hb).N) (d) : (dats m hb 0 c).before (3 : Fin 5) t d = iblk m hb c (3 : Fin 5) t :=
  ((dats m hb 0 c).before_in_eq_fetched (3 : Fin 5) rfl (fun _ => rfl) (fun _ _ _ => rfl) (fun t => by rw [after3]; unfold Dat.blockOf iblk; rfl) t d).trans
    (by unfold Dat.fetched Dat.blockOf iblk; rfl)

theorem iblk0_eq (c : Dev nD) (t : Fin (cfgA (tabs m) hb).N) : (iblk m hb c (0 : Fin 5) t : Vec F S1x16x40x128 .i32) = blkX 0 (V m c main_arg0) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg0 _ = V m c main_arg0 _
  refine congrArg (V m c main_arg0) (funext fun a => Fin.ext ?_)
  match a with
  | ⟨0, _⟩ =>
    show (BitVec.ofNat 32 0).toNat * 1 + 1 * (y 0).val = 0
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 40 + 1 * (y 2).val = (y 2).val
    rw [BitVec.toNat_ofNat]; omega
  | ⟨3, _⟩ =>
    show (BitVec.ofNat 32 0).toNat * 128 + 1 * (y 3).val = (y 3).val
    rw [BitVec.toNat_ofNat]; omega

theorem iblk1_eq (c : Dev nD) (t : Fin (cfgA (tabs m) hb).N) : (iblk m hb c (1 : Fin 5) t : Vec F S1x16x40x128 .i32) = blkX 1 (V m c main_arg0) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg0 _ = V m c main_arg0 _
  refine congrArg (V m c main_arg0) (funext fun a => Fin.ext ?_)
  match a with
  | ⟨0, _⟩ =>
    show (BitVec.ofNat 32 1).toNat * 1 + 1 * (y 0).val = 1
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 40 + 1 * (y 2).val = (y 2).val
    rw [BitVec.toNat_ofNat]; omega
  | ⟨3, _⟩ =>
    show (BitVec.ofNat 32 0).toNat * 128 + 1 * (y 3).val = (y 3).val
    rw [BitVec.toNat_ofNat]; omega

theorem iblk2_eq (c : Dev nD) (t : Fin (cfgA (tabs m) hb).N) : (iblk m hb c (2 : Fin 5) t : Vec F S1x16x128 .i32) = blkS 0 (V m c main_arg1) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg1 _ = V m c main_arg1 _
  refine congrArg (V m c main_arg1) (funext fun a => Fin.ext ?_)
  match a with
  | ⟨0, _⟩ =>
    show (BitVec.ofNat 32 0).toNat * 1 + 1 * (y 0).val = 0
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 128 + 1 * (y 2).val = (y 2).val
    rw [BitVec.toNat_ofNat]; omega

theorem iblk3_eq (c : Dev nD) (t : Fin (cfgA (tabs m) hb).N) : (iblk m hb c (3 : Fin 5) t : Vec F S1x16x128 .i32) = blkS 1 (V m c main_arg1) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg1 _ = V m c main_arg1 _
  refine congrArg (V m c main_arg1) (funext fun a => Fin.ext ?_)
  match a with
  | ⟨0, _⟩ =>
    show (BitVec.ofNat 32 1).toNat * 1 + 1 * (y 0).val = 1
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 128 + 1 * (y 2).val = (y 2).val
    rw [BitVec.toNat_ofNat]; omega

theorem after4 (c : Dev nD) (t : Fin (cfgA (tabs m) hb).N) : (dats m hb 0 c).after (4 : Fin 5) t = outAt m c (t.val + 1) := rfl

theorem before4 (c : Dev nD) (t : Fin (cfgA (tabs m) hb).N) (d) :
    (dats m hb 0 c).before (4 : Fin 5) t d = if t.val = 0 then d else outAt m c t.val := by
  rw [(dats m hb 0 c).before_out_traj (4 : Fin 5) rfl (fun _ _ => rfl) (fun t _ hi _ => absurd hi (by rw [idle4]; decide)) t.val t rfl d, fresh4]
  by_cases h0 : t.val = 0
  · rw [if_pos h0, if_pos (decide_eq_true h0)]
  · rw [if_neg h0, if_neg (by rw [decide_eq_false h0]; decide), after4]
    exact congrArg (outAt m c) (by show t.val - 1 + 1 = t.val; omega)

theorem outAt_succ (c : Dev nD) (t : Fin (cfgA (tabs m) hb).N) :
    outAt m c (t.val + 1) = step (gw (tabs m) hb t) (tabs m 1) (iblk m hb c (0 : Fin 5) t) (iblk m hb c (1 : Fin 5) t) (iblk m hb c (2 : Fin 5) t) (iblk m hb c (3 : Fin 5) t) (outAt m c t.val) := by
  rw [gw_eq, iblk0_eq, iblk1_eq, iblk2_eq, iblk3_eq]; rfl

/-! ## The body obligation -/

/-- The body at a point on its staging memrefs, as the pipeline calls it. -/
abbrev bodyAt0 (t : Fin (cfgA (tabs m) hb).N) : Prog (TpuEff nD τ sig (Elt F) Λ₀ .tc) PUnit :=
  cc0_pair_matmul1 (dynb0 (tabs m)) (iS (tabs m) hb t) (gw (tabs m) hb t) (Memref.whole main_v0) (Memref.isWhole_whole _) (ms0 (tabs m) hb t) (hs0 (tabs m) hb t) (ms1 (tabs m) hb t) (hs1 (tabs m) hb t)
    (ms2 (tabs m) hb t) (hs2 (tabs m) hb t) (ms3 (tabs m) hb t) (hs3 (tabs m) hb t) (ms4 (tabs m) hb t) (hs4 (tabs m) hb t)

set_option maxHeartbeats 4000000 in
/-- The body at a point: the input blocks stay, the output becomes the accumulator after one more chunk. -/
theorem sound_body (c : Dev nD) (t : Fin (cfgA (tabs m) hb).N) :
    iprop((dats m hb 0 c).Φ t.castSucc ∗ (dats m hb 0 c).owesAt () t.castSucc
        ∗ (∃ d, owns (c : Thread nD τ) (ms0 (tabs m) hb t) fullShare ((dats m hb 0 c).before (0 : Fin 5) t d))
        ∗ (∃ d, owns (c : Thread nD τ) (ms1 (tabs m) hb t) fullShare ((dats m hb 0 c).before (1 : Fin 5) t d))
        ∗ (∃ d, owns (c : Thread nD τ) (ms2 (tabs m) hb t) fullShare ((dats m hb 0 c).before (2 : Fin 5) t d))
        ∗ (∃ d, owns (c : Thread nD τ) (ms3 (tabs m) hb t) fullShare ((dats m hb 0 c).before (3 : Fin 5) t d))
        ∗ (∃ d, owns (c : Thread nD τ) (ms4 (tabs m) hb t) fullShare ((dats m hb 0 c).before (4 : Fin 5) t d)))
      ⊢ wp frame (wpE (defs₀ (F := F)) Variants.none c none) Set.univ (bodyAt0 m hb t) fun _ =>
          iprop((dats m hb 0 c).Φ t.succ ∗ (dats m hb 0 c).owesAt () t.succ
            ∗ owns (c : Thread nD τ) (ms0 (tabs m) hb t) fullShare ((dats m hb 0 c).after (0 : Fin 5) t)
            ∗ owns (c : Thread nD τ) (ms1 (tabs m) hb t) fullShare ((dats m hb 0 c).after (1 : Fin 5) t)
            ∗ owns (c : Thread nD τ) (ms2 (tabs m) hb t) fullShare ((dats m hb 0 c).after (2 : Fin 5) t)
            ∗ owns (c : Thread nD τ) (ms3 (tabs m) hb t) fullShare ((dats m hb 0 c).after (3 : Fin 5) t)
            ∗ owns (c : Thread nD τ) (ms4 (tabs m) hb t) fullShare ((dats m hb 0 c).after (4 : Fin 5) t)) := by
  simp only [before0, before1, before2, before3, before4, after0, after1, after2, after3, after4]
  rewrite [show (dats m hb 0 c).Φ t.succ = owns (c : Thread nD τ) (Memref.whole main_v0) fullShare.right (tabs m 1) from rfl,
    show (dats m hb 0 c).Φ t.castSucc = owns (c : Thread nD τ) (Memref.whole main_v0) fullShare.right (tabs m 1) from rfl,
    show (dats m hb 0 c).owesAt () t.succ = (dats m hb 0 c).owesAt () t.castSucc from rfl]
  by_cases h0 : t.val = 0
  · have hc0 := (first_iff (tabs m) hb t).mpr h0
    simp only [h0, ↓reduceIte]
    rewrite [show outAt m c (0 + 1) = step (gw (tabs m) hb t) (tabs m 1) (iblk m hb c (0 : Fin 5) t) (iblk m hb c (1 : Fin 5) t) (iblk m hb c (2 : Fin 5) t) (iblk m hb c (3 : Fin 5) t) k0_pay2 from by
      have h := outAt_succ m hb c t; rw [h0] at h; exact h]
    iintro ⟨HT, Ho, ⟨%d0, H0⟩, ⟨%d1, H1⟩, ⟨%d2, H2⟩, ⟨%d3, H3⟩, ⟨%d4, H4⟩⟩
    iapply ((runA c (dynb0 (tabs m)) (iS (tabs m) hb t) (gw (tabs m) hb t) (Memref.whole main_v0) (Memref.isWhole_whole _) (ms0 (tabs m) hb t) (hs0 (tabs m) hb t) (ms1 (tabs m) hb t) (hs1 (tabs m) hb t)
      (ms2 (tabs m) hb t) (hs2 (tabs m) hb t) (ms3 (tabs m) hb t) (hs3 (tabs m) hb t) (ms4 (tabs m) hb t) (hs4 (tabs m) hb t)
      (tabs m 1) (iblk m hb c (0 : Fin 5) t) (iblk m hb c (1 : Fin 5) t) (iblk m hb c (2 : Fin 5) t) (iblk m hb c (3 : Fin 5) t) hc0).2 _)
    isplitl [HT]; · iapply rep_of_owns; iexact HT
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iexists _; iexact H4
    iintro ⟨HT, H0, H1, H2, H3, H4⟩
    isplitl [HT]; · iapply owns_of_rep; iexact HT
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact readA c _ _ _ _ _ _ _ _ _ _ _ _ _ _ _ _ _ _ _ _ hc0
  · have hc0 : ¬_ := fun h => h0 ((first_iff (tabs m) hb t).mp h)
    simp only [h0, ↓reduceIte]
    rewrite [outAt_succ m hb c t]
    iintro ⟨HT, Ho, ⟨%d0, H0⟩, ⟨%d1, H1⟩, ⟨%d2, H2⟩, ⟨%d3, H3⟩, ⟨%d4, H4⟩⟩
    iapply ((runB c (dynb0 (tabs m)) (iS (tabs m) hb t) (gw (tabs m) hb t) (Memref.whole main_v0) (Memref.isWhole_whole _) (ms0 (tabs m) hb t) (hs0 (tabs m) hb t) (ms1 (tabs m) hb t) (hs1 (tabs m) hb t)
      (ms2 (tabs m) hb t) (hs2 (tabs m) hb t) (ms3 (tabs m) hb t) (hs3 (tabs m) hb t) (ms4 (tabs m) hb t) (hs4 (tabs m) hb t)
      (tabs m 1) (iblk m hb c (0 : Fin 5) t) (iblk m hb c (1 : Fin 5) t) (iblk m hb c (2 : Fin 5) t) (iblk m hb c (3 : Fin 5) t) (outAt m c t.val) hc0).2 _)
    isplitl [HT]; · iapply rep_of_owns; iexact HT
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iexact H4
    iintro ⟨HT, H0, H1, H2, H3, H4⟩
    isplitl [HT]; · iapply owns_of_rep; iexact HT
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact readB c _ _ _ _ _ _ _ _ _ _ _ _ _ _ _ _ _ _ _ _ _ hc0

set_option maxHeartbeats 1000000 in
/-- The library's body obligation, at every point. -/
theorem body_obligation (c : Dev nD) : BodyObligation (dats m hb 0 c) (defs₀ (F := F)) Variants.none () Set.univ := fun t => by
  rw [bigSep_W0, bigSep_W0]
  exact sound_body m hb c t

/-! ## The launch -/

/-- The rounds library's launch element. -/
def u₀ : UR sig nD τ :=
  initOf (Pipeline.cells (pcs (tabs m) hb) (cellOf_inj (F := F) fun _ => adm (tabs m) hb))
    (Pipeline.launchToks (pcs (tabs m) hb) (cellOf_inj (F := F) fun _ => adm (tabs m) hb))

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v2) ↦{q 0} v 0) ∗ (((c : Thread nD τ).loc main_v0) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm (tabs m) hb).1 ∗ Pipeline.scopedRest spec0 c) ⊢ (dats m hb 0 c).Φ 0 := by
  rw [prefHeld_eq, scopedRest0_eq, show (dats m hb 0 c).Φ 0 = owns (c : Thread nD τ) (Memref.whole main_v0) fullShare.right (tabs m 1) from rfl]
  have h : (iprop(BI.emp ∗ ((((c : Thread nD τ).loc main_v2) ↦{fullShare.right} (adm (tabs m) hb).1 0) ∗ (((c : Thread nD τ).loc main_v0) ↦{fullShare.right} (adm (tabs m) hb).1 1)) ∗ BI.emp) : sProp 𝕄)
      ⊢ (((c : Thread nD τ).loc main_v0) ↦{fullShare.right} tabs m 1) := by
    iintro ⟨-, ⟨-, HT1⟩, -⟩
    iexact HT1
  rw [← owns_whole (c : Thread nD τ) main_v0 fullShare.right (tabs m 1)] at h
  exact h

theorem phiN_exit (c : Dev nD) : (dats m hb 0 c).Φ (Fin.last (cfgA (tabs m) hb).N) ⊢ iprop(BI.emp ∗ Pipeline.scopedRest spec0 c) := by
  rw [scopedRest0_eq]
  iintro -
  isplitr; · iempintro
  iempintro

/-- The physical post: every array at what the library computes, the chunk bounds unchanged. -/
def QC : PUnit × MemSt nD τ sig (Elt F) → Prop := fun r =>
  ∀ c : Dev nD, (∀ w : Fin (cfgA (tabs m) hb).W, r.2.mem (((cfgA (tabs m) hb).win w).arr.view.loc (c : Thread nD τ)) = (dats m hb 0 c).arrAt w (cfgA (tabs m) hb).N)
    ∧ r.2.mem ((c : Thread nD τ).loc main_arg2) = V m c main_arg2

theorem V_pre (c : Dev nD) (j : Fin 2) : V m c (pre0.ref j) = (adm (tabs m) hb).1 j := by
  obtain rfl : c = 0 := Subsingleton.elim _ _
  rfl

set_option backward.isDefEq.respectTransparency.types false in
set_option maxHeartbeats 4000000 in
/-- Every weakly fair run terminates with each array at the computed contents and every semaphore at zero. -/
theorem run_main_quiescent : θ_run (defs (F := F)) (onTc (τ := τ) (main (F := F))) ⟨m, fun _ => 0, ρ⟩ (fun r => QC m hb r ∧ r.2.sem = fun _ => 0) :=
  Pipeline.θ_run_region_noSem_pf_quiescent pcfgs (fun _ => adm (tabs m) hb) (dats m hb) () (cellOf_inj (F := F) fun _ => adm (tabs m) hb) (0 : Fin 1)
    winFacts₀0 preFacts0 EP defs₀ Variants.none m ρ main
    (hbody := fun c => (body_obligation m hb c).loose) (hne := block_pos0)
    (harr := arr_whole0) (hstage := stage_whole0) (howed := fun _ _ => rfl)
    (u₀ := u₀ m hb) (hu₀ := .rfl)
    (V := V m)
    (hmain := Pipeline.hmainP_prefix pcfgs 0 defs₀ Variants.none m main hostOps0 hostOps0_sub ⟨rfl, rfl, rfl⟩ main_chain)
    (hsplit := fun c => Pipeline.Dat.arrays_split_shared (dats m hb 0 c) sharedIn0 arr_whole0 (fun _ _ => rfl) (V m c) _ fun _ => rfl)
    (hpf := V_pre m hb)
    (X := fun _ => iprop(emp)) (Y := fun _ => iprop(emp)) (Z := fun c => iprop(((c : Thread nD τ).loc main_arg2) ↦{fullShare} V m c main_arg2))
    (hX := fun c => by
      rw [unscopedRestP0_eq]; iintro ⟨H2, -⟩
      isplitr; · iempintro
      iexact H2)
    (hin := phi0_intro m hb)
    (hout := phiN_exit m hb)
    (QY := fun c s => s.mem ((c : Thread nD τ).loc main_arg2) = V m c main_arg2)
    (hY := fun c s' => by
      iintro ⟨-, H2, HSI⟩
      icombine HSI H2 gives %h2
      imodintro
      isplitr; · ipureintro; exact Buf.eq_of_forall_mem_univ h2
      iexact HSI)
    (hQ := fun _ h hz => ⟨fun c => ⟨(h c).1, (h c).2.2⟩, hz⟩)

theorem V_arg0 (c : Dev nD) : V m c main_arg0 = m ((c.tc : Thread nD τ).loc main_arg0) := by
  unfold V; after_results
theorem V_arg1 (c : Dev nD) : V m c main_arg1 = m ((c.tc : Thread nD τ).loc main_arg1) := by
  unfold V; after_results
theorem V_arg2 (c : Dev nD) : V m c main_arg2 = m ((c.tc : Thread nD τ).loc main_arg2) := by
  unfold V; after_results
theorem V_v0 (c : Dev nD) : V m c main_v0 = extractStridedSlice S16 ![16] (m ((c.tc : Thread nD τ).loc main_arg2)) slices_S32_S16_16 := by
  unfold V; after_results
theorem V_v2 (c : Dev nD) : V m c main_v2 = shapeCast S_ (extractStridedSlice S1 ![13] (extractStridedSlice S16 ![16] (m ((c.tc : Thread nD τ).loc main_arg2)) slices_S32_S16_16) slices_S16_S1_13) shapeCasts_S1_S_ := by
  unfold V; after_results
  rfl

end Cert.Kernel1Ideal.Val

end
-- ==== Proof.IdealRuns.lean ====
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384
set_option Elab.async false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A one-bit word widened to 32 bits is at most one. -/
theorem ext_le (x : BitVec 1) : (Scalar.extui x : BitVec 32).toNat ≤ 1 := by
  revert x; decide

/-- A sum of two small words does not wrap. -/
theorem add_le {x y : BitVec 32} {n : ℕ} (hx : x.toNat ≤ n) (hy : y.toNat ≤ 1) (hn : n ≤ 100) :
    (Scalar.addi x y).toNat ≤ n + 1 := by
  have : (Scalar.addi x y).toNat = (x.toNat + y.toNat) % 2 ^ 32 := BitVec.toNat_add ..
  rw [this]; omega

/-- The offset row is a count of twelve comparisons, so the store always fits the accumulator. -/
theorem chk_all (g a1 a2 a3 a4 a5 a6 a7 a8 a9 a10 a11 a12 : BitVec 32) :
    k0_chk1 g a1 a2 a3 a4 a5 a6 a7 a8 a9 a10 a11 a12 := by
  unfold k0_chk1 k0_off1
  have h0 : (0#32 : BitVec 32).toNat ≤ 0 := by decide
  have h := add_le (add_le (add_le (add_le (add_le (add_le (add_le (add_le (add_le (add_le (add_le (add_le h0
    (ext_le (Scalar.cmpi .sge g a1)) (by decide)) (ext_le (Scalar.cmpi .sge g a2)) (by decide))
    (ext_le (Scalar.cmpi .sge g a3)) (by decide)) (ext_le (Scalar.cmpi .sge g a4)) (by decide))
    (ext_le (Scalar.cmpi .sge g a5)) (by decide)) (ext_le (Scalar.cmpi .sge g a6)) (by decide))
    (ext_le (Scalar.cmpi .sge g a7)) (by decide)) (ext_le (Scalar.cmpi .sge g a8)) (by decide))
    (ext_le (Scalar.cmpi .sge g a9)) (by decide)) (ext_le (Scalar.cmpi .sge g a10)) (by decide))
    (ext_le (Scalar.cmpi .sge g a11)) (by decide)) (ext_le (Scalar.cmpi .sge g a12)) (by decide)
  intro a
  fin_cases a
  · exact (Nat.add_le_add_right h 1)
  · exact le_refl 160
  · exact le_refl 160

set_option backward.proofsInPublic true in
set_option maxHeartbeats 40000000 in
/-- A later chunk's run: what the body stores in the accumulator. -/
noncomputable def runB (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32) (xo : Vec F S13x160x160 .f32)
    (hc0 : ¬((Scalar.cmpi .ne (Scalar.extui (Scalar.cmpi .eq arg0 0#32)) 0#32) = 1#1)) :
    { out0 : List (View.Piece (Elt F) S13x160x160 .f32) //
      ∀ (K : PUnit → sProp 𝕄),
        iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ owns (c : Thread nD τ) arg6 fullShare xo
          ∗ (iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ (arg6.view.loc (c : Thread nD τ) ↦[arg6.view.set]{fullShare} arg6.view.writes (Elt F) (harg6.unread xo) out0)) -∗ K ⟨⟩))
          ⊢ wp frame (wpE (defs₀ (F := F)) Variants.none c none) Set.univ (cc0_pair_matmul0 b i arg0 arg1 harg1 arg2 harg2 arg3 harg3 arg4 harg4 arg5 harg5 arg6 harg6) K } :=
  by
    refine ⟨?_, fun K => ?run⟩
    case run =>
      unfold owns
      rw [cc0_pair_matmul0_eq_skeleton]; unfold cc0_pair_matmul0_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
      iintro ⟨HT, H0, H1, H2, H3, ⟨%f1, %hf1, HO⟩, Hk⟩
      obtain rfl := harg6.eq_unread hf1
      sl_exec! (disch := first | with_reducible exact hc0 | with_reducible exact chk_all _ _ _ _ _ _ _ _ _ _ _ _ _)
      sl_step
      iapply Hk
      isplitl [HT]; · iexact HT
      isplitl [H0]; · iexact H0
      isplitl [H1]; · iexact H1
      isplitl [H2]; · iexact H2
      isplitl [H3]; · iexact H3
      iexact HO

set_option backward.proofsInPublic true in
set_option maxHeartbeats 40000000 in
/-- The first chunk's run. -/
noncomputable def runA (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32)
    (hc0 : (Scalar.cmpi .ne (Scalar.extui (Scalar.cmpi .eq arg0 0#32)) 0#32) = 1#1) :
    { out0 : List (View.Piece (Elt F) S13x160x160 .f32) //
      ∀ (K : PUnit → sProp 𝕄),
        iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ (∃ d, owns (c : Thread nD τ) arg6 fullShare d)
          ∗ (iprop((arg1.view.loc (c : Thread nD τ) ↦[arg1.view.set]{fullShare.right} arg1.view.rep T)
          ∗ (arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep s0)
          ∗ (arg5.view.loc (c : Thread nD τ) ↦[arg5.view.set]{fullShare} arg5.view.rep s1)
          ∗ (arg6.view.loc (c : Thread nD τ) ↦[arg6.view.set]{fullShare} arg6.view.writes (Elt F) arg6.view.junk out0)) -∗ K ⟨⟩))
          ⊢ wp frame (wpE (defs₀ (F := F)) Variants.none c none) Set.univ (cc0_pair_matmul0 b i arg0 arg1 harg1 arg2 harg2 arg3 harg3 arg4 harg4 arg5 harg5 arg6 harg6) K } :=
  by
    refine ⟨?_, fun K => ?run⟩
    case run =>
      unfold owns
      rw [cc0_pair_matmul0_eq_skeleton]; unfold cc0_pair_matmul0_skel
      simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
      iintro ⟨HT, H0, H1, H2, H3, ⟨%d1, %f1, -, HO⟩, Hk⟩
      sl_exec! (disch := first | with_reducible exact hc0 | with_reducible exact chk_all _ _ _ _ _ _ _ _ _ _ _ _ _)
      sl_step
      iapply Hk
      isplitl [HT]; · iexact HT
      isplitl [H0]; · iexact H0
      isplitl [H1]; · iexact H1
      isplitl [H2]; · iexact H2
      isplitl [H3]; · iexact H3
      iexact HO

end Cert.KernelIdeal.Val
-- ==== Proof.IdealZin.lean ====
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.IdealRuns

@[expose] public section

set_option maxRecDepth 16384
set_option Elab.async false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Word `j` of the prefetched chunk bounds. -/
def tw (T : Vec F S16 .i32) (j : Fin 16) : BitVec 32 := T (ix1 j)

/-- The `24 × 128` packed words of block `j`. -/
def ldX (p : Vec F S1x16x40x128 .i32) (j : Fin 16) : Vec F S1x1x24x128 .i32 := fun y =>
  p (ix4 (0 : Fin 1) j (⟨(y 2).val, lt_of_lt_of_le (y 2).isLt (by decide)⟩ : Fin 40) (y 3 : Fin 128))

/-- The `16 × 128` packed words of block `j`. -/
def ldD (p : Vec F S1x16x40x128 .i32) (j : Fin 16) : Vec F S1x1x16x128 .i32 := fun y =>
  p (ix4 (0 : Fin 1) j (⟨24 + (y 2).val, Nat.add_lt_add_left (y 2).isLt 24⟩ : Fin 40) (y 3 : Fin 128))

theorem readX (v : View sig .tc .vmem S1x16x40x128 .i32) (x : Vec F S1x16x40x128 .i32) (j : Fin 16) (o : Fin 4 → ℕ) (inb) (ho : o = ![0, j.val, 0, 0]) :
    v.readAt (Elt F) (Rect.unit (s := S1x16x40x128) o S1x1x24x128.size inb).toLoadRect (v.rep x) = ldX x j := by
  subst ho
  rw [View.readAt_rep]
  funext y
  refine congrArg x (funext fun a => Fin.ext ?_)
  have h0 : (y 0).val < 1 := (y 0).isLt
  have h1 : (y 1).val < 1 := (y 1).isLt
  fin_cases a
  · show 0 + 1 * (y 0).val = 0; omega
  · show j.val + 1 * (y 1).val = j.val; omega
  · show 0 + 1 * (y 2).val = (y 2).val; omega
  · show 0 + 1 * (y 3).val = (y 3).val; omega

theorem readD (v : View sig .tc .vmem S1x16x40x128 .i32) (x : Vec F S1x16x40x128 .i32) (j : Fin 16) (o : Fin 4 → ℕ) (inb) (ho : o = ![0, j.val, 24, 0]) :
    v.readAt (Elt F) (Rect.unit (s := S1x16x40x128) o S1x1x16x128.size inb).toLoadRect (v.rep x) = ldD x j := by
  subst ho
  rw [View.readAt_rep]
  funext y
  refine congrArg x (funext fun a => Fin.ext ?_)
  have h0 : (y 0).val < 1 := (y 0).isLt
  have h1 : (y 1).val < 1 := (y 1).isLt
  fin_cases a
  · show 0 + 1 * (y 0).val = 0; omega
  · show j.val + 1 * (y 1).val = j.val; omega
  · show 24 + 1 * (y 2).val = 24 + (y 2).val; omega
  · show 0 + 1 * (y 3).val = (y 3).val; omega

theorem readS (v : View sig .tc .vmem S1x16x128 .i32) (x : Vec F S1x16x128 .i32) (inb) :
    v.readAt (Elt F) (Rect.unit (s := S1x16x128) ![0, 0, 0] ![1, 16, 128] inb).toLoadRect (v.rep x) = x := by
  rw [View.readAt_rep]
  funext y
  refine congrArg x (funext fun a => Fin.ext ?_)
  fin_cases a
  · show 0 + 1 * (y 0).val = (y 0).val; omega
  · show 0 + 1 * (y 1).val = (y 1).val; omega
  · show 0 + 1 * (y 2).val = (y 2).val; omega

theorem ldX0 (v : View sig .tc .vmem S1x16x40x128 .i32) (x : Vec F S1x16x40x128 .i32) (inb) :
    v.readAt (Elt F) (Rect.unit (s := S1x16x40x128) ![0, 0, 0, 0] ![1, 1, 24, 128] inb).toLoadRect (v.rep x) = ldX x 0 := readX v x 0 _ inb rfl
theorem ldD0 (v : View sig .tc .vmem S1x16x40x128 .i32) (x : Vec F S1x16x40x128 .i32) (inb) :
    v.readAt (Elt F) (Rect.unit (s := S1x16x40x128) ![0, 0, 24, 0] ![1, 1, 16, 128] inb).toLoadRect (v.rep x) = ldD x 0 := readD v x 0 _ inb rfl
theorem ldX1 (v : View sig .tc .vmem S1x16x40x128 .i32) (x : Vec F S1x16x40x128 .i32) (inb) :
    v.readAt (Elt F) (Rect.unit (s := S1x16x40x128) ![0, 1, 0, 0] ![1, 1, 24, 128] inb).toLoadRect (v.rep x) = ldX x 1 := readX v x 1 _ inb rfl
theorem ldD1 (v : View sig .tc .vmem S1x16x40x128 .i32) (x : Vec F S1x16x40x128 .i32) (inb) :
    v.readAt (Elt F) (Rect.unit (s := S1x16x40x128) ![0, 1, 24, 0] ![1, 1, 16, 128] inb).toLoadRect (v.rep x) = ldD x 1 := readD v x 1 _ inb rfl
theorem ldX2 (v : View sig .tc .vmem S1x16x40x128 .i32) (x : Vec F S1x16x40x128 .i32) (inb) :
    v.readAt (Elt F) (Rect.unit (s := S1x16x40x128) ![0, 2, 0, 0] ![1, 1, 24, 128] inb).toLoadRect (v.rep x) = ldX x 2 := readX v x 2 _ inb rfl
theorem ldD2 (v : View sig .tc .vmem S1x16x40x128 .i32) (x : Vec F S1x16x40x128 .i32) (inb) :
    v.readAt (Elt F) (Rect.unit (s := S1x16x40x128) ![0, 2, 24, 0] ![1, 1, 16, 128] inb).toLoadRect (v.rep x) = ldD x 2 := readD v x 2 _ inb rfl
theorem ldX3 (v : View sig .tc .vmem S1x16x40x128 .i32) (x : Vec F S1x16x40x128 .i32) (inb) :
    v.readAt (Elt F) (Rect.unit (s := S1x16x40x128) ![0, 3, 0, 0] ![1, 1, 24, 128] inb).toLoadRect (v.rep x) = ldX x 3 := readX v x 3 _ inb rfl
theorem ldD3 (v : View sig .tc .vmem S1x16x40x128 .i32) (x : Vec F S1x16x40x128 .i32) (inb) :
    v.readAt (Elt F) (Rect.unit (s := S1x16x40x128) ![0, 3, 24, 0] ![1, 1, 16, 128] inb).toLoadRect (v.rep x) = ldD x 3 := readD v x 3 _ inb rfl
theorem ldX4 (v : View sig .tc .vmem S1x16x40x128 .i32) (x : Vec F S1x16x40x128 .i32) (inb) :
    v.readAt (Elt F) (Rect.unit (s := S1x16x40x128) ![0, 4, 0, 0] ![1, 1, 24, 128] inb).toLoadRect (v.rep x) = ldX x 4 := readX v x 4 _ inb rfl
theorem ldD4 (v : View sig .tc .vmem S1x16x40x128 .i32) (x : Vec F S1x16x40x128 .i32) (inb) :
    v.readAt (Elt F) (Rect.unit (s := S1x16x40x128) ![0, 4, 24, 0] ![1, 1, 16, 128] inb).toLoadRect (v.rep x) = ldD x 4 := readD v x 4 _ inb rfl
theorem ldX5 (v : View sig .tc .vmem S1x16x40x128 .i32) (x : Vec F S1x16x40x128 .i32) (inb) :
    v.readAt (Elt F) (Rect.unit (s := S1x16x40x128) ![0, 5, 0, 0] ![1, 1, 24, 128] inb).toLoadRect (v.rep x) = ldX x 5 := readX v x 5 _ inb rfl
theorem ldD5 (v : View sig .tc .vmem S1x16x40x128 .i32) (x : Vec F S1x16x40x128 .i32) (inb) :
    v.readAt (Elt F) (Rect.unit (s := S1x16x40x128) ![0, 5, 24, 0] ![1, 1, 16, 128] inb).toLoadRect (v.rep x) = ldD x 5 := readD v x 5 _ inb rfl
theorem ldX6 (v : View sig .tc .vmem S1x16x40x128 .i32) (x : Vec F S1x16x40x128 .i32) (inb) :
    v.readAt (Elt F) (Rect.unit (s := S1x16x40x128) ![0, 6, 0, 0] ![1, 1, 24, 128] inb).toLoadRect (v.rep x) = ldX x 6 := readX v x 6 _ inb rfl
theorem ldD6 (v : View sig .tc .vmem S1x16x40x128 .i32) (x : Vec F S1x16x40x128 .i32) (inb) :
    v.readAt (Elt F) (Rect.unit (s := S1x16x40x128) ![0, 6, 24, 0] ![1, 1, 16, 128] inb).toLoadRect (v.rep x) = ldD x 6 := readD v x 6 _ inb rfl
theorem ldX7 (v : View sig .tc .vmem S1x16x40x128 .i32) (x : Vec F S1x16x40x128 .i32) (inb) :
    v.readAt (Elt F) (Rect.unit (s := S1x16x40x128) ![0, 7, 0, 0] ![1, 1, 24, 128] inb).toLoadRect (v.rep x) = ldX x 7 := readX v x 7 _ inb rfl
theorem ldD7 (v : View sig .tc .vmem S1x16x40x128 .i32) (x : Vec F S1x16x40x128 .i32) (inb) :
    v.readAt (Elt F) (Rect.unit (s := S1x16x40x128) ![0, 7, 24, 0] ![1, 1, 16, 128] inb).toLoadRect (v.rep x) = ldD x 7 := readD v x 7 _ inb rfl
theorem ldX8 (v : View sig .tc .vmem S1x16x40x128 .i32) (x : Vec F S1x16x40x128 .i32) (inb) :
    v.readAt (Elt F) (Rect.unit (s := S1x16x40x128) ![0, 8, 0, 0] ![1, 1, 24, 128] inb).toLoadRect (v.rep x) = ldX x 8 := readX v x 8 _ inb rfl
theorem ldD8 (v : View sig .tc .vmem S1x16x40x128 .i32) (x : Vec F S1x16x40x128 .i32) (inb) :
    v.readAt (Elt F) (Rect.unit (s := S1x16x40x128) ![0, 8, 24, 0] ![1, 1, 16, 128] inb).toLoadRect (v.rep x) = ldD x 8 := readD v x 8 _ inb rfl
theorem ldX9 (v : View sig .tc .vmem S1x16x40x128 .i32) (x : Vec F S1x16x40x128 .i32) (inb) :
    v.readAt (Elt F) (Rect.unit (s := S1x16x40x128) ![0, 9, 0, 0] ![1, 1, 24, 128] inb).toLoadRect (v.rep x) = ldX x 9 := readX v x 9 _ inb rfl
theorem ldD9 (v : View sig .tc .vmem S1x16x40x128 .i32) (x : Vec F S1x16x40x128 .i32) (inb) :
    v.readAt (Elt F) (Rect.unit (s := S1x16x40x128) ![0, 9, 24, 0] ![1, 1, 16, 128] inb).toLoadRect (v.rep x) = ldD x 9 := readD v x 9 _ inb rfl
theorem ldX10 (v : View sig .tc .vmem S1x16x40x128 .i32) (x : Vec F S1x16x40x128 .i32) (inb) :
    v.readAt (Elt F) (Rect.unit (s := S1x16x40x128) ![0, 10, 0, 0] ![1, 1, 24, 128] inb).toLoadRect (v.rep x) = ldX x 10 := readX v x 10 _ inb rfl
theorem ldD10 (v : View sig .tc .vmem S1x16x40x128 .i32) (x : Vec F S1x16x40x128 .i32) (inb) :
    v.readAt (Elt F) (Rect.unit (s := S1x16x40x128) ![0, 10, 24, 0] ![1, 1, 16, 128] inb).toLoadRect (v.rep x) = ldD x 10 := readD v x 10 _ inb rfl
theorem ldX11 (v : View sig .tc .vmem S1x16x40x128 .i32) (x : Vec F S1x16x40x128 .i32) (inb) :
    v.readAt (Elt F) (Rect.unit (s := S1x16x40x128) ![0, 11, 0, 0] ![1, 1, 24, 128] inb).toLoadRect (v.rep x) = ldX x 11 := readX v x 11 _ inb rfl
theorem ldD11 (v : View sig .tc .vmem S1x16x40x128 .i32) (x : Vec F S1x16x40x128 .i32) (inb) :
    v.readAt (Elt F) (Rect.unit (s := S1x16x40x128) ![0, 11, 24, 0] ![1, 1, 16, 128] inb).toLoadRect (v.rep x) = ldD x 11 := readD v x 11 _ inb rfl
theorem ldX12 (v : View sig .tc .vmem S1x16x40x128 .i32) (x : Vec F S1x16x40x128 .i32) (inb) :
    v.readAt (Elt F) (Rect.unit (s := S1x16x40x128) ![0, 12, 0, 0] ![1, 1, 24, 128] inb).toLoadRect (v.rep x) = ldX x 12 := readX v x 12 _ inb rfl
theorem ldD12 (v : View sig .tc .vmem S1x16x40x128 .i32) (x : Vec F S1x16x40x128 .i32) (inb) :
    v.readAt (Elt F) (Rect.unit (s := S1x16x40x128) ![0, 12, 24, 0] ![1, 1, 16, 128] inb).toLoadRect (v.rep x) = ldD x 12 := readD v x 12 _ inb rfl
theorem ldX13 (v : View sig .tc .vmem S1x16x40x128 .i32) (x : Vec F S1x16x40x128 .i32) (inb) :
    v.readAt (Elt F) (Rect.unit (s := S1x16x40x128) ![0, 13, 0, 0] ![1, 1, 24, 128] inb).toLoadRect (v.rep x) = ldX x 13 := readX v x 13 _ inb rfl
theorem ldD13 (v : View sig .tc .vmem S1x16x40x128 .i32) (x : Vec F S1x16x40x128 .i32) (inb) :
    v.readAt (Elt F) (Rect.unit (s := S1x16x40x128) ![0, 13, 24, 0] ![1, 1, 16, 128] inb).toLoadRect (v.rep x) = ldD x 13 := readD v x 13 _ inb rfl
theorem ldX14 (v : View sig .tc .vmem S1x16x40x128 .i32) (x : Vec F S1x16x40x128 .i32) (inb) :
    v.readAt (Elt F) (Rect.unit (s := S1x16x40x128) ![0, 14, 0, 0] ![1, 1, 24, 128] inb).toLoadRect (v.rep x) = ldX x 14 := readX v x 14 _ inb rfl
theorem ldD14 (v : View sig .tc .vmem S1x16x40x128 .i32) (x : Vec F S1x16x40x128 .i32) (inb) :
    v.readAt (Elt F) (Rect.unit (s := S1x16x40x128) ![0, 14, 24, 0] ![1, 1, 16, 128] inb).toLoadRect (v.rep x) = ldD x 14 := readD v x 14 _ inb rfl
theorem ldX15 (v : View sig .tc .vmem S1x16x40x128 .i32) (x : Vec F S1x16x40x128 .i32) (inb) :
    v.readAt (Elt F) (Rect.unit (s := S1x16x40x128) ![0, 15, 0, 0] ![1, 1, 24, 128] inb).toLoadRect (v.rep x) = ldX x 15 := readX v x 15 _ inb rfl
theorem ldD15 (v : View sig .tc .vmem S1x16x40x128 .i32) (x : Vec F S1x16x40x128 .i32) (inb) :
    v.readAt (Elt F) (Rect.unit (s := S1x16x40x128) ![0, 15, 24, 0] ![1, 1, 16, 128] inb).toLoadRect (v.rep x) = ldD x 15 := readD v x 15 _ inb rfl

/-- Rows of one block of decoded and scaled values: 96 of the first codes, 64 of the second. -/
def tileOf (p : Vec F S1x16x40x128 .i32) (s : Vec F S1x16x128 .i32) (j : Fin 16) (o : Fin 2 → ℕ) (ho : S16x128.Slices o S1x128) : FVec F S160x128 .bf16 :=
  concatenate S160x128 0
    [⟨S96x128, mulf (extf .bf16 (bitcastToFloat .fp8e4m3 (bitcast S96x128 8 (shapeCast S24x128 (ldX p j) shapeCasts_S1x1x24x128_S24x128) bitcasts_S24x128_w32_S96x128_w8)) bitsLt_fp8e4m3_bf16)
      (truncf .bf16 (broadcastTo S96x128 (shapeCast S1x128 (extractStridedSlice S1x128 o (k0_pay4 s) ho) shapeCasts_S1x128_S1x128) broadcasts_S1x128_S96x128) bitsLt_bf16_f32)⟩,
     ⟨S64x128, mulf (extf .bf16 (bitcastToFloat .fp8e5m2 (bitcast S64x128 8 (shapeCast S16x128 (ldD p j) shapeCasts_S1x1x16x128_S16x128) bitcasts_S16x128_w32_S64x128_w8)) bitsLt_fp8e5m2_bf16)
      (truncf .bf16 (broadcastTo S64x128 (shapeCast S1x128 (extractStridedSlice S1x128 o (k0_pay5 s) ho) shapeCasts_S1x128_S1x128) broadcasts_S1x128_S64x128) bitsLt_bf16_f32)⟩]
    concatenates_S96x128_S64x128_S160x128_d0

/-- A chunk's decoded and scaled values: sixteen blocks side by side. -/
def zOf (p : Vec F S1x16x40x128 .i32) (s : Vec F S1x16x128 .i32) : FVec F S160x2048 .bf16 :=
  concatenate S160x2048 1 [⟨S160x128, tileOf p s 0 ![0, 0] slices_S16x128_o0_0_S1x128⟩, ⟨S160x128, tileOf p s 1 ![1, 0] slices_S16x128_o1_0_S1x128⟩, ⟨S160x128, tileOf p s 2 ![2, 0] slices_S16x128_o2_0_S1x128⟩, ⟨S160x128, tileOf p s 3 ![3, 0] slices_S16x128_o3_0_S1x128⟩, ⟨S160x128, tileOf p s 4 ![4, 0] slices_S16x128_o4_0_S1x128⟩, ⟨S160x128, tileOf p s 5 ![5, 0] slices_S16x128_o5_0_S1x128⟩, ⟨S160x128, tileOf p s 6 ![6, 0] slices_S16x128_o6_0_S1x128⟩, ⟨S160x128, tileOf p s 7 ![7, 0] slices_S16x128_o7_0_S1x128⟩, ⟨S160x128, tileOf p s 8 ![8, 0] slices_S16x128_o8_0_S1x128⟩, ⟨S160x128, tileOf p s 9 ![9, 0] slices_S16x128_o9_0_S1x128⟩, ⟨S160x128, tileOf p s 10 ![10, 0] slices_S16x128_o10_0_S1x128⟩, ⟨S160x128, tileOf p s 11 ![11, 0] slices_S16x128_o11_0_S1x128⟩, ⟨S160x128, tileOf p s 12 ![12, 0] slices_S16x128_o12_0_S1x128⟩, ⟨S160x128, tileOf p s 13 ![13, 0] slices_S16x128_o13_0_S1x128⟩, ⟨S160x128, tileOf p s 14 ![14, 0] slices_S16x128_o14_0_S1x128⟩, ⟨S160x128, tileOf p s 15 ![15, 0] slices_S16x128_o15_0_S1x128⟩] concatenates_S160x128_S160x128_S160x128_S160x128_S160x128_S160x128_S160x128_S160x128_S160x128_S160x128_S160x128_S160x128_S160x128_S160x128_S160x128_S160x128_S160x2048_d1

end Cert.KernelIdeal.Val
-- ==== Proof.IdealZA.lean ====
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.IdealZin

@[expose] public section

set_option maxRecDepth 16384
set_option Elab.async false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
theorem zinA (arg2 : Memref sig .tc .vmem S1x16x40x128 .i32) (arg4 : Memref sig .tc .vmem S1x16x128 .i32) (x0 : Vec F S1x16x40x128 .i32) (s0 : Vec F S1x16x128 .i32) :
    runA.sl.r_43 arg2 arg4 x0 s0 = zOf x0 s0 := by
  simp only [runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

set_option maxHeartbeats 4000000 in
theorem zoutA (arg2 : Memref sig .tc .vmem S1x16x40x128 .i32) (arg4 : Memref sig .tc .vmem S1x16x128 .i32) (x0 : Vec F S1x16x40x128 .i32) (s0 : Vec F S1x16x128 .i32) :
    runA.sl.r_74 arg2 arg4 x0 s0 = zOf x0 s0 := by
  simp only [runA.sl.r_12, runA.sl.r_13, runA.sl.r_14, runA.sl.r_15, runA.sl.r_16, runA.sl.r_17, runA.sl.r_18, runA.sl.r_19, runA.sl.r_20, runA.sl.r_21, runA.sl.r_22, runA.sl.r_23, runA.sl.r_24, runA.sl.r_25, runA.sl.r_26, runA.sl.r_27, runA.sl.r_28, runA.sl.r_29, runA.sl.r_30, runA.sl.r_31, runA.sl.r_32, runA.sl.r_33, runA.sl.r_34, runA.sl.r_35, runA.sl.r_36, runA.sl.r_37, runA.sl.r_38, runA.sl.r_39, runA.sl.r_40, runA.sl.r_41, runA.sl.r_42, runA.sl.r_43, runA.sl.r_44, runA.sl.r_45, runA.sl.r_46, runA.sl.r_47, runA.sl.r_48, runA.sl.r_49, runA.sl.r_50, runA.sl.r_51, runA.sl.r_52, runA.sl.r_53, runA.sl.r_54, runA.sl.r_55, runA.sl.r_56, runA.sl.r_57, runA.sl.r_58, runA.sl.r_59, runA.sl.r_60, runA.sl.r_61, runA.sl.r_62, runA.sl.r_63, runA.sl.r_64, runA.sl.r_65, runA.sl.r_66, runA.sl.r_67, runA.sl.r_68, runA.sl.r_69, runA.sl.r_70, runA.sl.r_71, runA.sl.r_72, runA.sl.r_73, runA.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

end Cert.KernelIdeal.Val
-- ==== Proof.IdealZB.lean ====
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.IdealZin

@[expose] public section

set_option maxRecDepth 16384
set_option Elab.async false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
theorem zinB (arg2 : Memref sig .tc .vmem S1x16x40x128 .i32) (arg4 : Memref sig .tc .vmem S1x16x128 .i32) (x0 : Vec F S1x16x40x128 .i32) (s0 : Vec F S1x16x128 .i32) :
    runB.sl.r_43 arg2 arg4 x0 s0 = zOf x0 s0 := by
  simp only [runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.r_56, runB.sl.r_57, runB.sl.r_58, runB.sl.r_59, runB.sl.r_60, runB.sl.r_61, runB.sl.r_62, runB.sl.r_63, runB.sl.r_64, runB.sl.r_65, runB.sl.r_66, runB.sl.r_67, runB.sl.r_68, runB.sl.r_69, runB.sl.r_70, runB.sl.r_71, runB.sl.r_72, runB.sl.r_73, runB.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

set_option maxHeartbeats 4000000 in
theorem zoutB (arg2 : Memref sig .tc .vmem S1x16x40x128 .i32) (arg4 : Memref sig .tc .vmem S1x16x128 .i32) (x0 : Vec F S1x16x40x128 .i32) (s0 : Vec F S1x16x128 .i32) :
    runB.sl.r_74 arg2 arg4 x0 s0 = zOf x0 s0 := by
  simp only [runB.sl.r_12, runB.sl.r_13, runB.sl.r_14, runB.sl.r_15, runB.sl.r_16, runB.sl.r_17, runB.sl.r_18, runB.sl.r_19, runB.sl.r_20, runB.sl.r_21, runB.sl.r_22, runB.sl.r_23, runB.sl.r_24, runB.sl.r_25, runB.sl.r_26, runB.sl.r_27, runB.sl.r_28, runB.sl.r_29, runB.sl.r_30, runB.sl.r_31, runB.sl.r_32, runB.sl.r_33, runB.sl.r_34, runB.sl.r_35, runB.sl.r_36, runB.sl.r_37, runB.sl.r_38, runB.sl.r_39, runB.sl.r_40, runB.sl.r_41, runB.sl.r_42, runB.sl.r_43, runB.sl.r_44, runB.sl.r_45, runB.sl.r_46, runB.sl.r_47, runB.sl.r_48, runB.sl.r_49, runB.sl.r_50, runB.sl.r_51, runB.sl.r_52, runB.sl.r_53, runB.sl.r_54, runB.sl.r_55, runB.sl.r_56, runB.sl.r_57, runB.sl.r_58, runB.sl.r_59, runB.sl.r_60, runB.sl.r_61, runB.sl.r_62, runB.sl.r_63, runB.sl.r_64, runB.sl.r_65, runB.sl.r_66, runB.sl.r_67, runB.sl.r_68, runB.sl.r_69, runB.sl.r_70, runB.sl.r_71, runB.sl.r_72, runB.sl.r_73, runB.sl.r_74, ldX0, ldD0, ldX1, ldD1, ldX2, ldD2, ldX3, ldD3, ldX4, ldD4, ldX5, ldD5, ldX6, ldD6, ldX7, ldD7, ldX8, ldD8, ldX9, ldD9, ldX10, ldD10, ldX11, ldD11, ldX12, ldD12, ldX13, ldD13, ldX14, ldD14, ldX15, ldD15, readS]
  dsimp only [zOf, tileOf, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66]

end Cert.KernelIdeal.Val
-- ==== Proof.IdealBody.lean ====
module

public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.WritesUnit
public import Idealize.ShloMosaic.Lib.WholeRead
public import Idealize.ShloMosaic.Lib.Pointwise
public import Idealize.ShloMosaic.Lib.Exec.Geometry
public import Idealize.ShloMosaic.Lib.Pipeline.TableIdle
public import proofs.«01_k».proof.Proof.IdealZA
public import proofs.«01_k».proof.Proof.IdealZB

@[expose] public section

set_option maxRecDepth 16384
set_option Elab.async false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The accumulator row block a chunk adds to, as the offsets the body computes. -/
def oOf (g : BitVec 32) (T : Vec F S16 .i32) : Fin 3 → ℕ := k0_off1 g (tw T 1) (tw T 2) (tw T 3) (tw T 4) (tw T 5) (tw T 6) (tw T 7) (tw T 8) (tw T 9) (tw T 10) (tw T 11) (tw T 12)

theorem oOf_inb (g : BitVec 32) (T : Vec F S16 .i32) : ∀ a, oOf g T a + S1x160x160.size a ≤ S13x160x160.size a := chk_all _ _ _ _ _ _ _ _ _ _ _ _ _

/-- The rows of the accumulator at the given offsets. -/
def rowOf (acc : Vec F S13x160x160 .f32) (o : Fin 3 → ℕ) (h : ∀ a, o a + S1x160x160.size a ≤ S13x160x160.size a) : Vec F S1x160x160 .f32 :=
  fun z => acc ((Rect.unit (s := S13x160x160) o S1x160x160.size h).toLoadRect.idx z)

/-- One chunk's effect on the accumulator. -/
def step (g : BitVec 32) (T : Vec F S16 .i32) (x0 x1 : Vec F S1x16x40x128 .i32) (s0 s1 : Vec F S1x16x128 .i32) (acc : Vec F S13x160x160 .f32) : Vec F S13x160x160 .f32 :=
  fun y => if h : ∀ a, oOf g T a ≤ (y a).val ∧ (y a).val < oOf g T a + S1x160x160.size a then
      k0_pay1 (zOf x0 s0) (zOf x1 s1) (rowOf acc (oOf g T) (oOf_inb g T)) (Rect.unitLocal (s := S13x160x160) (off := oOf g T) (size := S1x160x160.size) y h)
    else acc y

theorem twA1 (arg1 : Memref sig .tc .smem S16 .i32) (T : Vec F S16 .i32) : runA.sl.r arg1 T = tw T 1 := by
  unfold runA.sl.r; rw [View.readAt_rep]; exact congrArg T (funext fun a => Fin.ext (by match a with | ⟨0, _⟩ => rfl))
theorem twA2 (arg1 : Memref sig .tc .smem S16 .i32) (T : Vec F S16 .i32) : runA.sl.r_1 arg1 T = tw T 2 := by
  unfold runA.sl.r_1; rw [View.readAt_rep]; exact congrArg T (funext fun a => Fin.ext (by match a with | ⟨0, _⟩ => rfl))
theorem twA3 (arg1 : Memref sig .tc .smem S16 .i32) (T : Vec F S16 .i32) : runA.sl.r_2 arg1 T = tw T 3 := by
  unfold runA.sl.r_2; rw [View.readAt_rep]; exact congrArg T (funext fun a => Fin.ext (by match a with | ⟨0, _⟩ => rfl))
theorem twA4 (arg1 : Memref sig .tc .smem S16 .i32) (T : Vec F S16 .i32) : runA.sl.r_3 arg1 T = tw T 4 := by
  unfold runA.sl.r_3; rw [View.readAt_rep]; exact congrArg T (funext fun a => Fin.ext (by match a with | ⟨0, _⟩ => rfl))
theorem twA5 (arg1 : Memref sig .tc .smem S16 .i32) (T : Vec F S16 .i32) : runA.sl.r_4 arg1 T = tw T 5 := by
  unfold runA.sl.r_4; rw [View.readAt_rep]; exact congrArg T (funext fun a => Fin.ext (by match a with | ⟨0, _⟩ => rfl))
theorem twA6 (arg1 : Memref sig .tc .smem S16 .i32) (T : Vec F S16 .i32) : runA.sl.r_5 arg1 T = tw T 6 := by
  unfold runA.sl.r_5; rw [View.readAt_rep]; exact congrArg T (funext fun a => Fin.ext (by match a with | ⟨0, _⟩ => rfl))
theorem twA7 (arg1 : Memref sig .tc .smem S16 .i32) (T : Vec F S16 .i32) : runA.sl.r_6 arg1 T = tw T 7 := by
  unfold runA.sl.r_6; rw [View.readAt_rep]; exact congrArg T (funext fun a => Fin.ext (by match a with | ⟨0, _⟩ => rfl))
theorem twA8 (arg1 : Memref sig .tc .smem S16 .i32) (T : Vec F S16 .i32) : runA.sl.r_7 arg1 T = tw T 8 := by
  unfold runA.sl.r_7; rw [View.readAt_rep]; exact congrArg T (funext fun a => Fin.ext (by match a with | ⟨0, _⟩ => rfl))
theorem twA9 (arg1 : Memref sig .tc .smem S16 .i32) (T : Vec F S16 .i32) : runA.sl.r_8 arg1 T = tw T 9 := by
  unfold runA.sl.r_8; rw [View.readAt_rep]; exact congrArg T (funext fun a => Fin.ext (by match a with | ⟨0, _⟩ => rfl))
theorem twA10 (arg1 : Memref sig .tc .smem S16 .i32) (T : Vec F S16 .i32) : runA.sl.r_9 arg1 T = tw T 10 := by
  unfold runA.sl.r_9; rw [View.readAt_rep]; exact congrArg T (funext fun a => Fin.ext (by match a with | ⟨0, _⟩ => rfl))
theorem twA11 (arg1 : Memref sig .tc .smem S16 .i32) (T : Vec F S16 .i32) : runA.sl.r_10 arg1 T = tw T 11 := by
  unfold runA.sl.r_10; rw [View.readAt_rep]; exact congrArg T (funext fun a => Fin.ext (by match a with | ⟨0, _⟩ => rfl))
theorem twA12 (arg1 : Memref sig .tc .smem S16 .i32) (T : Vec F S16 .i32) : runA.sl.r_11 arg1 T = tw T 12 := by
  unfold runA.sl.r_11; rw [View.readAt_rep]; exact congrArg T (funext fun a => Fin.ext (by match a with | ⟨0, _⟩ => rfl))
theorem twB1 (arg1 : Memref sig .tc .smem S16 .i32) (T : Vec F S16 .i32) : runB.sl.r arg1 T = tw T 1 := by
  unfold runB.sl.r; rw [View.readAt_rep]; exact congrArg T (funext fun a => Fin.ext (by match a with | ⟨0, _⟩ => rfl))
theorem twB2 (arg1 : Memref sig .tc .smem S16 .i32) (T : Vec F S16 .i32) : runB.sl.r_1 arg1 T = tw T 2 := by
  unfold runB.sl.r_1; rw [View.readAt_rep]; exact congrArg T (funext fun a => Fin.ext (by match a with | ⟨0, _⟩ => rfl))
theorem twB3 (arg1 : Memref sig .tc .smem S16 .i32) (T : Vec F S16 .i32) : runB.sl.r_2 arg1 T = tw T 3 := by
  unfold runB.sl.r_2; rw [View.readAt_rep]; exact congrArg T (funext fun a => Fin.ext (by match a with | ⟨0, _⟩ => rfl))
theorem twB4 (arg1 : Memref sig .tc .smem S16 .i32) (T : Vec F S16 .i32) : runB.sl.r_3 arg1 T = tw T 4 := by
  unfold runB.sl.r_3; rw [View.readAt_rep]; exact congrArg T (funext fun a => Fin.ext (by match a with | ⟨0, _⟩ => rfl))
theorem twB5 (arg1 : Memref sig .tc .smem S16 .i32) (T : Vec F S16 .i32) : runB.sl.r_4 arg1 T = tw T 5 := by
  unfold runB.sl.r_4; rw [View.readAt_rep]; exact congrArg T (funext fun a => Fin.ext (by match a with | ⟨0, _⟩ => rfl))
theorem twB6 (arg1 : Memref sig .tc .smem S16 .i32) (T : Vec F S16 .i32) : runB.sl.r_5 arg1 T = tw T 6 := by
  unfold runB.sl.r_5; rw [View.readAt_rep]; exact congrArg T (funext fun a => Fin.ext (by match a with | ⟨0, _⟩ => rfl))
theorem twB7 (arg1 : Memref sig .tc .smem S16 .i32) (T : Vec F S16 .i32) : runB.sl.r_6 arg1 T = tw T 7 := by
  unfold runB.sl.r_6; rw [View.readAt_rep]; exact congrArg T (funext fun a => Fin.ext (by match a with | ⟨0, _⟩ => rfl))
theorem twB8 (arg1 : Memref sig .tc .smem S16 .i32) (T : Vec F S16 .i32) : runB.sl.r_7 arg1 T = tw T 8 := by
  unfold runB.sl.r_7; rw [View.readAt_rep]; exact congrArg T (funext fun a => Fin.ext (by match a with | ⟨0, _⟩ => rfl))
theorem twB9 (arg1 : Memref sig .tc .smem S16 .i32) (T : Vec F S16 .i32) : runB.sl.r_8 arg1 T = tw T 9 := by
  unfold runB.sl.r_8; rw [View.readAt_rep]; exact congrArg T (funext fun a => Fin.ext (by match a with | ⟨0, _⟩ => rfl))
theorem twB10 (arg1 : Memref sig .tc .smem S16 .i32) (T : Vec F S16 .i32) : runB.sl.r_9 arg1 T = tw T 10 := by
  unfold runB.sl.r_9; rw [View.readAt_rep]; exact congrArg T (funext fun a => Fin.ext (by match a with | ⟨0, _⟩ => rfl))
theorem twB11 (arg1 : Memref sig .tc .smem S16 .i32) (T : Vec F S16 .i32) : runB.sl.r_10 arg1 T = tw T 11 := by
  unfold runB.sl.r_10; rw [View.readAt_rep]; exact congrArg T (funext fun a => Fin.ext (by match a with | ⟨0, _⟩ => rfl))
theorem twB12 (arg1 : Memref sig .tc .smem S16 .i32) (T : Vec F S16 .i32) : runB.sl.r_11 arg1 T = tw T 12 := by
  unfold runB.sl.r_11; rw [View.readAt_rep]; exact congrArg T (funext fun a => Fin.ext (by match a with | ⟨0, _⟩ => rfl))

/-- The one store of a chunk, over contents that read `acc`, reads as `step` of `acc`. -/
theorem read_piece (g : BitVec 32) (T : Vec F S16 .i32) (x0 x1 : Vec F S1x16x40x128 .i32) (s0 s1 : Vec F S1x16x128 .i32) (acc : Vec F S13x160x160 .f32)
    (v : View sig .tc .vmem S13x160x160 .f32) (f : v.ty.Contents (Elt F)) (L : List (View.Piece (Elt F) S13x160x160 .f32))
    (w1 w2 w3 w4 w5 w6 w7 w8 w9 w10 w11 w12 : BitVec 32) (h1 : w1 = tw T 1) (h2 : w2 = tw T 2) (h3 : w3 = tw T 3) (h4 : w4 = tw T 4) (h5 : w5 = tw T 5) (h6 : w6 = tw T 6) (h7 : w7 = tw T 7) (h8 : w8 = tw T 8) (h9 : w9 = tw T 9) (h10 : w10 = tw T 10) (h11 : w11 = tw T 11) (h12 : w12 = tw T 12)
    (zi zo : FVec F S160x2048 .bf16) (hzi : zi = zOf x0 s0) (hzo : zo = zOf x1 s1)
    (h : ∀ a, k0_off1 g w1 w2 w3 w4 w5 w6 w7 w8 w9 w10 w11 w12 a + S1x160x160.size a ≤ S13x160x160.size a)
    (hacc : v.read (Elt F) (v.writes (Elt F) f L) = acc)
    (row : Vec F S1x160x160 .f32) (hrow : row = rowOf acc (k0_off1 g w1 w2 w3 w4 w5 w6 w7 w8 w9 w10 w11 w12) h) :
    v.read (Elt F) (v.writes (Elt F) f (⟨Rect.unit (s := S13x160x160) (k0_off1 g w1 w2 w3 w4 w5 w6 w7 w8 w9 w10 w11 w12) S1x160x160.size h, k0_pay1 zi zo row⟩ :: L)) = step g T x0 x1 s0 s1 acc := by
  subst h1 h2 h3 h4 h5 h6 h7 h8 h9 h10 h11 h12 hzi hzo hrow hacc
  funext y
  rw [View.read_writes_cons_unit v f h _ L y rfl]
  rfl

set_option maxHeartbeats 4000000 in
/-- A later chunk leaves `step` of what the accumulator held. -/
theorem readB (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32) (xo : Vec F S13x160x160 .f32)
    (hc0 : ¬((Scalar.cmpi .ne (Scalar.extui (Scalar.cmpi .eq arg0 0#32)) 0#32) = 1#1)) :
    arg6.view.read (Elt F) (arg6.view.writes (Elt F) (harg6.unread xo) (runB c b i arg0 arg1 harg1 arg2 harg2 arg3 harg3 arg4 harg4 arg5 harg5 arg6 harg6 T x0 x1 s0 s1 xo hc0).1) = step arg0 T x0 x1 s0 s1 xo :=
  read_piece arg0 T x0 x1 s0 s1 xo arg6.view (harg6.unread xo) [] _ _ _ _ _ _ _ _ _ _ _ _ (twB1 _ _) (twB2 _ _) (twB3 _ _) (twB4 _ _) (twB5 _ _) (twB6 _ _) (twB7 _ _) (twB8 _ _) (twB9 _ _) (twB10 _ _) (twB11 _ _) (twB12 _ _)
    _ _ (zinB arg2 arg4 x0 s0) (zoutB arg3 arg5 x1 s1) (chk_all _ _ _ _ _ _ _ _ _ _ _ _ _) (harg6.read_unread xo) _ (by
      funext z; exact harg6.readAt_unread xo _ z)

theorem read_zero (v : View sig .tc .vmem S13x160x160 .f32) (f : v.ty.Contents (Elt F)) :
    v.read (Elt F) (v.writes (Elt F) f runA.sl.HO_1) = k0_pay2 := by
  funext y
  unfold runA.sl.HO_1
  rw [View.read_writes_cons_unit v f _ _ [] y rfl, dif_pos (fun a => ⟨by fin_cases a <;> exact Nat.zero_le _, by
    have := (y a).isLt; fin_cases a <;> exact lt_of_lt_of_eq (y _).isLt (Nat.zero_add _).symm⟩)]
  rfl

set_option maxHeartbeats 4000000 in
/-- The first chunk leaves `step` of zero. -/
theorem readA (c : Dev nD) (b : grid0.Bounds) (i : grid0.Static) (arg0 : BitVec 32)
    (arg1 : Memref sig .tc .smem S16 .i32) (harg1 : arg1.IsWhole)
    (arg2 : Memref sig .tc .vmem S1x16x40x128 .i32) (harg2 : arg2.IsWhole) (arg3 : Memref sig .tc .vmem S1x16x40x128 .i32) (harg3 : arg3.IsWhole)
    (arg4 : Memref sig .tc .vmem S1x16x128 .i32) (harg4 : arg4.IsWhole) (arg5 : Memref sig .tc .vmem S1x16x128 .i32) (harg5 : arg5.IsWhole)
    (arg6 : Memref sig .tc .vmem S13x160x160 .f32) (harg6 : arg6.IsWhole)
    (T : Vec F S16 .i32) (x0 x1 : Vec F S1x16x40x128 .i32) (s0 s1 : Vec F S1x16x128 .i32)
    (hc0 : (Scalar.cmpi .ne (Scalar.extui (Scalar.cmpi .eq arg0 0#32)) 0#32) = 1#1) :
    arg6.view.read (Elt F) (arg6.view.writes (Elt F) arg6.view.junk (runA c b i arg0 arg1 harg1 arg2 harg2 arg3 harg3 arg4 harg4 arg5 harg5 arg6 harg6 T x0 x1 s0 s1 hc0).1) = step arg0 T x0 x1 s0 s1 k0_pay2 :=
  read_piece arg0 T x0 x1 s0 s1 k0_pay2 arg6.view arg6.view.junk runA.sl.HO_1 _ _ _ _ _ _ _ _ _ _ _ _ (twA1 _ _) (twA2 _ _) (twA3 _ _) (twA4 _ _) (twA5 _ _) (twA6 _ _) (twA7 _ _) (twA8 _ _) (twA9 _ _) (twA10 _ _) (twA11 _ _) (twA12 _ _)
    _ _ (zinA arg2 arg4 x0 s0) (zoutA arg3 arg5 x1 s1) (chk_all _ _ _ _ _ _ _ _ _ _ _ _ _) (read_zero arg6.view _) _ (by
      funext z; exact congrFun (read_zero arg6.view _) _)

end Cert.KernelIdeal.Val
-- ==== Proof.IdealSched.lean ====
module

public import proofs.«01_k».proof.Proof.IdealBody
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Affine

@[expose] public section

set_option maxRecDepth 16384
set_option Elab.async false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The grid the tables give, and the side condition on them -/

variable (pf : pre0.Contents (Elt F))

/-- The number of chunks the tables name. -/
def nOf (pf : pre0.Contents (Elt F)) : ℕ := (pf 0 fun a => a.elim0).toNat

/-- What the precondition gives of the tables: between one and 637 chunks. -/
def Bounded (pf : pre0.Contents (Elt F)) : Prop := 1 ≤ nOf pf ∧ nOf pf ≤ 637

theorem coord_lt (hb : Bounded pf) (i : (grid0.at (dynb0 pf)).Coords) : (i 0).val < 637 := by
  have h : (i 0).val < grid0.boundAt (dynb0 pf) 0 := (i 0).isLt
  have h2 : grid0.boundAt (dynb0 pf) 0 = nOf pf := rfl
  rw [h2] at h
  exact lt_of_lt_of_le h hb.2

theorem N_eq : (grid0.at (dynb0 pf)).N = nOf pf := by
  show (List.ofFn fun a : Fin 1 => grid0.boundAt (dynb0 pf) a).prod = nOf pf
  rw [List.ofFn_succ, List.ofFn_zero, List.prod_cons, List.prod_nil, mul_one]
  rfl

theorem admits (hb : Bounded pf) : grid0.Admits (dynb0 pf) := by
  unfold Pipeline.Grid.Admits
  rw [N_eq]
  have := hb.2
  omega

theorem inb0 (hb : Bounded pf) (i : (grid0.at (dynb0 pf)).Coords) : ∀ a, (cc0_transform_0 (dynb0 pf) i a + 1) * S1x16x40x128.size a ≤ S2x10192x40x128.size a := by
  have hi := coord_lt pf hb i
  have hs : Affine.IsInt 0#32 (0) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_cons h0 (by omega) <| Affine.blk_nil

theorem inb1 (hb : Bounded pf) (i : (grid0.at (dynb0 pf)).Coords) : ∀ a, (cc0_transform_1 (dynb0 pf) i a + 1) * S1x16x40x128.size a ≤ S2x10192x40x128.size a := by
  have hi := coord_lt pf hb i
  have hs : Affine.IsInt 1#32 (1) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_cons h0 (by omega) <| Affine.blk_nil

theorem inb2 (hb : Bounded pf) (i : (grid0.at (dynb0 pf)).Coords) : ∀ a, (cc0_transform_2 (dynb0 pf) i a + 1) * S1x16x128.size a ≤ S2x10192x128.size a := by
  have hi := coord_lt pf hb i
  have hs : Affine.IsInt 0#32 (0) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_nil

theorem inb3 (hb : Bounded pf) (i : (grid0.at (dynb0 pf)).Coords) : ∀ a, (cc0_transform_3 (dynb0 pf) i a + 1) * S1x16x128.size a ≤ S2x10192x128.size a := by
  have hi := coord_lt pf hb i
  have hs : Affine.IsInt 1#32 (1) := Affine.ofNat _ (by omega)
  have h0 : Affine.IsInt 0#32 (0) := Affine.ofNat _ (by omega)
  have hg : Affine.IsInt (BitVec.ofNat 32 (i 0).val) ((i 0).val : ℤ) := Affine.ofNat _ (by omega)
  exact Affine.blk_cons hs (by omega) <| Affine.blk_cons hg (by omega) <| Affine.blk_cons h0 (by omega) <| Affine.blk_nil

theorem inb4 (i : (grid0.at (dynb0 pf)).Coords) : ∀ a, (cc0_transform_4 (dynb0 pf) i a + 1) * S13x160x160.size a ≤ S13x160x160.size a := by
  have h0 : Affine.IsInt 0#32 (0) := Affine.ofNat _ (by omega)
  exact Affine.blk_cons h0 (by omega) <| Affine.blk_cons h0 (by omega) <| Affine.blk_cons h0 (by omega) <| Affine.blk_nil

/-- Tables naming between one and 637 chunks meet the side condition. -/
theorem ok_of_bounded (hb : Bounded pf) : ok0 pf :=
  ⟨admits pf hb, fun i => ⟨inb0 pf hb i, .inl rfl⟩, fun i => ⟨inb1 pf hb i, .inl rfl⟩, fun i => ⟨inb2 pf hb i, .inl rfl⟩,
    fun i => ⟨inb3 pf hb i, .inl rfl⟩, fun i => ⟨inb4 pf i, .inl rfl⟩⟩

variable (hb : Bounded pf)

/-- The tables as admissible contents, and the pipeline at them. -/
def adm : (pcfg0 (F := F)).Adm := ⟨pf, ok_of_bounded pf hb⟩
abbrev cfgA : Pipeline.Cfg sig Λ₀ := cfg0 (F := F) (adm pf hb)
abbrev pcs : Fin 1 → Pipeline.Cfg sig Λ₀ := Pipeline.pin (pcfgs (F := F)) fun _ => adm pf hb

theorem NA_eq : (cfgA pf hb).N = nOf pf := N_eq pf

/-! ## A point's words and staging memrefs -/

abbrev crd (t : Fin (cfgA pf hb).N) : (cfgA pf hb).grid.Coords := (cfgA pf hb).grid.coords t
abbrev iS (t : Fin (cfgA pf hb).N) : grid0.Static := Pipeline.Grid.Coords.static grid0 (crd pf hb t)
abbrev gw (t : Fin (cfgA pf hb).N) : BitVec 32 := BitVec.ofNat 32 ((crd pf hb t) 0).val

theorem crd_val (t : Fin (cfgA pf hb).N) : ((crd pf hb t) 0).val = t.val := by
  have hN := NA_eq pf hb
  have ht := t.isLt
  have h1 : ((crd pf hb t) 0).val = t.val / (grid0.at (dynb0 pf)).stride 0 % nOf pf := rfl
  have h2 : (grid0.at (dynb0 pf)).stride 0 = 1 := by
    show (List.ofFn fun b : Fin 1 => if (0 : Fin 1) < b then grid0.boundAt (dynb0 pf) b else 1).prod = 1
    rw [List.ofFn_succ, List.ofFn_zero, List.prod_cons, List.prod_nil, mul_one]
    rfl
  rw [h1, h2, Nat.div_one, Nat.mod_eq_of_lt (by omega)]

theorem gw_eq (t : Fin (cfgA pf hb).N) : gw pf hb t = BitVec.ofNat 32 t.val := by
  show BitVec.ofNat 32 ((crd pf hb t) 0).val = _
  rw [crd_val]

abbrev ms0 (t : Fin (cfgA pf hb).N) : Memref sig .tc .vmem S1x16x40x128 .i32 := spec0_0.stage ((cfgA pf hb).slots t (0 : Fin 5))
abbrev hs0 (t : Fin (cfgA pf hb).N) : (ms0 pf hb t).IsWhole := hstage0_0 (((cfgA pf hb).slots t (0 : Fin 5)).cast nbuf0_0)

abbrev ms1 (t : Fin (cfgA pf hb).N) : Memref sig .tc .vmem S1x16x40x128 .i32 := spec0_1.stage ((cfgA pf hb).slots t (1 : Fin 5))
abbrev hs1 (t : Fin (cfgA pf hb).N) : (ms1 pf hb t).IsWhole := hstage0_1 (((cfgA pf hb).slots t (1 : Fin 5)).cast nbuf0_1)

abbrev ms2 (t : Fin (cfgA pf hb).N) : Memref sig .tc .vmem S1x16x128 .i32 := spec0_2.stage ((cfgA pf hb).slots t (2 : Fin 5))
abbrev hs2 (t : Fin (cfgA pf hb).N) : (ms2 pf hb t).IsWhole := hstage0_2 (((cfgA pf hb).slots t (2 : Fin 5)).cast nbuf0_2)

abbrev ms3 (t : Fin (cfgA pf hb).N) : Memref sig .tc .vmem S1x16x128 .i32 := spec0_3.stage ((cfgA pf hb).slots t (3 : Fin 5))
abbrev hs3 (t : Fin (cfgA pf hb).N) : (ms3 pf hb t).IsWhole := hstage0_3 (((cfgA pf hb).slots t (3 : Fin 5)).cast nbuf0_3)

abbrev ms4 (t : Fin (cfgA pf hb).N) : Memref sig .tc .vmem S13x160x160 .f32 := spec0_4.stage ((cfgA pf hb).slots t (4 : Fin 5))
abbrev hs4 (t : Fin (cfgA pf hb).N) : (ms4 pf hb t).IsWhole := hstage0_4 (((cfgA pf hb).slots t (4 : Fin 5)).cast nbuf0_4)

/-! ## The output's schedule: one block, stored into at every point, written back after the last -/

theorem idx4 (t t' : Fin (cfgA pf hb).N) : ((cfgA pf hb).win (4 : Fin 5)).index t = ((cfgA pf hb).win (4 : Fin 5)).index t' := rfl

theorem flush4 (t : Fin (cfgA pf hb).N) : ((cfgA pf hb).win (4 : Fin 5)).flush t = decide (t.val + 1 = nOf pf) := by
  have hN : (cfgA pf hb).grid.N = nOf pf := NA_eq pf hb
  rw [Pipeline.Window.flush, show ((cfgA pf hb).win (4 : Fin 5)).isOut = true from rfl, Bool.true_and]
  rw [decide_eq_false (fun ⟨h, hne⟩ => hne (idx4 pf hb _ _) : ¬∃ h : t.val + 1 < (cfgA pf hb).grid.N, ((cfgA pf hb).win (4 : Fin 5)).index ⟨t.val + 1, h⟩ ≠ ((cfgA pf hb).win (4 : Fin 5)).index t), Bool.or_false]
  exact decide_eq_decide.mpr (by rw [← hN])

theorem idle4 (i : (cfgA pf hb).grid.Coords) : (cfgA pf hb).idle (4 : Fin 5) i = false := rfl

theorem fresh4 (t : Fin (cfgA pf hb).N) : (cfgA pf hb).fresh (4 : Fin 5) t.val = decide (t.val = 0) := by
  obtain ⟨n, hn⟩ := t
  cases n with
  | zero => rfl
  | succ n =>
    have hN : (cfgA pf hb).N = nOf pf := NA_eq pf hb
    show (cfgA pf hb).fresh (4 : Fin 5) (n + 1) = _
    rw [Pipeline.Cfg.fresh_succ (cfgA pf hb) (4 : Fin 5) n (Nat.lt_of_succ_lt hn), flush4, idle4, Bool.false_and, Bool.or_false]
    rw [decide_eq_false (by have := hn; simp only; omega), decide_eq_false (by simp)]

/-- The first point is the one whose word is zero. -/
theorem first_iff (t : Fin (cfgA pf hb).N) :
    (Scalar.cmpi .ne (Scalar.extui (Scalar.cmpi .eq (gw pf hb t) 0#32)) 0#32) = 1#1 ↔ t.val = 0 := by
  rw [gw_eq]
  have hN : (cfgA pf hb).N = nOf pf := NA_eq pf hb
  have ht := t.isLt
  have h2 := hb.2
  have key : ∀ w : BitVec 32, (Scalar.cmpi .ne (Scalar.extui (Scalar.cmpi .eq w 0#32)) 0#32) = 1#1 ↔ w = 0#32 := by
    intro w
    by_cases h : w = 0#32
    · subst h; exact ⟨fun _ => rfl, fun _ => by decide⟩
    · have hw : Scalar.cmpi .eq w 0#32 = 0#1 := by
        show BitVec.ofBool (w == 0#32) = 0#1
        rw [show (w == 0#32) = false from beq_eq_false_iff_ne.mpr h]; rfl
      rw [hw]
      exact ⟨fun h' => absurd h' (by decide), fun h' => absurd h' h⟩
  rw [key]
  constructor
  · intro h
    have := congrArg BitVec.toNat h
    rw [BitVec.toNat_ofNat, Nat.mod_eq_of_lt (by omega)] at this
    exact this
  · intro h; rw [h]

end Cert.KernelIdeal.Val

end
-- ==== Proof.IdealFlow.lean ====
module

public import proofs.«01_k».proof.Proof.IdealSched

@[expose] public section

set_option maxRecDepth 16384
set_option Elab.async false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) 𝕄 := emb₁

/-! ## The accumulator after a number of chunks -/

/-- One chunk's packed words out of one side of the packed array. -/
def blkX (side : Fin 2) (X : Vec F S2x10192x40x128 .i32) (n : ℕ) : Vec F S1x16x40x128 .i32 :=
  fun y => X (ix4 side ⟨(16 * n + (y 1).val) % 10192, Nat.mod_lt _ (by omega)⟩ (y 2) (y 3))

/-- One chunk's scale words out of one side of the scale array. -/
def blkS (side : Fin 2) (S : Vec F S2x10192x128 .i32) (n : ℕ) : Vec F S1x16x128 .i32 :=
  fun y => S (ix3 side ⟨(16 * n + (y 1).val) % 10192, Nat.mod_lt _ (by omega)⟩ (y 2))

/-- The accumulator after the first `n` chunks. -/
def accN (T : Vec F S16 .i32) (X : Vec F S2x10192x40x128 .i32) (S : Vec F S2x10192x128 .i32) : ℕ → Vec F S13x160x160 .f32
  | 0 => k0_pay2
  | n + 1 => step (BitVec.ofNat 32 n) T (blkX 0 X n) (blkX 1 X n) (blkS 0 S n) (blkS 1 S n) (accN T X S n)

variable (m : (ℓ : Loc nD τ sig) → Buf (Elt F) ℓ) (ρ : Dev nD → PrngReg)

/-- The buffers when the region begins: after the host operations. -/
def V (c : Dev nD) (b : Ref sig .tc) : Buf (Elt F) ((c.tc : Thread nD τ).loc b) := StableHlo.after hostOps0 (fun b => m (c, b)) b

/-- The tables the region is handed. -/
def tabs : pre0.Contents (Elt F) := fun k => V m 0 (pre0.ref k)

variable (hb : Bounded (tabs m))

/-- A window's block at a point, read off its array. -/
def iblk (c : Dev nD) (w : Fin (cfgA (tabs m) hb).W) (t : Fin (cfgA (tabs m) hb).N) :
    (((cfgA (tabs m) hb).win w).xblock (crd (tabs m) hb t)).Idx → Elt F ((cfgA (tabs m) hb).win w).elt :=
  (((cfgA (tabs m) hb).win w).blk t).view.read (Elt F) (V m c (Pipeline.arrRef spec0 w))

/-- The output after a point. -/
def outAt (c : Dev nD) (n : ℕ) : Vec F S13x160x160 .f32 :=
  accN (tabs m 1) (V m c main_arg0) (V m c main_arg1) n

/-- The proof data of the one pipeline. -/
def dats (_ : Fin 1) (c : Dev nD) : Dat τ (Elt F) Unit ℕ (UR sig nD τ) ℕ (cfgA (tabs m) hb) c where
  A w := V m c (Pipeline.arrRef spec0 w)
  after w t := match w with
    | ⟨0, _⟩ => iblk m hb c (0 : Fin 5) t
    | ⟨1, _⟩ => iblk m hb c (1 : Fin 5) t
    | ⟨2, _⟩ => iblk m hb c (2 : Fin 5) t
    | ⟨3, _⟩ => iblk m hb c (3 : Fin 5) t
    | ⟨4, _⟩ => outAt m c (t.val + 1)
  Φ _ := owns (c : Thread nD τ) (Memref.whole main_v0) fullShare.right (tabs m 1)
  q w := Pipeline.shareOf spec0 w
  owed _ := 0

theorem after0 (c : Dev nD) (t : Fin (cfgA (tabs m) hb).N) : (dats m hb 0 c).after (0 : Fin 5) t = iblk m hb c (0 : Fin 5) t := rfl
theorem before0 (c : Dev nD) (t : Fin (cfgA (tabs m) hb).N) (d) : (dats m hb 0 c).before (0 : Fin 5) t d = iblk m hb c (0 : Fin 5) t :=
  ((dats m hb 0 c).before_in_eq_fetched (0 : Fin 5) rfl (fun _ => rfl) (fun _ _ _ => rfl) (fun t => by rw [after0]; unfold Dat.blockOf iblk; rfl) t d).trans
    (by unfold Dat.fetched Dat.blockOf iblk; rfl)

theorem after1 (c : Dev nD) (t : Fin (cfgA (tabs m) hb).N) : (dats m hb 0 c).after (1 : Fin 5) t = iblk m hb c (1 : Fin 5) t := rfl
theorem before1 (c : Dev nD) (t : Fin (cfgA (tabs m) hb).N) (d) : (dats m hb 0 c).before (1 : Fin 5) t d = iblk m hb c (1 : Fin 5) t :=
  ((dats m hb 0 c).before_in_eq_fetched (1 : Fin 5) rfl (fun _ => rfl) (fun _ _ _ => rfl) (fun t => by rw [after1]; unfold Dat.blockOf iblk; rfl) t d).trans
    (by unfold Dat.fetched Dat.blockOf iblk; rfl)

theorem after2 (c : Dev nD) (t : Fin (cfgA (tabs m) hb).N) : (dats m hb 0 c).after (2 : Fin 5) t = iblk m hb c (2 : Fin 5) t := rfl
theorem before2 (c : Dev nD) (t : Fin (cfgA (tabs m) hb).N) (d) : (dats m hb 0 c).before (2 : Fin 5) t d = iblk m hb c (2 : Fin 5) t :=
  ((dats m hb 0 c).before_in_eq_fetched (2 : Fin 5) rfl (fun _ => rfl) (fun _ _ _ => rfl) (fun t => by rw [after2]; unfold Dat.blockOf iblk; rfl) t d).trans
    (by unfold Dat.fetched Dat.blockOf iblk; rfl)

theorem after3 (c : Dev nD) (t : Fin (cfgA (tabs m) hb).N) : (dats m hb 0 c).after (3 : Fin 5) t = iblk m hb c (3 : Fin 5) t := rfl
theorem before3 (c : Dev nD) (t : Fin (cfgA (tabs m) hb).N) (d) : (dats m hb 0 c).before (3 : Fin 5) t d = iblk m hb c (3 : Fin 5) t :=
  ((dats m hb 0 c).before_in_eq_fetched (3 : Fin 5) rfl (fun _ => rfl) (fun _ _ _ => rfl) (fun t => by rw [after3]; unfold Dat.blockOf iblk; rfl) t d).trans
    (by unfold Dat.fetched Dat.blockOf iblk; rfl)

theorem iblk0_eq (c : Dev nD) (t : Fin (cfgA (tabs m) hb).N) : (iblk m hb c (0 : Fin 5) t : Vec F S1x16x40x128 .i32) = blkX 0 (V m c main_arg0) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg0 _ = V m c main_arg0 _
  refine congrArg (V m c main_arg0) (funext fun a => Fin.ext ?_)
  match a with
  | ⟨0, _⟩ =>
    show (BitVec.ofNat 32 0).toNat * 1 + 1 * (y 0).val = 0
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 40 + 1 * (y 2).val = (y 2).val
    rw [BitVec.toNat_ofNat]; omega
  | ⟨3, _⟩ =>
    show (BitVec.ofNat 32 0).toNat * 128 + 1 * (y 3).val = (y 3).val
    rw [BitVec.toNat_ofNat]; omega

theorem iblk1_eq (c : Dev nD) (t : Fin (cfgA (tabs m) hb).N) : (iblk m hb c (1 : Fin 5) t : Vec F S1x16x40x128 .i32) = blkX 1 (V m c main_arg0) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg0 _ = V m c main_arg0 _
  refine congrArg (V m c main_arg0) (funext fun a => Fin.ext ?_)
  match a with
  | ⟨0, _⟩ =>
    show (BitVec.ofNat 32 1).toNat * 1 + 1 * (y 0).val = 1
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 40 + 1 * (y 2).val = (y 2).val
    rw [BitVec.toNat_ofNat]; omega
  | ⟨3, _⟩ =>
    show (BitVec.ofNat 32 0).toNat * 128 + 1 * (y 3).val = (y 3).val
    rw [BitVec.toNat_ofNat]; omega

theorem iblk2_eq (c : Dev nD) (t : Fin (cfgA (tabs m) hb).N) : (iblk m hb c (2 : Fin 5) t : Vec F S1x16x128 .i32) = blkS 0 (V m c main_arg1) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg1 _ = V m c main_arg1 _
  refine congrArg (V m c main_arg1) (funext fun a => Fin.ext ?_)
  match a with
  | ⟨0, _⟩ =>
    show (BitVec.ofNat 32 0).toNat * 1 + 1 * (y 0).val = 0
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 128 + 1 * (y 2).val = (y 2).val
    rw [BitVec.toNat_ofNat]; omega

theorem iblk3_eq (c : Dev nD) (t : Fin (cfgA (tabs m) hb).N) : (iblk m hb c (3 : Fin 5) t : Vec F S1x16x128 .i32) = blkS 1 (V m c main_arg1) t.val := by
  have hN := NA_eq (tabs m) hb
  have ht := t.isLt
  have h2 := hb.2
  have hc := crd_val (tabs m) hb t
  funext y
  have hy1 : (y 1).val < 16 := (y 1).isLt
  have hy0 : (y 0).val < 1 := (y 0).isLt
  show V m c main_arg1 _ = V m c main_arg1 _
  refine congrArg (V m c main_arg1) (funext fun a => Fin.ext ?_)
  match a with
  | ⟨0, _⟩ =>
    show (BitVec.ofNat 32 1).toNat * 1 + 1 * (y 0).val = 1
    rw [BitVec.toNat_ofNat]; omega
  | ⟨1, _⟩ =>
    show (BitVec.ofNat 32 ((crd (tabs m) hb t) 0).val).toNat * 16 + 1 * (y 1).val = (16 * t.val + (y 1).val) % 10192
    rw [hc, BitVec.toNat_ofNat]; omega
  | ⟨2, _⟩ =>
    show (BitVec.ofNat 32 0).toNat * 128 + 1 * (y 2).val = (y 2).val
    rw [BitVec.toNat_ofNat]; omega

theorem after4 (c : Dev nD) (t : Fin (cfgA (tabs m) hb).N) : (dats m hb 0 c).after (4 : Fin 5) t = outAt m c (t.val + 1) := rfl

theorem before4 (c : Dev nD) (t : Fin (cfgA (tabs m) hb).N) (d) :
    (dats m hb 0 c).before (4 : Fin 5) t d = if t.val = 0 then d else outAt m c t.val := by
  rw [(dats m hb 0 c).before_out_traj (4 : Fin 5) rfl (fun _ _ => rfl) (fun t _ hi _ => absurd hi (by rw [idle4]; decide)) t.val t rfl d, fresh4]
  by_cases h0 : t.val = 0
  · rw [if_pos h0, if_pos (decide_eq_true h0)]
  · rw [if_neg h0, if_neg (by rw [decide_eq_false h0]; decide), after4]
    exact congrArg (outAt m c) (by show t.val - 1 + 1 = t.val; omega)

theorem outAt_succ (c : Dev nD) (t : Fin (cfgA (tabs m) hb).N) :
    outAt m c (t.val + 1) = step (gw (tabs m) hb t) (tabs m 1) (iblk m hb c (0 : Fin 5) t) (iblk m hb c (1 : Fin 5) t) (iblk m hb c (2 : Fin 5) t) (iblk m hb c (3 : Fin 5) t) (outAt m c t.val) := by
  rw [gw_eq, iblk0_eq, iblk1_eq, iblk2_eq, iblk3_eq]; rfl

/-! ## The body obligation -/

/-- The body at a point on its staging memrefs, as the pipeline calls it. -/
abbrev bodyAt0 (t : Fin (cfgA (tabs m) hb).N) : Prog (TpuEff nD τ sig (Elt F) Λ₀ .tc) PUnit :=
  cc0_pair_matmul0 (dynb0 (tabs m)) (iS (tabs m) hb t) (gw (tabs m) hb t) (Memref.whole main_v0) (Memref.isWhole_whole _) (ms0 (tabs m) hb t) (hs0 (tabs m) hb t) (ms1 (tabs m) hb t) (hs1 (tabs m) hb t)
    (ms2 (tabs m) hb t) (hs2 (tabs m) hb t) (ms3 (tabs m) hb t) (hs3 (tabs m) hb t) (ms4 (tabs m) hb t) (hs4 (tabs m) hb t)

set_option maxHeartbeats 4000000 in
/-- The body at a point: the input blocks stay, the output becomes the accumulator after one more chunk. -/
theorem sound_body (c : Dev nD) (t : Fin (cfgA (tabs m) hb).N) :
    iprop((dats m hb 0 c).Φ t.castSucc ∗ (dats m hb 0 c).owesAt () t.castSucc
        ∗ (∃ d, owns (c : Thread nD τ) (ms0 (tabs m) hb t) fullShare ((dats m hb 0 c).before (0 : Fin 5) t d))
        ∗ (∃ d, owns (c : Thread nD τ) (ms1 (tabs m) hb t) fullShare ((dats m hb 0 c).before (1 : Fin 5) t d))
        ∗ (∃ d, owns (c : Thread nD τ) (ms2 (tabs m) hb t) fullShare ((dats m hb 0 c).before (2 : Fin 5) t d))
        ∗ (∃ d, owns (c : Thread nD τ) (ms3 (tabs m) hb t) fullShare ((dats m hb 0 c).before (3 : Fin 5) t d))
        ∗ (∃ d, owns (c : Thread nD τ) (ms4 (tabs m) hb t) fullShare ((dats m hb 0 c).before (4 : Fin 5) t d)))
      ⊢ wp frame (wpE (defs₀ (F := F)) Variants.none c none) Set.univ (bodyAt0 m hb t) fun _ =>
          iprop((dats m hb 0 c).Φ t.succ ∗ (dats m hb 0 c).owesAt () t.succ
            ∗ owns (c : Thread nD τ) (ms0 (tabs m) hb t) fullShare ((dats m hb 0 c).after (0 : Fin 5) t)
            ∗ owns (c : Thread nD τ) (ms1 (tabs m) hb t) fullShare ((dats m hb 0 c).after (1 : Fin 5) t)
            ∗ owns (c : Thread nD τ) (ms2 (tabs m) hb t) fullShare ((dats m hb 0 c).after (2 : Fin 5) t)
            ∗ owns (c : Thread nD τ) (ms3 (tabs m) hb t) fullShare ((dats m hb 0 c).after (3 : Fin 5) t)
            ∗ owns (c : Thread nD τ) (ms4 (tabs m) hb t) fullShare ((dats m hb 0 c).after (4 : Fin 5) t)) := by
  simp only [before0, before1, before2, before3, before4, after0, after1, after2, after3, after4]
  rewrite [show (dats m hb 0 c).Φ t.succ = owns (c : Thread nD τ) (Memref.whole main_v0) fullShare.right (tabs m 1) from rfl,
    show (dats m hb 0 c).Φ t.castSucc = owns (c : Thread nD τ) (Memref.whole main_v0) fullShare.right (tabs m 1) from rfl,
    show (dats m hb 0 c).owesAt () t.succ = (dats m hb 0 c).owesAt () t.castSucc from rfl]
  by_cases h0 : t.val = 0
  · have hc0 := (first_iff (tabs m) hb t).mpr h0
    simp only [h0, ↓reduceIte]
    rewrite [show outAt m c (0 + 1) = step (gw (tabs m) hb t) (tabs m 1) (iblk m hb c (0 : Fin 5) t) (iblk m hb c (1 : Fin 5) t) (iblk m hb c (2 : Fin 5) t) (iblk m hb c (3 : Fin 5) t) k0_pay2 from by
      have h := outAt_succ m hb c t; rw [h0] at h; exact h]
    iintro ⟨HT, Ho, ⟨%d0, H0⟩, ⟨%d1, H1⟩, ⟨%d2, H2⟩, ⟨%d3, H3⟩, ⟨%d4, H4⟩⟩
    iapply ((runA c (dynb0 (tabs m)) (iS (tabs m) hb t) (gw (tabs m) hb t) (Memref.whole main_v0) (Memref.isWhole_whole _) (ms0 (tabs m) hb t) (hs0 (tabs m) hb t) (ms1 (tabs m) hb t) (hs1 (tabs m) hb t)
      (ms2 (tabs m) hb t) (hs2 (tabs m) hb t) (ms3 (tabs m) hb t) (hs3 (tabs m) hb t) (ms4 (tabs m) hb t) (hs4 (tabs m) hb t)
      (tabs m 1) (iblk m hb c (0 : Fin 5) t) (iblk m hb c (1 : Fin 5) t) (iblk m hb c (2 : Fin 5) t) (iblk m hb c (3 : Fin 5) t) hc0).2 _)
    isplitl [HT]; · iapply rep_of_owns; iexact HT
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iexists _; iexact H4
    iintro ⟨HT, H0, H1, H2, H3, H4⟩
    isplitl [HT]; · iapply owns_of_rep; iexact HT
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact readA c _ _ _ _ _ _ _ _ _ _ _ _ _ _ _ _ _ _ _ _ hc0
  · have hc0 : ¬_ := fun h => h0 ((first_iff (tabs m) hb t).mp h)
    simp only [h0, ↓reduceIte]
    rewrite [outAt_succ m hb c t]
    iintro ⟨HT, Ho, ⟨%d0, H0⟩, ⟨%d1, H1⟩, ⟨%d2, H2⟩, ⟨%d3, H3⟩, ⟨%d4, H4⟩⟩
    iapply ((runB c (dynb0 (tabs m)) (iS (tabs m) hb t) (gw (tabs m) hb t) (Memref.whole main_v0) (Memref.isWhole_whole _) (ms0 (tabs m) hb t) (hs0 (tabs m) hb t) (ms1 (tabs m) hb t) (hs1 (tabs m) hb t)
      (ms2 (tabs m) hb t) (hs2 (tabs m) hb t) (ms3 (tabs m) hb t) (hs3 (tabs m) hb t) (ms4 (tabs m) hb t) (hs4 (tabs m) hb t)
      (tabs m 1) (iblk m hb c (0 : Fin 5) t) (iblk m hb c (1 : Fin 5) t) (iblk m hb c (2 : Fin 5) t) (iblk m hb c (3 : Fin 5) t) (outAt m c t.val) hc0).2 _)
    isplitl [HT]; · iapply rep_of_owns; iexact HT
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iexact H4
    iintro ⟨HT, H0, H1, H2, H3, H4⟩
    isplitl [HT]; · iapply owns_of_rep; iexact HT
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact readB c _ _ _ _ _ _ _ _ _ _ _ _ _ _ _ _ _ _ _ _ _ hc0

set_option maxHeartbeats 1000000 in
/-- The library's body obligation, at every point. -/
theorem body_obligation (c : Dev nD) : BodyObligation (dats m hb 0 c) (defs₀ (F := F)) Variants.none () Set.univ := fun t => by
  rw [bigSep_W0, bigSep_W0]
  exact sound_body m hb c t

/-! ## The launch -/

/-- The rounds library's launch element. -/
def u₀ : UR sig nD τ :=
  initOf (Pipeline.cells (pcs (tabs m) hb) (cellOf_inj (F := F) fun _ => adm (tabs m) hb))
    (Pipeline.launchToks (pcs (tabs m) hb) (cellOf_inj (F := F) fun _ => adm (tabs m) hb))

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v2) ↦{q 0} v 0) ∗ (((c : Thread nD τ).loc main_v0) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm (tabs m) hb).1 ∗ Pipeline.scopedRest spec0 c) ⊢ (dats m hb 0 c).Φ 0 := by
  rw [prefHeld_eq, scopedRest0_eq, show (dats m hb 0 c).Φ 0 = owns (c : Thread nD τ) (Memref.whole main_v0) fullShare.right (tabs m 1) from rfl]
  have h : (iprop(BI.emp ∗ ((((c : Thread nD τ).loc main_v2) ↦{fullShare.right} (adm (tabs m) hb).1 0) ∗ (((c : Thread nD τ).loc main_v0) ↦{fullShare.right} (adm (tabs m) hb).1 1)) ∗ BI.emp) : sProp 𝕄)
      ⊢ (((c : Thread nD τ).loc main_v0) ↦{fullShare.right} tabs m 1) := by
    iintro ⟨-, ⟨-, HT1⟩, -⟩
    iexact HT1
  rw [← owns_whole (c : Thread nD τ) main_v0 fullShare.right (tabs m 1)] at h
  exact h

theorem phiN_exit (c : Dev nD) : (dats m hb 0 c).Φ (Fin.last (cfgA (tabs m) hb).N) ⊢ iprop(BI.emp ∗ Pipeline.scopedRest spec0 c) := by
  rw [scopedRest0_eq]
  iintro -
  isplitr; · iempintro
  iempintro

/-- The physical post: every array at what the library computes, the chunk bounds unchanged. -/
def QC : PUnit × MemSt nD τ sig (Elt F) → Prop := fun r =>
  ∀ c : Dev nD, (∀ w : Fin (cfgA (tabs m) hb).W, r.2.mem (((cfgA (tabs m) hb).win w).arr.view.loc (c : Thread nD τ)) = (dats m hb 0 c).arrAt w (cfgA (tabs m) hb).N)
    ∧ r.2.mem ((c : Thread nD τ).loc main_arg2) = V m c main_arg2

theorem V_pre (c : Dev nD) (j : Fin 2) : V m c (pre0.ref j) = (adm (tabs m) hb).1 j := by
  obtain rfl : c = 0 := Subsingleton.elim _ _
  rfl

set_option backward.isDefEq.respectTransparency.types false in
set_option maxHeartbeats 4000000 in
/-- Every weakly fair run terminates with each array at the computed contents and every semaphore at zero. -/
theorem run_main_quiescent : θ_run (defs (F := F)) (onTc (τ := τ) (main (F := F))) ⟨m, fun _ => 0, ρ⟩ (fun r => QC m hb r ∧ r.2.sem = fun _ => 0) :=
  Pipeline.θ_run_region_noSem_pf_quiescent pcfgs (fun _ => adm (tabs m) hb) (dats m hb) () (cellOf_inj (F := F) fun _ => adm (tabs m) hb) (0 : Fin 1)
    winFacts₀0 preFacts0 EP defs₀ Variants.none m ρ main
    (hbody := fun c => (body_obligation m hb c).loose) (hne := block_pos0)
    (harr := arr_whole0) (hstage := stage_whole0) (howed := fun _ _ => rfl)
    (u₀ := u₀ m hb) (hu₀ := .rfl)
    (V := V m)
    (hmain := Pipeline.hmainP_prefix pcfgs 0 defs₀ Variants.none m main hostOps0 hostOps0_sub ⟨rfl, rfl, rfl⟩ main_chain)
    (hsplit := fun c => Pipeline.Dat.arrays_split_shared (dats m hb 0 c) sharedIn0 arr_whole0 (fun _ _ => rfl) (V m c) _ fun _ => rfl)
    (hpf := V_pre m hb)
    (X := fun _ => iprop(emp)) (Y := fun _ => iprop(emp)) (Z := fun c => iprop(((c : Thread nD τ).loc main_arg2) ↦{fullShare} V m c main_arg2))
    (hX := fun c => by
      rw [unscopedRestP0_eq]; iintro ⟨H2, -⟩
      isplitr; · iempintro
      iexact H2)
    (hin := phi0_intro m hb)
    (hout := phiN_exit m hb)
    (QY := fun c s => s.mem ((c : Thread nD τ).loc main_arg2) = V m c main_arg2)
    (hY := fun c s' => by
      iintro ⟨-, H2, HSI⟩
      icombine HSI H2 gives %h2
      imodintro
      isplitr; · ipureintro; exact Buf.eq_of_forall_mem_univ h2
      iexact HSI)
    (hQ := fun _ h hz => ⟨fun c => ⟨(h c).1, (h c).2.2⟩, hz⟩)

theorem V_arg0 (c : Dev nD) : V m c main_arg0 = m ((c.tc : Thread nD τ).loc main_arg0) := by
  unfold V; after_results
theorem V_arg1 (c : Dev nD) : V m c main_arg1 = m ((c.tc : Thread nD τ).loc main_arg1) := by
  unfold V; after_results
theorem V_arg2 (c : Dev nD) : V m c main_arg2 = m ((c.tc : Thread nD τ).loc main_arg2) := by
  unfold V; after_results
theorem V_v0 (c : Dev nD) : V m c main_v0 = extractStridedSlice S16 ![0] (m ((c.tc : Thread nD τ).loc main_arg2)) slices_S32_S16_0 := by
  unfold V; after_results
theorem V_v2 (c : Dev nD) : V m c main_v2 = shapeCast S_ (extractStridedSlice S1 ![13] (extractStridedSlice S16 ![0] (m ((c.tc : Thread nD τ).loc main_arg2)) slices_S32_S16_0) slices_S16_S1_13) shapeCasts_S1_S_ := by
  unfold V; after_results
  rfl

end Cert.KernelIdeal.Val

end
-- ==== Proof.IdealRes.lean ====
module

public import proofs.«01_k».proof.Proof.IdealFlow
public import proofs.«01_k».proof.Pre_chunks_in_order
public import Idealize.ShloMosaic.Lib.ReduceAll

@[expose] public section

set_option maxRecDepth 16384
set_option Elab.async false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hb : Bounded (tabs m))

/-! ## What the run leaves behind -/

/-- The last chunk's grid point, the only one at which the output is written back. -/
def tl : Fin (cfgA (tabs m) hb).N := ⟨nOf (tabs m) - 1, by have h := NA_eq (tabs m) hb; have h1 := hb.1; omega⟩

theorem arr4_final (c : Dev nD) : (dats m hb 0 c).arrAt (4 : Fin 5) (cfgA (tabs m) hb).N = outAt m c (nOf (tabs m)) := by
  refine (dats m hb 0 c).arrAt_eq_of_cover (4 : Fin 5) (outAt m c (nOf (tabs m))) (fun t hf => ?_) (fun i => ⟨tl m hb, ?_, ?_⟩)
  · rw [flush4] at hf
    have ht : t.val + 1 = nOf (tabs m) := of_decide_eq_true hf
    funext y
    show outAt m c (t.val + 1) _ = outAt m c (nOf (tabs m)) _
    rw [ht]
    refine congrArg _ (funext fun a => Fin.ext ?_)
    fin_cases a <;> (first | rfl | (show _ = 0 + _; simp))
  · rw [flush4]
    exact decide_eq_true (by have h1 := hb.1; show nOf (tabs m) - 1 + 1 = _; omega)
  · have e : (((cfgA (tabs m) hb).win (4 : Fin 5)).blk (tl m hb)).view.emb i = i := by
      refine (funext fun a => Fin.ext ?_)
      fin_cases a <;> (first | rfl | (show 0 + _ = _; simp))
    exact e ▸ View.emb_mem_set _ i

theorem args_final {r : PUnit × MemSt nD τ sig (Elt F)} (h : QC m hb r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 (0 : Fin 5)).trans (((dats m hb 0 c).arrAt_in (0 : Fin 5) rfl _).trans (V_arg0 m c)),
   ((h c).1 (2 : Fin 5)).trans (((dats m hb 0 c).arrAt_in (2 : Fin 5) rfl _).trans (V_arg1 m c)),
   (h c).2.trans (V_arg2 m c)⟩

theorem res_final {r : PUnit × MemSt nD τ sig (Elt F)} (h : QC m hb r) (c : Dev nD) :
    r.2.mem ((c.tc : Thread nD τ).loc main_v3) = outAt m c (nOf (tabs m)) :=
  ((h c).1 (4 : Fin 5)).trans (arr4_final m hb c)

include hb in
/-- The run terminates with its arguments unchanged and every semaphore at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_final m hb h.1, h.2⟩) (run_main_quiescent m ρ hb)

include hb in
/-- The run leaves the accumulator after the last chunk in the result array. -/
theorem value : θ_run (defs (F := F)) (onTc (τ := τ) (main (F := F))) ⟨m, fun _ => 0, ρ⟩ (fun r => ∀ c : Dev nD,
      r.2.mem ((c.tc : Thread nD τ).loc main_v3) = outAt m c (nOf (tabs m))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨res_final m hb h.1 c, args_final m hb h.1 c⟩) (run_main_quiescent m ρ hb)

/-! ## The precondition read off -/

/-- The precondition's meaning on the chunk-bound words. -/
structure Ordered (B : Fin 14 → BitVec 32) : Prop where
  zero : B 0 = 0#32
  mono : ∀ k : Fin 13, (B k.castSucc).toInt ≤ (B k.succ).toInt
  lo : 1 ≤ (B 13).toInt
  hi : (B 13).toInt ≤ 637

theorem and_one {a b : BitVec 1} (h : a &&& b = 1#1) : a = 1#1 ∧ b = 1#1 := by
  revert h; revert a b; decide

instance : Subsingleton (Cert.Pre_chunks_in_order.S_).Idx := ⟨fun a b => funext fun x => x.elim0⟩

instance : Subsingleton (Cert.Pre_chunks_in_order.S1).Idx := ⟨fun a b => funext fun x => Fin.ext (by
  have ha := (a x).isLt
  have hb := (b x).isLt
  obtain rfl : x = 0 := Subsingleton.elim _ _
  change _ < 1 at ha
  change _ < 1 at hb
  omega)⟩

theorem word_at (a2 : IVec Cert.Pre_chunks_in_order.S32 32) (o : ℕ) (ho : o < 14) (h1 h2 h3) (i) :
    shapeCast Cert.Pre_chunks_in_order.S_ (extractStridedSlice Cert.Pre_chunks_in_order.S1 ![o] (extractStridedSlice Cert.Pre_chunks_in_order.S14 ![0] a2 h1) h2) h3 i
      = a2 (ix1 ⟨o, by omega⟩) := by
  have e : ∀ (v : IVec Cert.Pre_chunks_in_order.S1 32), shapeCast Cert.Pre_chunks_in_order.S_ v h3 i = v (ix1 0) := fun v => congrArg v (Subsingleton.elim _ _)
  rw [e]
  refine congrArg a2 (funext fun a => Fin.ext ?_)
  obtain rfl : a = 0 := Subsingleton.elim _ _
  show 0 + (o + 0) = o
  omega

theorem ordered_of_pre [Cert.Pre_chunks_in_order.Facts] (a0 a1) (a2 : IVec S32 32)
    (h : Cert.Pre_chunks_in_order.fn (F := F) a0 a1 a2 = fun _ => 1#1) : Ordered fun k => a2 (ix1 ⟨k.val, by omega⟩) := by
  have h0 := congrFun h (fun a => a.elim0)
  obtain ⟨h1, hhi⟩ := and_one h0
  obtain ⟨h2, hlo⟩ := and_one h1
  obtain ⟨hz, hm⟩ := and_one h2
  refine ⟨?_, fun k => ?_, ?_, ?_⟩
  · exact (word_at a2 0 (by decide) _ _ _ _).symm.trans (IntOp.cmpi_eq.1 hz)
  · have e := IntOp.cmpi_sle.1 (Host.reduce_andi_all _ _ _ _ _ hm (ix1 k))
    have e1 : ∀ (o : ℕ) (h1 h2) (ho : o + k.val < 32), extractStridedSlice Cert.Pre_chunks_in_order.S13 ![o] (extractStridedSlice Cert.Pre_chunks_in_order.S14 ![0] a2 h1) h2 (ix1 k) = a2 (ix1 ⟨o + k.val, ho⟩) := fun o h1 h2 ho => by
      refine congrArg a2 (funext fun a => Fin.ext ?_)
      obtain rfl : a = 0 := Subsingleton.elim _ _
      show 0 + (o + k.val) = o + k.val
      omega
    have e2 := e1 0 Cert.Pre_chunks_in_order.Facts.slices_S32_S14_0 Cert.Pre_chunks_in_order.Facts.slices_S14_S13_0 (by omega)
    have e3 := e1 1 Cert.Pre_chunks_in_order.Facts.slices_S32_S14_0 Cert.Pre_chunks_in_order.Facts.slices_S14_S13_1 (by omega)
    have e4 : (a2 (ix1 ⟨0 + k.val, by omega⟩)).toInt ≤ (a2 (ix1 ⟨1 + k.val, by omega⟩)).toInt := by
      rw [← e2, ← e3]; exact e
    have q1 : (⟨0 + k.val, by omega⟩ : Fin 32) = ⟨k.castSucc.val, by have := k.castSucc.isLt; omega⟩ := Fin.ext (Nat.zero_add _)
    have q2 : (⟨1 + k.val, by omega⟩ : Fin 32) = ⟨k.succ.val, by have := k.succ.isLt; omega⟩ := Fin.ext (Nat.add_comm _ _)
    rw [q1, q2] at e4
    exact e4
  · have e := IntOp.cmpi_sge.1 hlo
    have w := word_at a2 13 (by decide) Cert.Pre_chunks_in_order.Facts.slices_S32_S14_0 Cert.Pre_chunks_in_order.Facts.slices_S14_S1_13 Cert.Pre_chunks_in_order.Facts.shapeCasts_S1_S_ (fun a => a.elim0)
    show 1 ≤ (a2 (ix1 ⟨13, by omega⟩)).toInt
    rw [← w]
    exact e
  · have e := IntOp.cmpi_sle.1 hhi
    have w := word_at a2 13 (by decide) Cert.Pre_chunks_in_order.Facts.slices_S32_S14_0 Cert.Pre_chunks_in_order.Facts.slices_S14_S1_13 Cert.Pre_chunks_in_order.Facts.shapeCasts_S1_S_ (fun a => a.elim0)
    show (a2 (ix1 ⟨13, by omega⟩)).toInt ≤ 637
    rw [← w]
    exact e

/-- Chunk bounds in order, as natural numbers. -/
theorem Ordered.nonneg {B : Fin 14 → BitVec 32} (h : Ordered B) : ∀ (n : ℕ) (hn : n < 14), 0 ≤ (B ⟨n, hn⟩).toInt
  | 0, _ => by have := h.zero; rw [show (⟨0, by omega⟩ : Fin 14) = 0 from rfl, this]; decide
  | n + 1, hn => le_trans (h.nonneg n (by omega)) (h.mono ⟨n, by omega⟩)

theorem Ordered.toInt {B : Fin 14 → BitVec 32} (h : Ordered B) (k : Fin 14) : (B k).toInt = ((B k).toNat : ℤ) := by
  have h0 := h.nonneg k.val k.isLt
  have h3 := (B k).isLt
  rw [BitVec.toInt_eq_toNat_cond] at h0 ⊢
  split at h0 <;> rename_i hh
  · rw [if_pos hh]
  · omega

theorem Ordered.mono_nat {B : Fin 14 → BitVec 32} (h : Ordered B) (k : Fin 13) : (B k.castSucc).toNat ≤ (B k.succ).toNat := by
  have := h.mono k
  rw [h.toInt, h.toInt] at this
  exact_mod_cast this

theorem Ordered.hi_nat {B : Fin 14 → BitVec 32} (h : Ordered B) : (B 13).toNat ≤ 637 := by
  have := h.hi
  rw [h.toInt] at this
  exact_mod_cast this

theorem Ordered.le_of_le {B : Fin 14 → BitVec 32} (h : Ordered B) (i : ℕ) (hi : i < 14) : ∀ (j : ℕ) (hj : j < 14), i ≤ j → (B ⟨i, hi⟩).toNat ≤ (B ⟨j, hj⟩).toNat
  | 0, hj, hij => by
    obtain rfl : i = 0 := by omega
    exact le_refl _
  | j + 1, hj, hij => by
    by_cases e : i = j + 1
    · subst e; exact le_refl _
    · exact le_trans (h.le_of_le i hi j (by omega) (by omega)) (h.mono_nat ⟨j, by omega⟩)

/-! ## The launch's tables in terms of the chunk bounds -/

/-- The chunk-bound words the kernel is handed. -/
def B : Fin 14 → BitVec 32 := fun k => m (((0 : Dev nD).tc : Thread nD τ).loc main_arg2) (ix1 ⟨k.val, by omega⟩)

theorem tabs1 (k : Fin 14) : tabs m 1 (ix1 ⟨k.val, by omega⟩) = B m k := by
  refine (congrFun (V_v0 m 0) _).trans ?_
  refine congrArg (m (((0 : Dev nD).tc : Thread nD τ).loc main_arg2)) (funext fun a => Fin.ext ?_)
  obtain rfl : a = (0 : Fin 1) := Subsingleton.elim (α := Fin 1) _ _
  show 0 + k.val = k.val
  omega

theorem nOf_eq : nOf (tabs m) = (B m 13).toNat := by
  have e : tabs m 0 (fun a => a.elim0) = B m 13 := by
    refine (congrFun (V_v2 m 0) _).trans ?_
    have e : ∀ (v : IVec Cert.Pre_chunks_in_order.S1 32) (i) (h3), shapeCast S_ v h3 i = v (ix1 0) := fun v i h3 => congrArg v (Subsingleton.elim _ _)
    refine (e _ _ _).trans ?_
    refine congrArg (m (((0 : Dev nD).tc : Thread nD τ).loc main_arg2)) (funext fun a => Fin.ext ?_)
    obtain rfl : a = (0 : Fin 1) := Subsingleton.elim (α := Fin 1) _ _
    rfl
  exact congrArg BitVec.toNat e

/-- Chunk bounds in order make the grid's size an admissible one. -/
theorem bounded (h : Ordered (B m)) : Bounded (tabs m) := by
  have h1 := h.lo
  have h2 := h.hi
  rw [BitVec.toInt_eq_toNat_cond] at h1 h2
  have h3 := (B m 13).isLt
  unfold Bounded
  rw [nOf_eq]
  split at h1 <;> omega

end Cert.KernelIdeal.Val

end
-- ==== Proof.SecondIdealRes.lean ====
module

public import proofs.«01_k».proof.Proof.SecondIdealFlow
public import proofs.«01_k».proof.Proof.Shift
public import proofs.«01_k».proof.Proof.IdealRes

@[expose] public section

set_option maxRecDepth 16384
set_option Elab.async false

noncomputable section

namespace Cert.Kernel1Ideal.Val

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (hb : Bounded (tabs m))

/-! ## What the run leaves behind -/

/-- The last chunk's grid point, the only one at which the output is written back. -/
def tl : Fin (cfgA (tabs m) hb).N := ⟨nOf (tabs m) - 1, by have h := NA_eq (tabs m) hb; have h1 := hb.1; omega⟩

theorem arr4_final (c : Dev nD) : (dats m hb 0 c).arrAt (4 : Fin 5) (cfgA (tabs m) hb).N = outAt m c (nOf (tabs m)) := by
  refine (dats m hb 0 c).arrAt_eq_of_cover (4 : Fin 5) (outAt m c (nOf (tabs m))) (fun t hf => ?_) (fun i => ⟨tl m hb, ?_, ?_⟩)
  · rw [flush4] at hf
    have ht : t.val + 1 = nOf (tabs m) := of_decide_eq_true hf
    funext y
    show outAt m c (t.val + 1) _ = outAt m c (nOf (tabs m)) _
    rw [ht]
    refine congrArg _ (funext fun a => Fin.ext ?_)
    fin_cases a <;> (first | rfl | (show _ = 0 + _; simp))
  · rw [flush4]
    exact decide_eq_true (by have h1 := hb.1; show nOf (tabs m) - 1 + 1 = _; omega)
  · have e : (((cfgA (tabs m) hb).win (4 : Fin 5)).blk (tl m hb)).view.emb i = i := by
      refine (funext fun a => Fin.ext ?_)
      fin_cases a <;> (first | rfl | (show 0 + _ = _; simp))
    exact e ▸ View.emb_mem_set _ i

theorem args_final {r : PUnit × MemSt nD τ sig (Elt F)} (h : QC m hb r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).1 (0 : Fin 5)).trans (((dats m hb 0 c).arrAt_in (0 : Fin 5) rfl _).trans (V_arg0 m c)),
   ((h c).1 (2 : Fin 5)).trans (((dats m hb 0 c).arrAt_in (2 : Fin 5) rfl _).trans (V_arg1 m c)),
   (h c).2.trans (V_arg2 m c)⟩

theorem res_final {r : PUnit × MemSt nD τ sig (Elt F)} (h : QC m hb r) (c : Dev nD) :
    r.2.mem ((c.tc : Thread nD τ).loc main_v3) = outAt m c (nOf (tabs m)) :=
  ((h c).1 (4 : Fin 5)).trans (arr4_final m hb c)

include hb in
/-- The run terminates with its arguments unchanged and every semaphore at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_final m hb h.1, h.2⟩) (run_main_quiescent m ρ hb)

include hb in
/-- The run leaves the accumulator after the last chunk in the result array. -/
theorem value : θ_run (defs (F := F)) (onTc (τ := τ) (main (F := F))) ⟨m, fun _ => 0, ρ⟩ (fun r => ∀ c : Dev nD,
      r.2.mem ((c.tc : Thread nD τ).loc main_v3) = outAt m c (nOf (tabs m))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨res_final m hb h.1 c, args_final m hb h.1 c⟩) (run_main_quiescent m ρ hb)

/-! ## The precondition read off -/

open Cert.Val (turn)
open Cert.KernelIdeal.Val (Ordered)

/-- The precondition puts the second batch's chunk bounds in order. -/
theorem ordered_of_pre [Cert.Pre_chunks_in_order.Facts] [Cert.Pre_chunks_in_order1.Facts] (a0 a1) (a2 : IVec S32 32)
    (h : Cert.Pre_chunks_in_order1.fn (F := F) a0 a1 a2 = fun _ => 1#1) : Ordered fun k => turn a2 (ix1 (⟨k.val, by omega⟩ : Fin 32)) :=
  Cert.KernelIdeal.Val.ordered_of_pre (F := F) a0 a1 (turn a2) ((Cert.Val.pre_turn a0 a1 a2).symm.trans h)

/-! ## The launch's tables in terms of the chunk bounds -/

/-- The chunk-bound words the kernel is handed. -/
def B : Fin 14 → BitVec 32 := fun k => turn (m (((0 : Dev nD).tc : Thread nD τ).loc main_arg2)) (ix1 (⟨k.val, by omega⟩ : Fin 32))

theorem tabs1 (k : Fin 14) : tabs m 1 (ix1 ⟨k.val, by omega⟩) = B m k := by
  refine (congrFun (V_v0 m 0) _).trans ?_
  refine congrArg (m (((0 : Dev nD).tc : Thread nD τ).loc main_arg2)) (funext fun a => Fin.ext ?_)
  obtain rfl : a = (0 : Fin 1) := Subsingleton.elim (α := Fin 1) _ _
  show 16 + k.val = (16 + k.val) % 32
  omega

theorem nOf_eq : nOf (tabs m) = (B m 13).toNat := by
  have e : tabs m 0 (fun a => a.elim0) = B m 13 := by
    refine (congrFun (V_v2 m 0) _).trans ?_
    have e : ∀ (v : IVec Cert.Pre_chunks_in_order.S1 32) (i) (h3), shapeCast S_ v h3 i = v (ix1 0) := fun v i h3 => congrArg v (Subsingleton.elim _ _)
    refine (e _ _ _).trans ?_
    refine congrArg (m (((0 : Dev nD).tc : Thread nD τ).loc main_arg2)) (funext fun a => Fin.ext ?_)
    obtain rfl : a = (0 : Fin 1) := Subsingleton.elim (α := Fin 1) _ _
    rfl
  exact congrArg BitVec.toNat e

/-- Chunk bounds in order make the grid's size an admissible one. -/
theorem bounded (h : Ordered (B m)) : Bounded (tabs m) := by
  have h1 := h.lo
  have h2 := h.hi
  rw [BitVec.toInt_eq_toNat_cond] at h1 h2
  have h3 := (B m 13).isLt
  unfold Bounded
  rw [nOf_eq]
  split at h1 <;> omega

end Cert.Kernel1Ideal.Val

end
-- ==== Proof.Words.lean ====
module

public import Idealize.ShloMosaic.Lib.BitcastPair
public import Idealize.ShloMosaic.Lib.Pointwise
public import Idealize.ShloMosaic.PureOps.Ideal

@[expose] public section

set_option maxRecDepth 16384

noncomputable section

namespace Cert.Val

open Idealize.ShloMosaic

/-- Row `p` of packed words read as bytes: byte `p % 4` of word row `p / 4`, same lane. -/
theorem bc8 {R r n : ℕ} (x : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4) :
    bitcast ⟨2, ![R, n]⟩ 8 x h (ix2 p l) = (x (ix2 a l)).extractLsb' (8 * (p.val % 4)) 8 := by
  apply BitVec.eq_of_getLsbD_eq
  intro q hq
  rw [bitcast_getLsbD x h _ q hq (by decide), BitVec.getLsbD_extractLsb']
  have hr : (⟨2, ![R, n]⟩ : Shape).row (ix2 p l) = p.val := rfl
  have e1 : ((⟨2, ![R, n]⟩ : Shape).row (ix2 p l) * 8 + q) / 32 = a.val := by rw [hr]; omega
  have e2 : ((⟨2, ![R, n]⟩ : Shape).row (ix2 p l) * 8 + q) % 32 = 8 * (p.val % 4) + q := by rw [hr]; omega
  rw [e2]
  have e3 : h.srcIdx (ix2 p l) (((⟨2, ![R, n]⟩ : Shape).row (ix2 p l) * 8 + q) / 32) (fun b hb =>
          (Nat.div_lt_iff_lt_mul (by decide)).2 (h.pos_lt _ q hq b hb)) = ix2 a l := by
    funext c
    match c with
    | ⟨0, _⟩ => exact Fin.ext ((h.srcIdx_row _ _ _ ⟨0, Nat.zero_lt_two⟩ rfl).trans e1)
    | ⟨1, _⟩ => exact Fin.ext (h.srcIdx_other _ _ _ ⟨1, Nat.one_lt_two⟩ (by show ¬ 1 + 2 = 2; omega))
  rw [e3]
  simp [hq]

/-- The decoded and scaled value of channel `i`, lane `l` of block `b` on one side: the fp8 code in its byte times the
    scale in its half of the scale word. -/
def D (X : (⟨4, ![2, 10192, 40, 128]⟩ : Shape).Idx → BitVec 32) (S : (⟨3, ![2, 10192, 128]⟩ : Shape).Idx → BitVec 32)
    (side : Fin 2) (b : Fin 10192) (i : Fin 160) (l : Fin 128) : EReal :=
  if h : i.val < 96 then
    Ideal.ofBits .fp8e4m3 ((X (ix4 side b (⟨i.val / 4, by omega⟩ : Fin 40) l)).extractLsb' (8 * (i.val % 4)) 8)
      * Ideal.ofBits .f32 (S (ix3 side b l) <<< 16#32)
  else
    Ideal.ofBits .fp8e5m2 ((X (ix4 side b (⟨24 + (i.val - 96) / 4, by omega⟩ : Fin 40) l)).extractLsb' (8 * ((i.val - 96) % 4)) 8)
      * Ideal.ofBits .f32 (IntOp.andi (S (ix3 side b l)) 4294901760#32)

theorem shli16 (u : ArithUnit) (x : BitVec 32) : IntOp.shli u x 16#32 = x <<< 16#32 := if_pos (by decide)

/-- What both programs compute: for each chunk range, the products of the two sides' values over its blocks and lanes. -/
def G (X : (⟨4, ![2, 10192, 40, 128]⟩ : Shape).Idx → BitVec 32) (S : (⟨3, ![2, 10192, 128]⟩ : Shape).Idx → BitVec 32)
    (B : Fin 14 → BitVec 32) (k : Fin 13) (i j : Fin 160) : EReal :=
  ∑ b : Fin 10192, ∑ l : Fin 128,
    if (16 * (B k.castSucc).toNat ≤ b.val ∧ b.val < 16 * (B k.succ).toNat) then D X S 0 b i l * D X S 1 b j l else 0

/-- A sum over blocks and lanes, chunk by chunk. -/
theorem sum_blocks (f : Fin 10192 → Fin 128 → EReal) :
    ∑ b : Fin 10192, ∑ l : Fin 128, f b l
      = ∑ g : Fin 637, ∑ p : Fin 2048, f ⟨16 * g.val + p.val / 128, by omega⟩ ⟨p.val % 128, by omega⟩ := by
  have e1 : ∑ b : Fin 10192, ∑ l : Fin 128, f b l
      = ∑ g : Fin 637, ∑ q : Fin 16, ∑ l : Fin 128, f ⟨16 * g.val + q.val, by omega⟩ l := by
    rw [← Fintype.sum_prod_type (f := fun x : Fin 637 × Fin 16 => ∑ l : Fin 128, f ⟨16 * x.1.val + x.2.val, by omega⟩ l)]
    refine (Fintype.sum_equiv (finProdFinEquiv (m := 637) (n := 16)) _ _ fun x => ?_).symm
    refine Finset.sum_congr rfl fun l _ => ?_
    congr 1
    exact Fin.ext (by simp [finProdFinEquiv]; omega)
  rw [e1]
  refine Finset.sum_congr rfl fun g _ => ?_
  rw [← Fintype.sum_prod_type (f := fun x : Fin 16 × Fin 128 => f ⟨16 * g.val + x.1.val, by omega⟩ x.2)]
  refine Fintype.sum_equiv (finProdFinEquiv (m := 16) (n := 128)) _ _ fun x => ?_
  have hx := x.2.isLt
  have h1 : (finProdFinEquiv x : Fin (16 * 128)).val = x.2.val + 128 * x.1.val := rfl
  congr 1
  · refine Fin.ext ?_
    show 16 * g.val + x.1.val = 16 * g.val + (finProdFinEquiv x : Fin (16 * 128)).val / 128
    rw [h1]; omega
  · refine Fin.ext ?_
    show x.2.val = (finProdFinEquiv x : Fin (16 * 128)).val % 128
    rw [h1]; omega

/-- The result as a sum over chunks. -/
theorem G_chunks (X S B k i j) :
    G X S B k i j = ∑ g : Fin 637, if ((B k.castSucc).toNat ≤ g.val ∧ g.val < (B k.succ).toNat) then
      ∑ p : Fin 2048, D X S 0 ⟨16 * g.val + p.val / 128, by omega⟩ i ⟨p.val % 128, by omega⟩ * D X S 1 ⟨16 * g.val + p.val / 128, by omega⟩ j ⟨p.val % 128, by omega⟩ else 0 := by
  unfold G
  rw [sum_blocks (fun b l => if (16 * (B k.castSucc).toNat ≤ b.val ∧ b.val < 16 * (B k.succ).toNat) then D X S 0 b i l * D X S 1 b j l else 0)]
  refine Finset.sum_congr rfl fun g _ => ?_
  by_cases h : (B k.castSucc).toNat ≤ g.val ∧ g.val < (B k.succ).toNat
  · rw [if_pos h]
    refine Finset.sum_congr rfl fun p _ => ?_
    rw [if_pos ⟨by dsimp only; omega, by dsimp only; omega⟩]
  · rw [if_neg h]
    refine Finset.sum_eq_zero fun p _ => ?_
    rw [if_neg]
    rintro ⟨h1, h2⟩
    dsimp only at h1 h2
    exact h ⟨by omega, by omega⟩

end Cert.Val

end
-- ==== Proof.IdealZ.lean ====
module

public import proofs.«01_k».proof.Proof.IdealFlow
public import proofs.«01_k».proof.Proof.Words
public import Idealize.ShloMosaic.Lib.IdealHost

@[expose] public section

set_option maxRecDepth 16384
set_option Elab.async false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The sixteen row slices of the scale block. -/
theorem slice16 (j : Fin 16) : S16x128.Slices ![j.val, 0] S1x128 := by
  match j with
  | ⟨0, _⟩ => exact slices_S16x128_o0_0_S1x128
  | ⟨1, _⟩ => exact slices_S16x128_o1_0_S1x128
  | ⟨2, _⟩ => exact slices_S16x128_o2_0_S1x128
  | ⟨3, _⟩ => exact slices_S16x128_o3_0_S1x128
  | ⟨4, _⟩ => exact slices_S16x128_o4_0_S1x128
  | ⟨5, _⟩ => exact slices_S16x128_o5_0_S1x128
  | ⟨6, _⟩ => exact slices_S16x128_o6_0_S1x128
  | ⟨7, _⟩ => exact slices_S16x128_o7_0_S1x128
  | ⟨8, _⟩ => exact slices_S16x128_o8_0_S1x128
  | ⟨9, _⟩ => exact slices_S16x128_o9_0_S1x128
  | ⟨10, _⟩ => exact slices_S16x128_o10_0_S1x128
  | ⟨11, _⟩ => exact slices_S16x128_o11_0_S1x128
  | ⟨12, _⟩ => exact slices_S16x128_o12_0_S1x128
  | ⟨13, _⟩ => exact slices_S16x128_o13_0_S1x128
  | ⟨14, _⟩ => exact slices_S16x128_o14_0_S1x128
  | ⟨15, _⟩ => exact slices_S16x128_o15_0_S1x128
  | ⟨n + 16, h⟩ => exact absurd h (by omega)

/-- One block's tile at an index: the decoded code times its scale. -/
theorem tile_apply (p : Vec Ideal S1x16x40x128 .i32) (s : Vec Ideal S1x16x128 .i32) (j : Fin 16) (i : Fin 160) (l : Fin 128) :
    tileOf p s j ![j.val, 0] (slice16 j) (ix2 i l) = if h : i.val < 96 then
        Ideal.ofBits .fp8e4m3 ((p (ix4 0 j (⟨i.val / 4, by omega⟩ : Fin 40) l)).extractLsb' (8 * (i.val % 4)) 8) * Ideal.ofBits .f32 (s (ix3 0 j l) <<< 16#32)
      else
        Ideal.ofBits .fp8e5m2 ((p (ix4 0 j (⟨24 + (i.val - 96) / 4, by omega⟩ : Fin 40) l)).extractLsb' (8 * ((i.val - 96) % 4)) 8) * Ideal.ofBits .f32 (IntOp.andi (s (ix3 0 j l)) 4294901760#32) := by
  have e4 : ∀ q : Fin 96, bitcast S96x128 8 (shapeCast S24x128 (ldX p j) shapeCasts_S1x1x24x128_S24x128) bitcasts_S24x128_w32_S96x128_w8 (ix2 q l)
      = (p (ix4 0 j (⟨q.val / 4, by omega⟩ : Fin 40) l)).extractLsb' (8 * (q.val % 4)) 8 := fun q => by
    rw [Cert.Val.bc8 _ _ q l (⟨q.val / 4, by omega⟩ : Fin 24) rfl]
    congr 1
    refine (shapeCast_apply _ _ _ (ix4 (0 : Fin 1) (0 : Fin 1) (⟨q.val / 4, by omega⟩ : Fin 24) l) ?_).trans rfl
    rw [Shape.rowMajor_val_four, Shape.rowMajor_val_two]
    show ((0 * 1 + 0) * 24 + q.val / 4) * 128 + l.val = q.val / 4 * 128 + l.val
    omega
  have e5 : ∀ q : Fin 64, bitcast S64x128 8 (shapeCast S16x128 (ldD p j) shapeCasts_S1x1x16x128_S16x128) bitcasts_S16x128_w32_S64x128_w8 (ix2 q l)
      = (p (ix4 0 j (⟨24 + q.val / 4, by omega⟩ : Fin 40) l)).extractLsb' (8 * (q.val % 4)) 8 := fun q => by
    rw [Cert.Val.bc8 _ _ q l (⟨q.val / 4, by omega⟩ : Fin 16) rfl]
    congr 1
    refine (shapeCast_apply _ _ _ (ix4 (0 : Fin 1) (0 : Fin 1) (⟨q.val / 4, by omega⟩ : Fin 16) l) ?_).trans rfl
    rw [Shape.rowMajor_val_four, Shape.rowMajor_val_two]
    show ((0 * 1 + 0) * 16 + q.val / 4) * 128 + l.val = q.val / 4 * 128 + l.val
    omega
  unfold tileOf
  generalize bitcast S96x128 8 (shapeCast S24x128 (ldX p j) shapeCasts_S1x1x24x128_S24x128) bitcasts_S24x128_w32_S96x128_w8 = c4 at e4 ⊢
  generalize bitcast S64x128 8 (shapeCast S16x128 (ldD p j) shapeCasts_S1x1x16x128_S16x128) bitcasts_S16x128_w32_S64x128_w8 = c5 at e5 ⊢
  unfold k0_pay4 k0_pay5 k0_pay3
  pointwise [Cert.Val.shli16]
  simp only [e4, e5]

/-- The chunk's values, column `c` in block `c / 128`. -/
theorem z_apply (p : Vec Ideal S1x16x40x128 .i32) (s : Vec Ideal S1x16x128 .i32) (i : Fin 160) (c : Fin 2048) :
    zOf p s (ix2 i c) = tileOf p s (⟨c.val / 128, by omega⟩ : Fin 16) ![c.val / 128, 0] (slice16 ⟨c.val / 128, by omega⟩) (ix2 i (⟨c.val % 128, by omega⟩ : Fin 128)) := by
  refine (concatenate_ofFn_apply (t := S160x2048) (s₁ := S160x128) 1 (fun n : Fin 16 => tileOf p s n ![n.val, 0] (slice16 n)) _ rfl 128 rfl (ix2 i c) (⟨c.val / 128, by omega⟩ : Fin 16) rfl
    (ix2 i (⟨c.val % 128, by omega⟩ : Fin 128)) rfl fun b hb => ?_)
  fin_cases b
  · rfl
  · exact absurd rfl hb

/-- A chunk's values out of the packed words and scale words. -/
theorem z_D (X : Vec Ideal S2x10192x40x128 .i32) (S : Vec Ideal S2x10192x128 .i32) (side : Fin 2) (g : Fin 637) (i : Fin 160) (c : Fin 2048) :
    zOf (blkX side X g.val) (blkS side S g.val) (ix2 i c)
      = Cert.Val.D X S side ⟨16 * g.val + c.val / 128, by omega⟩ i ⟨c.val % 128, by omega⟩ := by
  have eb : ∀ h, (⟨(16 * g.val + c.val / 128) % 10192, h⟩ : Fin 10192) = ⟨16 * g.val + c.val / 128, by omega⟩ := fun h => Fin.ext (Nat.mod_eq_of_lt (by omega))
  have eX : ∀ q : Fin 40, blkX side X g.val (ix4 0 (⟨c.val / 128, by omega⟩ : Fin 16) q (⟨c.val % 128, by omega⟩ : Fin 128))
      = X (ix4 side ⟨16 * g.val + c.val / 128, by omega⟩ q ⟨c.val % 128, by omega⟩) := fun q =>
    congrArg (fun b => X (ix4 side b q (⟨c.val % 128, by omega⟩ : Fin 128))) (eb (Nat.mod_lt _ (by omega)))
  have eS : blkS side S g.val (ix3 0 (⟨c.val / 128, by omega⟩ : Fin 16) (⟨c.val % 128, by omega⟩ : Fin 128))
      = S (ix3 side ⟨16 * g.val + c.val / 128, by omega⟩ ⟨c.val % 128, by omega⟩) :=
    congrArg (fun b => S (ix3 side b (⟨c.val % 128, by omega⟩ : Fin 128))) (eb (Nat.mod_lt _ (by omega)))
  rw [z_apply]
  refine (tile_apply _ _ (⟨c.val / 128, by omega⟩ : Fin 16) i _).trans ?_
  unfold Cert.Val.D
  simp only [eX, eS]

end Cert.KernelIdeal.Val

end
-- ==== Proof.IdealAcc.lean ====
module

public import proofs.«01_k».proof.Proof.IdealZ
public import proofs.«01_k».proof.Proof.IdealRes
public import Idealize.ShloMosaic.Lib.WordCmp

@[expose] public section

set_option maxRecDepth 16384
set_option Elab.async false

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Which accumulator block a chunk adds to -/

theorem sge_nat (g : ℕ) (hg : g < 637) {B : Fin 14 → BitVec 32} (h : Ordered B) (j : Fin 14) :
    IntOp.cmpi .sge (BitVec.ofNat 32 g) (B j) = BitVec.ofBool (decide ((B j).toNat ≤ g)) := by
  have hn : (BitVec.ofNat 32 g).toInt = (g : ℤ) := by
    have e : (BitVec.ofNat 32 g).toNat = g := by rw [BitVec.toNat_ofNat]; omega
    rw [BitVec.toInt_eq_toNat_of_lt (by rw [e]; omega), e]
  rw [WordCmp.cmpi_sge_eq, hn, h.toInt]
  congr 1
  exact decide_eq_decide.mpr Nat.cast_le

/-- A chunk inside range `k` adds to block `k`. -/
theorem oOf_of (g : ℕ) (hg : g < 637) (T : Vec F S16 .i32) {B : Fin 14 → BitVec 32} (h : Ordered B) (hT : ∀ k : Fin 14, T (ix1 (⟨k.val, by omega⟩ : Fin 16)) = B k)
    (k : Fin 13) (h0 : (B k.castSucc).toNat ≤ g) (h1 : g < (B k.succ).toNat) : oOf (BitVec.ofNat 32 g) T = ![k.val, 0, 0] := by
  have ht : ∀ (j : ℕ) (hj : j < 14), tw T (⟨j, by omega⟩ : Fin 16) = B ⟨j, hj⟩ := fun j hj => hT ⟨j, hj⟩
  have hc : ∀ (j : ℕ) (hj : j < 14), IntOp.cmpi .sge (BitVec.ofNat 32 g) (tw T (⟨j, by omega⟩ : Fin 16)) = BitVec.ofBool (decide (j ≤ k.val)) := fun j hj => by
    rw [ht j hj, sge_nat g hg h]
    congr 1
    refine decide_eq_decide.mpr ⟨fun hb => ?_, fun hb => ?_⟩
    · by_contra hn
      have := h.le_of_le (k.val + 1) (by omega) j hj (by omega)
      have h1' : g < (B ⟨k.val + 1, by omega⟩).toNat := h1
      omega
    · have := h.le_of_le j hj k.val (by omega) hb
      have h0' : (B ⟨k.val, by omega⟩).toNat ≤ g := h0
      omega
  have q1 := hc 1 (by omega)
  have q2 := hc 2 (by omega)
  have q3 := hc 3 (by omega)
  have q4 := hc 4 (by omega)
  have q5 := hc 5 (by omega)
  have q6 := hc 6 (by omega)
  have q7 := hc 7 (by omega)
  have q8 := hc 8 (by omega)
  have q9 := hc 9 (by omega)
  have q10 := hc 10 (by omega)
  have q11 := hc 11 (by omega)
  have q12 := hc 12 (by omega)
  unfold oOf
  show k0_off1 (BitVec.ofNat 32 g) (tw T (⟨1, by omega⟩ : Fin 16)) (tw T (⟨2, by omega⟩ : Fin 16)) (tw T (⟨3, by omega⟩ : Fin 16)) (tw T (⟨4, by omega⟩ : Fin 16)) (tw T (⟨5, by omega⟩ : Fin 16)) (tw T (⟨6, by omega⟩ : Fin 16)) (tw T (⟨7, by omega⟩ : Fin 16)) (tw T (⟨8, by omega⟩ : Fin 16)) (tw T (⟨9, by omega⟩ : Fin 16)) (tw T (⟨10, by omega⟩ : Fin 16)) (tw T (⟨11, by omega⟩ : Fin 16)) (tw T (⟨12, by omega⟩ : Fin 16)) = _
  unfold k0_off1
  simp only [Scalar.cmpi, q1, q2, q3, q4, q5, q6, q7, q8, q9, q10, q11, q12]
  clear ht hT q1 q2 q3 q4 q5 q6 q7 q8 q9 q10 q11 q12 hc h0 h1
  revert k
  decide

/-- Every chunk before the last bound lies in a range. -/
theorem range_ex (g : ℕ) {B : Fin 14 → BitVec 32} (h : Ordered B) : ∀ (n : ℕ) (hn : n < 13), g < (B ⟨n + 1, by omega⟩).toNat →
    ∃ k : Fin 13, (B k.castSucc).toNat ≤ g ∧ g < (B k.succ).toNat
  | 0, hn, hg => ⟨0, by
      have e : (B (Fin.castSucc 0)).toNat = 0 := by
        show (B 0).toNat = 0
        rw [h.zero]; rfl
      omega, hg⟩
  | n + 1, hn, hg => by
    by_cases hb : (B ⟨n + 1, by omega⟩).toNat ≤ g
    · exact ⟨⟨n + 1, by omega⟩, hb, hg⟩
    · exact range_ex g h n (by omega) (by omega)

/-! ## One chunk's effect -/

/-- The block a chunk adds to, at an index. -/
theorem pay1_apply (a b : FVec Ideal S160x2048 .bf16) (r : Vec Ideal S1x160x160 .f32) (i j : Fin 160) :
    k0_pay1 a b r (ix3 0 i j) = r (ix3 0 i j) + ∑ p : Fin 2048, a (ix2 i p) * b (ix2 j p) := by
  unfold k0_pay1
  pointwise

theorem pay2_apply (y : S13x160x160.Idx) : k0_pay2 (F := Ideal) y = (0 : EReal) := Ideal.ofBits_zero_f32

/-- One chunk's step at an index: added to if the chunk's block is this one. -/
theorem step_apply (g : BitVec 32) (T : Vec Ideal S16 .i32) (x0 x1 : Vec Ideal S1x16x40x128 .i32) (s0 s1 : Vec Ideal S1x16x128 .i32) (acc : Vec Ideal S13x160x160 .f32)
    (k' : Fin 13) (ho : oOf g T = ![k'.val, 0, 0]) (k : Fin 13) (i j : Fin 160) :
    step g T x0 x1 s0 s1 acc (ix3 k i j) = acc (ix3 k i j) + if k' = k then ∑ p : Fin 2048, zOf x0 s0 (ix2 i p) * zOf x1 s1 (ix2 j p) else (0 : EReal) := by
  unfold step
  have o0 : oOf g T 0 = k'.val := by rw [ho]; rfl
  have o1 : oOf g T 1 = 0 := by rw [ho]; rfl
  have o2 : oOf g T 2 = 0 := by rw [ho]; rfl
  by_cases e : k' = k
  · subst e
    have h : ∀ a, oOf g T a ≤ (ix3 k' i j a).val ∧ (ix3 k' i j a).val < oOf g T a + S1x160x160.size a := fun a => by
      match a with
      | ⟨0, _⟩ => exact ⟨le_of_eq o0, by show k'.val < oOf g T 0 + 1; omega⟩
      | ⟨1, _⟩ => exact ⟨by show oOf g T 1 ≤ i.val; omega, by show i.val < oOf g T 1 + 160; omega⟩
      | ⟨2, _⟩ => exact ⟨by show oOf g T 2 ≤ j.val; omega, by show j.val < oOf g T 2 + 160; omega⟩
    rw [dif_pos h, if_pos rfl]
    have el : Rect.unitLocal (s := S13x160x160) (off := oOf g T) (size := S1x160x160.size) (ix3 k' i j) h = ix3 (0 : Fin 1) i j := by
      refine funext fun a => Fin.ext ?_
      match a with
      | ⟨0, _⟩ => show k'.val - oOf g T 0 = 0; omega
      | ⟨1, _⟩ => show i.val - oOf g T 1 = i.val; omega
      | ⟨2, _⟩ => show j.val - oOf g T 2 = j.val; omega
    rw [el]
    refine (pay1_apply _ _ _ i j).trans ?_
    have er : rowOf acc (oOf g T) (oOf_inb g T) (ix3 (0 : Fin 1) i j) = acc (ix3 k' i j) := by
      refine congrArg acc (funext fun a => Fin.ext ?_)
      match a with
      | ⟨0, _⟩ => show oOf g T 0 + 1 * 0 = k'.val; omega
      | ⟨1, _⟩ => show oOf g T 1 + 1 * i.val = i.val; omega
      | ⟨2, _⟩ => show oOf g T 2 + 1 * j.val = j.val; omega
    rw [er]
  · have h : ¬ ∀ a, oOf g T a ≤ (ix3 k i j a).val ∧ (ix3 k i j a).val < oOf g T a + S1x160x160.size a := fun h => by
      have h0 : oOf g T 0 ≤ k.val ∧ k.val < oOf g T 0 + 1 := h 0
      exact e (Fin.ext (by omega))
    rw [dif_neg h, if_neg e, add_zero]

/-! ## The accumulator -/

/-- The accumulator after `n` chunks: over the chunks so far that lie in each block's range, the products of the two
    sides' values. -/
theorem acc_apply (T : Vec Ideal S16 .i32) (X : Vec Ideal S2x10192x40x128 .i32) (S : Vec Ideal S2x10192x128 .i32) {B : Fin 14 → BitVec 32} (h : Ordered B)
    (hT : ∀ k : Fin 14, T (ix1 (⟨k.val, by omega⟩ : Fin 16)) = B k) (k : Fin 13) (i j : Fin 160) (f : ℕ → EReal)
    (hf : ∀ g : Fin 637, f g.val = ∑ p : Fin 2048, Cert.Val.D X S 0 ⟨16 * g.val + p.val / 128, by omega⟩ i ⟨p.val % 128, by omega⟩ * Cert.Val.D X S 1 ⟨16 * g.val + p.val / 128, by omega⟩ j ⟨p.val % 128, by omega⟩) :
    ∀ n, n ≤ (B 13).toNat → accN T X S n (ix3 k i j) = ∑ g ∈ Finset.range n, if ((B k.castSucc).toNat ≤ g ∧ g < (B k.succ).toNat) then f g else (0 : EReal)
  | 0, _ => pay2_apply _
  | n + 1, hn => by
    have hi := h.hi_nat
    have hlt : n < 637 := by omega
    obtain ⟨k', h0, h1⟩ := range_ex n h 12 (by omega) (show n < (B 13).toNat by omega)
    have ho := oOf_of n hlt T h hT k' h0 h1
    rw [Finset.sum_range_succ, ← acc_apply T X S h hT k i j f hf n (by omega)]
    refine (step_apply _ T _ _ _ _ _ k' ho k i j).trans ?_
    congr 1
    by_cases e : k' = k
    · subst e
      rw [if_pos rfl, if_pos ⟨h0, h1⟩, hf ⟨n, hlt⟩]
      exact Finset.sum_congr rfl fun p _ => congrArg₂ (· * ·) (z_D X S 0 ⟨n, hlt⟩ i p) (z_D X S 1 ⟨n, hlt⟩ j p)
    · rw [if_neg e, if_neg]
      intro hh
      have ho' := oOf_of n hlt T h hT k hh.1 hh.2
      have e2 := congrFun (ho.symm.trans ho') 0
      exact e (Fin.ext e2)

/-- The accumulator after every chunk: the two sides' products over each range. -/
theorem acc_G (T : Vec Ideal S16 .i32) (X : Vec Ideal S2x10192x40x128 .i32) (S : Vec Ideal S2x10192x128 .i32) {B : Fin 14 → BitVec 32} (h : Ordered B)
    (hT : ∀ k : Fin 14, T (ix1 (⟨k.val, by omega⟩ : Fin 16)) = B k) (k : Fin 13) (i j : Fin 160) :
    accN T X S (B 13).toNat (ix3 k i j) = Cert.Val.G X S B k i j := by
  rw [Cert.Val.G_chunks]
  let f : ℕ → EReal := fun g => if hg : g < 637 then ∑ p : Fin 2048, Cert.Val.D X S 0 ⟨16 * g + p.val / 128, by omega⟩ i ⟨p.val % 128, by omega⟩ * Cert.Val.D X S 1 ⟨16 * g + p.val / 128, by omega⟩ j ⟨p.val % 128, by omega⟩ else 0
  have hf : ∀ g : Fin 637, f g.val = ∑ p : Fin 2048, Cert.Val.D X S 0 ⟨16 * g.val + p.val / 128, by omega⟩ i ⟨p.val % 128, by omega⟩ * Cert.Val.D X S 1 ⟨16 * g.val + p.val / 128, by omega⟩ j ⟨p.val % 128, by omega⟩ :=
    fun g => dif_pos g.isLt
  rw [acc_apply T X S h hT k i j f hf _ (le_refl _)]
  have e : (∑ g : Fin 637, if ((B k.castSucc).toNat ≤ g.val ∧ g.val < (B k.succ).toNat) then ∑ p : Fin 2048, Cert.Val.D X S 0 ⟨16 * g.val + p.val / 128, by omega⟩ i ⟨p.val % 128, by omega⟩ * Cert.Val.D X S 1 ⟨16 * g.val + p.val / 128, by omega⟩ j ⟨p.val % 128, by omega⟩ else 0)
      = ∑ g : Fin 637, (fun g : ℕ => if ((B k.castSucc).toNat ≤ g ∧ g < (B k.succ).toNat) then f g else (0 : EReal)) g.val :=
    Finset.sum_congr rfl fun g _ => by simp only [hf]
  refine Eq.trans ?_ e.symm
  rw [Fin.sum_univ_eq_sum_range (fun g : ℕ => if ((B k.castSucc).toNat ≤ g ∧ g < (B k.succ).toNat) then f g else (0 : EReal)) 637]
  refine Finset.sum_subset (fun x hx => ?_) (fun x _ hx => ?_)
  · have := h.hi_nat
    rw [Finset.mem_range] at hx ⊢
    omega
  · rw [if_neg]
    intro hh
    have hm : (B k.succ).toNat ≤ (B 13).toNat := h.le_of_le k.succ.val k.succ.isLt 13 (by omega) (by have := k.succ.isLt; omega)
    rw [Finset.mem_range] at hx
    omega

end Cert.KernelIdeal.Val

end
-- ==== Proof.SecondIdealAcc.lean ====
module

public import proofs.«01_k».proof.Proof.SecondIdealRes
public import proofs.«01_k».proof.Proof.IdealAcc

@[expose] public section

set_option maxRecDepth 16384
set_option Elab.async false

noncomputable section

namespace Cert.Kernel1Ideal.Val

open Cert.Kernel1Ideal Cert.Kernel1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two calls have the same step, so their accumulators are the same function of words, scales and bounds. -/
theorem accN_eq (T : Vec F S16 .i32) (X : Vec F S2x10192x40x128 .i32) (S : Vec F S2x10192x128 .i32) :
    ∀ n : ℕ, accN T X S n = Cert.KernelIdeal.Val.accN T X S n
  | 0 => rfl
  | n + 1 => by
    show step (BitVec.ofNat 32 n) T (blkX 0 X n) (blkX 1 X n) (blkS 0 S n) (blkS 1 S n) (accN T X S n) = _
    rw [accN_eq T X S n]
    rfl

end Cert.Kernel1Ideal.Val

end
-- ==== Proof.RefTail.lean ====
module

public import proofs.«01_k».proof.Proof.Gen.ReferenceIdeal.Frame
public import proofs.«01_k».proof.Proof.Words
public import Idealize.ShloMosaic.Lib.IdealHost

@[expose] public section

set_option maxRecDepth 16384
set_option Elab.async false

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The decoded values of both sides times their scales. -/
def zr (v0 : FVec F S2x10192x96x128 .bf16) (v1 : FVec F S2x10192x64x128 .bf16) (S : IVec S2x10192x128 32) : FVec F S2x10192x160x128 .bf16 :=
  concatenate S2x10192x160x128 2
    [⟨S2x10192x96x128, mulf v0 (broadcastInDim S2x10192x96x128 ![0, 1, 2, 3] bcast_S2x10192x1x128_S2x10192x96x128_0_1_2_3
        (broadcastInDim S2x10192x1x128 ![0, 1, 3] bcast_S2x10192x128_S2x10192x1x128_0_1_3
          (truncf .bf16 (bitcastToFloat .f32 (Host.shli S (broadcastInDim S2x10192x128 ![] bcast_S_S2x10192x128 (constantI S_ 32 16#32)))) bitsLt_bf16_f32)))⟩,
     ⟨S2x10192x64x128, mulf v1 (broadcastInDim S2x10192x64x128 ![0, 1, 2, 3] bcast_S2x10192x1x128_S2x10192x64x128_0_1_2_3
        (broadcastInDim S2x10192x1x128 ![0, 1, 3] bcast_S2x10192x128_S2x10192x1x128_0_1_3
          (truncf .bf16 (bitcastToFloat .f32 (andi S (broadcastInDim S2x10192x128 ![] bcast_S_S2x10192x128 (constantI S_ 32 4294901760#32)))) bitsLt_bf16_f32)))⟩]
    concatenates_S2x10192x96x128_S2x10192x64x128_S2x10192x160x128_d2

/-- Which blocks belong to which range. -/
def vm (T : IVec S32 32) : IVec S13x10192 1 :=
  andi (cmpi .sle (broadcastInDim S13x10192 ![0, 1] bcast_S13x1_S13x10192_0_1 (muli (broadcastInDim S13x1 ![] bcast_S_S13x1 (constantI S_ 32 16#32)) (broadcastInDim S13x1 ![0] bcast_S13_S13x1_0 (extractStridedSlice S13 ![0] T slices_S32_S13_0))))
      (broadcastInDim S13x10192 ![0, 1] bcast_S1x10192_S13x10192_0_1 (broadcastInDim S1x10192 ![1] bcast_S10192_S1x10192_1 (iotaInDim S10192 32 0))))
    (cmpi .slt (broadcastInDim S13x10192 ![0, 1] bcast_S1x10192_S13x10192_0_1 (broadcastInDim S1x10192 ![1] bcast_S10192_S1x10192_1 (iotaInDim S10192 32 0)))
      (broadcastInDim S13x10192 ![0, 1] bcast_S13x1_S13x10192_0_1 (muli (broadcastInDim S13x1 ![] bcast_S_S13x1 (constantI S_ 32 16#32)) (broadcastInDim S13x1 ![0] bcast_S13_S13x1_0 (extractStridedSlice S13 ![1] T slices_S32_S13_1)))))

/-- The lines after the decoding, as one term. -/
def tailT (v0 : FVec F S2x10192x96x128 .bf16) (v1 : FVec F S2x10192x64x128 .bf16) (S : IVec S2x10192x128 32) (T : IVec S32 32) : FVec F S13x160x160 .f32 :=
  transpose S13x160x160 [0, 2, 1]
    (Host.dotGeneral dot_S13x10192x160x128_S10192x160x128_S13x160x160_13_02_02_1_n_n none
      (select (broadcastInDim S13x10192x160x128 ![0, 1, 2, 3] bcast_S13x10192x1x1_S13x10192x160x128_0_1_2_3 (broadcastInDim S13x10192x1x1 ![0, 1] bcast_S13x10192_S13x10192x1x1_0_1 (vm T)))
        (broadcastInDim S13x10192x160x128 ![0, 1, 2, 3] bcast_S1x10192x160x128_S13x10192x160x128_0_1_2_3 (broadcastInDim S1x10192x160x128 ![1, 2, 3] bcast_S10192x160x128_S1x10192x160x128_1_2_3
          (shapeCast S10192x160x128 (extractStridedSlice S1x10192x160x128 ![1, 0, 0, 0] (zr v0 v1 S) slices_S2x10192x160x128_S1x10192x160x128_1_0_0_0) shapeCasts_S1x10192x160x128_S10192x160x128)))
        (broadcastInDim S13x10192x160x128 ![] bcast_S_S13x10192x160x128 (constant S_ .bf16 0x0000#16)))
      (shapeCast S10192x160x128 (extractStridedSlice S1x10192x160x128 ![0, 0, 0, 0] (zr v0 v1 S) slices_S2x10192x160x128_S1x10192x160x128_0_0_0_0) shapeCasts_S1x10192x160x128_S10192x160x128))
    transposes_S13x160x160_S13x160x160_0_2_1

set_option maxHeartbeats 4000000 in
/-- The lines after the decoding leave that term in the result. -/
theorem tail_eq (W : Valuation τ sig (Elt F)) :
    StableHlo.after (List.flatten [hostOps1, hostOps1_1, hostOps1_2]) W (Proc.devRef .tc main_v41)
      = tailT (W (Proc.devRef .tc main_v0_0)) (W (Proc.devRef .tc main_v0_1)) (W (Proc.devRef .tc main_arg1)) (W (Proc.devRef .tc main_arg2)) := by
  simp only [List.flatten_cons, List.flatten_nil, List.append_nil, List.cons_append, List.nil_append]
  after_results
  rfl

/-! ## At the ideal instance -/

theorem zr_apply (v0 : FVec Ideal S2x10192x96x128 .bf16) (v1 : FVec Ideal S2x10192x64x128 .bf16) (S : IVec S2x10192x128 32) (s : Fin 2) (b : Fin 10192) (i : Fin 160) (l : Fin 128) :
    zr v0 v1 S (ix4 s b i l) = if h : i.val < 96 then v0 (ix4 s b (⟨i.val, h⟩ : Fin 96) l) * Ideal.ofBits .f32 (S (ix3 s b l) <<< 16#32)
      else v1 (ix4 s b (⟨i.val - 96, by omega⟩ : Fin 64) l) * Ideal.ofBits .f32 (IntOp.andi (S (ix3 s b l)) 4294901760#32) := by
  unfold zr
  pointwise [Cert.Val.shli16]

theorem vm_apply (T : IVec S32 32) (k : Fin 13) (b : Fin 10192) :
    vm T (ix2 k b) = IntOp.andi (IntOp.cmpi .sle (IntOp.muli 16#32 (T (ix1 (⟨k.val, by omega⟩ : Fin 32)))) (BitVec.ofNat 32 b.val))
      (IntOp.cmpi .slt (BitVec.ofNat 32 b.val) (IntOp.muli 16#32 (T (ix1 (⟨1 + k.val, by omega⟩ : Fin 32))))) := by
  unfold vm
  pointwise

theorem tailT_apply (v0 : FVec Ideal S2x10192x96x128 .bf16) (v1 : FVec Ideal S2x10192x64x128 .bf16) (S : IVec S2x10192x128 32) (T : IVec S32 32) (k : Fin 13) (i j : Fin 160) :
    tailT v0 v1 S T (ix3 k i j) = ∑ b : Fin 10192, ∑ l : Fin 128,
      (Scalar.select (vm T (ix2 k b)) (zr v0 v1 S (ix4 1 b j l)) 0) * zr v0 v1 S (ix4 0 b i l) := by
  unfold tailT
  generalize zr v0 v1 S = z
  generalize vm T = v
  pointwise

end Cert.ReferenceIdeal.Val

end
-- ==== Proof.RefDec.lean ====
module

public import proofs.«01_k».proof.Proof.Gen.ReferenceIdeal.Frame
public import proofs.«01_k».proof.Proof.Words
public import Idealize.ShloMosaic.Lib.IdealHost

@[expose] public section

set_option maxRecDepth 16384
set_option Elab.async false

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Splitting the rows of a matrix into blocks: row `b * r + q` is row `q` of block `b`. -/
theorem split_apply {α : Type} {N n r k : ℕ} (x : (⟨2, ![N, k]⟩ : Shape).Idx → α) (h : (⟨2, ![N, k]⟩ : Shape).ShapeCasts ⟨3, ![n, r, k]⟩)
    (b : Fin n) (q : Fin r) (l : Fin k) (p : Fin N) (hp : p.val = b.val * r + q.val) :
    shapeCast ⟨3, ![n, r, k]⟩ x h (ix3 b q l) = x (ix2 p l) := by
  refine shapeCast_apply _ _ _ _ ?_
  rw [Shape.rowMajor_val_two, Shape.rowMajor_val_three]
  show p.val * k + l.val = (b.val * r + q.val) * k + l.val
  rw [hp]

/-- Joining the blocks back. -/
theorem join_apply {α : Type} {N n r k : ℕ} (x : (⟨3, ![n, r, k]⟩ : Shape).Idx → α) (h : (⟨3, ![n, r, k]⟩ : Shape).ShapeCasts ⟨2, ![N, k]⟩)
    (b : Fin n) (q : Fin r) (l : Fin k) (p : Fin N) (hp : p.val = b.val * r + q.val) :
    shapeCast ⟨2, ![N, k]⟩ x h (ix2 p l) = x (ix3 b q l) := by
  refine shapeCast_apply _ _ _ _ ?_
  rw [Shape.rowMajor_val_two, Shape.rowMajor_val_three]
  show (b.val * r + q.val) * k + l.val = p.val * k + l.val
  rw [hp]

/-- Dropping or adding the side axis of one side. -/
theorem drop_apply {α : Type} {n r k : ℕ} (x : (⟨4, ![1, n, r, k]⟩ : Shape).Idx → α) (h : (⟨4, ![1, n, r, k]⟩ : Shape).ShapeCasts ⟨3, ![n, r, k]⟩)
    (b : Fin n) (q : Fin r) (l : Fin k) : shapeCast ⟨3, ![n, r, k]⟩ x h (ix3 b q l) = x (ix4 0 b q l) :=
  (shapeCast_dropUnit_apply ![n, r, k] x h _).trans (congrArg x (funext fun a => by fin_cases a <;> rfl))
theorem add_apply {α : Type} {n r k : ℕ} (x : (⟨3, ![n, r, k]⟩ : Shape).Idx → α) (h : (⟨3, ![n, r, k]⟩ : Shape).ShapeCasts ⟨4, ![1, n, r, k]⟩)
    (b : Fin n) (q : Fin r) (l : Fin k) : shapeCast ⟨4, ![1, n, r, k]⟩ x h (ix4 0 b q l) = x (ix3 b q l) :=
  (shapeCast_addUnit_apply ![n, r, k] x h _).trans (congrArg x (funext fun a => by fin_cases a <;> rfl))

/-- The first side's decoded input rows: each value is the fp8 code in its byte. -/
theorem pay3_apply (x : Vec Ideal S1x10192x24x128 .i32) (b : Fin 10192) (i : Fin 96) (l : Fin 128) :
    k0_pay3 x (ix4 0 b i l) = Ideal.ofBits .fp8e4m3 ((x (ix4 0 b (⟨i.val / 4, by omega⟩ : Fin 24) l)).extractLsb' (8 * (i.val % 4)) 8) := by
  unfold k0_pay3
  refine (add_apply _ _ b i l).trans ?_
  refine (split_apply _ _ b i l (⟨b.val * 96 + i.val, by omega⟩ : Fin 978432) rfl).trans ?_
  show Ideal.ofBits .fp8e4m3 (bitcast _ 8 _ _ (ix2 _ l)) = _
  rw [Cert.Val.bc8 _ _ _ _ (⟨b.val * 24 + i.val / 4, by omega⟩ : Fin 244608) (by show _ = (b.val * 96 + i.val) / 4; simp only []; omega),
    join_apply _ _ b (⟨i.val / 4, by omega⟩ : Fin 24) l _ rfl, drop_apply]
  congr 2
  show 8 * ((b.val * 96 + i.val) % 4) = _
  omega

/-- The first side's decoded gradient rows. -/
theorem pay4_apply (x : Vec Ideal S1x10192x16x128 .i32) (b : Fin 10192) (i : Fin 64) (l : Fin 128) :
    k0_pay4 x (ix4 0 b i l) = Ideal.ofBits .fp8e5m2 ((x (ix4 0 b (⟨i.val / 4, by omega⟩ : Fin 16) l)).extractLsb' (8 * (i.val % 4)) 8) := by
  unfold k0_pay4
  refine (add_apply _ _ b i l).trans ?_
  refine (split_apply _ _ b i l (⟨b.val * 64 + i.val, by omega⟩ : Fin 652288) rfl).trans ?_
  show Ideal.ofBits .fp8e5m2 (bitcast _ 8 _ _ (ix2 _ l)) = _
  rw [Cert.Val.bc8 _ _ _ _ (⟨b.val * 16 + i.val / 4, by omega⟩ : Fin 163072) (by show _ = (b.val * 64 + i.val) / 4; simp only []; omega),
    join_apply _ _ b (⟨i.val / 4, by omega⟩ : Fin 16) l _ rfl, drop_apply]
  congr 2
  show 8 * ((b.val * 64 + i.val) % 4) = _
  omega

/-- The second side decodes as the first does. -/
theorem pay16_eq (x : Vec Ideal S1x10192x24x128 .i32) : k0_pay1 (k0_pay6 x) = k0_pay3 x := rfl
theorem pay25_eq (x : Vec Ideal S1x10192x16x128 .i32) : k0_pay2 (k0_pay5 x) = k0_pay4 x := rfl

/-- The decoded input rows of both sides. -/
theorem out1_apply (x : Vec Ideal S2x10192x40x128 .i32) (s : Fin 2) (b : Fin 10192) (i : Fin 96) (l : Fin 128) :
    out0_1 x (ix4 s b i l) = Ideal.ofBits .fp8e4m3 ((x (ix4 s b (⟨i.val / 4, by omega⟩ : Fin 40) l)).extractLsb' (8 * (i.val % 4)) 8) := by
  unfold out0_1
  rw [pay16_eq]
  have e0 : ∀ a : Fin 24, r0_0.emb (ix4 0 b a l) = ix4 0 b (⟨a.val, by omega⟩ : Fin 40) l := fun a => by
    refine funext fun c => Fin.ext ?_
    fin_cases c <;> (first | rfl | (show 0 + _ = _; simp))
  have e4 : ∀ a : Fin 24, r0_4.emb (ix4 0 b a l) = ix4 1 b (⟨a.val, by omega⟩ : Fin 40) l := fun a => by
    refine funext fun c => Fin.ext ?_
    fin_cases c <;> (first | rfl | (show 0 + _ = _; simp))
  have e2 : r0_2.emb (ix4 0 b i l) = ix4 0 b i l := by
    refine funext fun c => Fin.ext ?_
    fin_cases c <;> (first | rfl | (show 0 + _ = _; simp))
  have e6 : r0_6.emb (ix4 0 b i l) = ix4 1 b i l := by
    refine funext fun c => Fin.ext ?_
    fin_cases c <;> (first | rfl | (show 0 + _ = _; simp))
  match s with
  | ⟨0, _⟩ =>
    rw [View.canon_cons_of_not_mem _ _ (by
      intro h
      have h0 := (Rect.mem_set_unit (inb := inb_S2x10192x96x128_S1x10192x96x128_1_0_0_0) |>.mp h (0 : Fin 4)).1
      exact absurd h0 (show ¬ (1 ≤ 0) by decide))]
    refine (congrArg _ e2.symm).trans ((View.canon_cons_emb _ _ _ _).trans ?_)
    rw [pay3_apply]
    show Ideal.ofBits .fp8e4m3 ((x (r0_0.emb _)).extractLsb' _ 8) = _
    rw [e0]
    rfl
  | ⟨1, _⟩ =>
    refine (congrArg _ e6.symm).trans ((View.canon_cons_emb _ _ _ _).trans ?_)
    rw [pay3_apply]
    show Ideal.ofBits .fp8e4m3 ((x (r0_4.emb _)).extractLsb' _ 8) = _
    rw [e4]
    rfl

/-- The decoded gradient rows of both sides. -/
theorem out2_apply (x : Vec Ideal S2x10192x40x128 .i32) (s : Fin 2) (b : Fin 10192) (i : Fin 64) (l : Fin 128) :
    out0_2 x (ix4 s b i l) = Ideal.ofBits .fp8e5m2 ((x (ix4 s b (⟨24 + i.val / 4, by omega⟩ : Fin 40) l)).extractLsb' (8 * (i.val % 4)) 8) := by
  unfold out0_2
  rw [pay25_eq]
  have e0 : ∀ a : Fin 16, r0_1.emb (ix4 0 b a l) = ix4 0 b (⟨24 + a.val, by omega⟩ : Fin 40) l := fun a => by
    refine funext fun c => Fin.ext ?_
    fin_cases c <;> (first | rfl | (show _ + 1 * _ = _; simp))
  have e4 : ∀ a : Fin 16, r0_5.emb (ix4 0 b a l) = ix4 1 b (⟨24 + a.val, by omega⟩ : Fin 40) l := fun a => by
    refine funext fun c => Fin.ext ?_
    fin_cases c <;> (first | rfl | (show _ + 1 * _ = _; simp))
  have e2 : r0_3.emb (ix4 0 b i l) = ix4 0 b i l := by
    refine funext fun c => Fin.ext ?_
    fin_cases c <;> (first | rfl | (show 0 + _ = _; simp))
  have e6 : r0_7.emb (ix4 0 b i l) = ix4 1 b i l := by
    refine funext fun c => Fin.ext ?_
    fin_cases c <;> (first | rfl | (show 0 + _ = _; simp))
  match s with
  | ⟨0, _⟩ =>
    rw [View.canon_cons_of_not_mem _ _ (by
      intro h
      have h0 := (Rect.mem_set_unit (inb := inb_S2x10192x64x128_S1x10192x64x128_1_0_0_0) |>.mp h (0 : Fin 4)).1
      exact absurd h0 (show ¬ (1 ≤ 0) by decide))]
    refine (congrArg _ e2.symm).trans ((View.canon_cons_emb _ _ _ _).trans ?_)
    rw [pay4_apply]
    show Ideal.ofBits .fp8e5m2 ((x (r0_1.emb _)).extractLsb' _ 8) = _
    rw [e0]
    rfl
  | ⟨1, _⟩ =>
    refine (congrArg _ e6.symm).trans ((View.canon_cons_emb _ _ _ _).trans ?_)
    rw [pay4_apply]
    show Ideal.ofBits .fp8e5m2 ((x (r0_5.emb _)).extractLsb' _ 8) = _
    rw [e4]
    rfl

end Cert.ReferenceIdeal.Val

end
-- ==== Proof.RefVal.lean ====
module

public import proofs.«01_k».proof.Proof.RefTail
public import proofs.«01_k».proof.Proof.RefDec
public import Idealize.ShloMosaic.Lib.WordCmp
public import Idealize.ShloMosaic.Lib.Pipeline.ValueKit.Geometry

@[expose] public section

set_option maxRecDepth 16384
set_option Elab.async false

noncomputable section

namespace Cert.ReferenceIdeal.Val

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The reference's value as sums -/

/-- The validity word of a block, with small chunk bounds: whether the block lies in the range. -/
theorem valid_word (w w' : BitVec 32) (b : ℕ) (hw : w.toNat ≤ 637) (hw' : w'.toNat ≤ 637) (hb : b < 10192) :
    IntOp.andi (IntOp.cmpi .sle (IntOp.muli 16#32 w) (BitVec.ofNat 32 b)) (IntOp.cmpi .slt (BitVec.ofNat 32 b) (IntOp.muli 16#32 w'))
      = BitVec.ofBool (decide (16 * w.toNat ≤ b ∧ b < 16 * w'.toNat)) := by
  have hm : ∀ u : BitVec 32, u.toNat ≤ 637 → (IntOp.muli 16#32 u).toInt = 16 * (u.toNat : ℤ) := fun u hu => by
    have e : (IntOp.muli 16#32 u).toNat = 16 * u.toNat := by
      show (16#32 * u).toNat = _
      rw [BitVec.toNat_mul]
      show 16 * u.toNat % 2 ^ 32 = _
      omega
    rw [BitVec.toInt_eq_toNat_of_lt (by rw [e]; omega), e]
    omega
  have hn : (BitVec.ofNat 32 b).toInt = (b : ℤ) := by
    have e : (BitVec.ofNat 32 b).toNat = b := by rw [BitVec.toNat_ofNat]; omega
    rw [BitVec.toInt_eq_toNat_of_lt (by rw [e]; omega), e]
  rw [WordCmp.cmpi_sle_eq, WordCmp.cmpi_slt_eq, hm w hw, hm w' hw', hn]
  by_cases h1 : 16 * w.toNat ≤ b <;> by_cases h2 : b < 16 * w'.toNat
  all_goals
    have e1 : (16 * (w.toNat : ℤ) ≤ (b : ℤ)) ↔ 16 * w.toNat ≤ b := by omega
    have e2 : ((b : ℤ) < 16 * (w'.toNat : ℤ)) ↔ b < 16 * w'.toNat := by omega
    simp only [e1, e2, h1, h2]
    decide

theorem select_word (p : Prop) [Decidable p] (x y : EReal) : Scalar.select (BitVec.ofBool (decide p)) x y = if p then x else y := by
  by_cases h : p <;> simp [h, Scalar.select]

/-- The scaled decoded value, from the packed words. -/
theorem z_D (X : IVec S2x10192x40x128 32) (S : IVec S2x10192x128 32) (s : Fin 2) (b : Fin 10192) (i : Fin 160) (l : Fin 128) :
    zr (F := Ideal) (out0_1 (F := Ideal) X) (out0_2 (F := Ideal) X) S (ix4 s b i l) = Cert.Val.D X S s b i l := by
  rw [zr_apply]
  unfold Cert.Val.D
  split
  · rw [out1_apply]
  · rw [out2_apply]

/-- The reference's result: over every chunk range, the products of the two sides' values. -/
theorem tail_G (X : IVec S2x10192x40x128 32) (S : IVec S2x10192x128 32) (T : IVec S32 32) (B : Fin 14 → BitVec 32)
    (hT : ∀ k : Fin 14, T (ix1 (⟨k.val, by omega⟩ : Fin 32)) = B k) (hB : ∀ k, (B k).toNat ≤ 637) (k : Fin 13) (i j : Fin 160) :
    tailT (F := Ideal) (out0_1 (F := Ideal) X) (out0_2 (F := Ideal) X) S T (ix3 k i j) = Cert.Val.G X S B k i j := by
  rw [tailT_apply]
  unfold Cert.Val.G
  refine Finset.sum_congr rfl fun b _ => Finset.sum_congr rfl fun l _ => ?_
  have e0 : T (ix1 (⟨k.val, by omega⟩ : Fin 32)) = B k.castSucc := hT k.castSucc
  have e1 : T (ix1 (⟨1 + k.val, by omega⟩ : Fin 32)) = B k.succ := by
    rw [← hT k.succ]; congr 2; exact Fin.ext (Nat.add_comm _ _)
  rw [vm_apply, e0, e1, valid_word _ _ _ (hB _) (hB _) b.isLt, select_word, z_D, z_D]
  by_cases h : 16 * (B k.castSucc).toNat ≤ b.val ∧ b.val < 16 * (B k.succ).toNat
  · rw [if_pos h, if_pos h, mul_comm]
  · rw [if_neg h, if_neg h, zero_mul]

/-! ## The run -/

section Run

variable {F : FTy → Type} [FloatOps F] (m : (ℓ : Loc nD τ sig) → Buf (Elt F) ℓ) (ρ : Dev nD → PrngReg)

/-- A block's index is the array's: each window is its whole array. -/
theorem emb0_0 (t : Fin cfg0.N) (i : S2x10192x40x128.Idx) : (win0_0.blk t).view.emb i = i := by
  funext a
  apply Fin.ext
  show 0 * _ + 1 * (i a).val = (i a).val
  rw [Nat.zero_mul, Nat.zero_add, Nat.one_mul]
theorem emb0_1 (t : Fin cfg0.N) (i : S2x10192x96x128.Idx) : (win0_1.blk t).view.emb i = i := by
  funext a
  apply Fin.ext
  show 0 * _ + 1 * (i a).val = (i a).val
  rw [Nat.zero_mul, Nat.zero_add, Nat.one_mul]
theorem emb0_2 (t : Fin cfg0.N) (i : S2x10192x64x128.Idx) : (win0_2.blk t).view.emb i = i := by
  funext a
  apply Fin.ext
  show 0 * _ + 1 * (i a).val = (i a).val
  rw [Nat.zero_mul, Nat.zero_add, Nat.one_mul]

theorem iblk0_eq (c : Dev nD) (t : Fin cfg0.N) : iblk m c 0 t = m ((c : Thread nD τ).loc main_arg0) := by
  funext i
  show V m c main_arg0 ((win0_0.blk t).view.emb i) = _
  rw [emb0_0]
  rfl

theorem flushed1_eq (c : Dev nD) (t : Fin cfg0.N) :
    (dats m 0 c).flushed 1 t = ((cfg0.win 1).blk t).view.read (Elt F) (out0_1 (m ((c : Thread nD τ).loc main_arg0))) := by
  have e : (dats m 0 c).after 1 t = out0_1 (m ((c : Thread nD τ).loc main_arg0)) := by rw [after0_1, iblk0_eq]
  generalize out0_1 (m ((c : Thread nD τ).loc main_arg0)) = X at e ⊢
  unfold Pipeline.Dat.flushed
  rw [e]
  funext y
  show X y = X ((win0_1.blk t).view.emb y)
  rw [emb0_1]

theorem covered1 (i : S2x10192x96x128.Idx) : ∃ t : Fin cfg0.N, (cfg0.win 1).flush t = true ∧ i ∈ ((cfg0.win 1).blk t).view.set :=
  ⟨(⟨0, by decide⟩ : Fin cfg0.N), flush0_1 _, by
    have h := (win0_1.blk (⟨0, by decide⟩ : Fin cfg0.N)).view.emb_mem_set i
    rw [emb0_1] at h
    exact h⟩

theorem arr1 (c : Dev nD) : (dats m 0 c).arrAt 1 cfg0.N = out0_1 (m ((c : Thread nD τ).loc main_arg0)) :=
  (dats m 0 c).arrAt_eq_of_cover 1 _ (fun t _ => flushed1_eq m c t) covered1

theorem flushed2_eq (c : Dev nD) (t : Fin cfg0.N) :
    (dats m 0 c).flushed 2 t = ((cfg0.win 2).blk t).view.read (Elt F) (out0_2 (m ((c : Thread nD τ).loc main_arg0))) := by
  have e : (dats m 0 c).after 2 t = out0_2 (m ((c : Thread nD τ).loc main_arg0)) := by rw [after0_2, iblk0_eq]
  generalize out0_2 (m ((c : Thread nD τ).loc main_arg0)) = X at e ⊢
  unfold Pipeline.Dat.flushed
  rw [e]
  funext y
  show X y = X ((win0_2.blk t).view.emb y)
  rw [emb0_2]

theorem covered2 (i : S2x10192x64x128.Idx) : ∃ t : Fin cfg0.N, (cfg0.win 2).flush t = true ∧ i ∈ ((cfg0.win 2).blk t).view.set :=
  ⟨(⟨0, by decide⟩ : Fin cfg0.N), flush0_2 _, by
    have h := (win0_2.blk (⟨0, by decide⟩ : Fin cfg0.N)).view.emb_mem_set i
    rw [emb0_2] at h
    exact h⟩

theorem arr2 (c : Dev nD) : (dats m 0 c).arrAt 2 cfg0.N = out0_2 (m ((c : Thread nD τ).loc main_arg0)) :=
  (dats m 0 c).arrAt_eq_of_cover 2 _ (fun t _ => flushed2_eq m c t) covered2

/-- What the reference leaves in its result. -/
def res (c : Dev nD) : Buf (Elt F) ((c : Thread nD τ).loc main_v41) :=
  tailT (out0_1 (m ((c : Thread nD τ).loc main_arg0))) (out0_2 (m ((c : Thread nD τ).loc main_arg0)))
    (m ((c : Thread nD τ).loc main_arg1)) (m ((c : Thread nD τ).loc main_arg2))

theorem after_res (c : Dev nD) :
    Pipeline.afterTail₀ cfgs (dats m) 0 (V0 m) [hostOps1, hostOps1_1, hostOps1_2] c main_v41 = res m c := by
  unfold Pipeline.afterTail₀ res
  rw [tail_eq]
  have h1 := Pipeline.withArrays_arr spec0 (by decide) c (V0 m c) (fun w => (dats m 0 c).arrAt w cfg0.N) 1
  have h2 := Pipeline.withArrays_arr spec0 (by decide) c (V0 m c) (fun w => (dats m 0 c).arrAt w cfg0.N) 2
  have h3 := Pipeline.withArrays_of_ne spec0 c (V0 m c) (fun w => (dats m 0 c).arrAt w cfg0.N) main_arg1 (by exact (by decide : ∀ w, Pipeline.arrRef spec0 w ≠ main_arg1))
  have h4 := Pipeline.withArrays_of_ne spec0 c (V0 m c) (fun w => (dats m 0 c).arrAt w cfg0.N) main_arg2 (by exact (by decide : ∀ w, Pipeline.arrRef spec0 w ≠ main_arg2))
  rw [arr1] at h1
  rw [arr2] at h2
  exact congr (congr (congr (congrArg tailT h1) h2) (h3.trans (V_main_arg1 m c))) (h4.trans (V_main_arg2 m c))

/-- The reference terminates with its arguments unchanged and its result at that value. -/
theorem value : θ_run (defs (F := F)) (onTc (τ := τ) (main (F := F))) ⟨m, fun _ => 0, ρ⟩ (fun r => ∀ c : Dev nD,
      r.2.mem ((c : Thread nD τ).loc main_v41) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨((h.1 c).2 main_v41 (Pipeline.mem_restRefs_of main_v41 (by decide) (by decide))).trans (after_res m c), h.2 c⟩)
    (θ_run_and (run_main m ρ) (unchanged m ρ))

end Run

end Cert.ReferenceIdeal.Val

end
-- ==== Proof.SecondRefTail.lean ====
module

public import proofs.«01_k».proof.Proof.Gen.Reference1Ideal.Frame
public import proofs.«01_k».proof.Proof.Shift
public import proofs.«01_k».proof.Proof.RefVal
public import Idealize.ShloMosaic.Lib.IdealHost

@[expose] public section

set_option maxRecDepth 16384
set_option Elab.async false

noncomputable section

namespace Cert.Reference1Ideal.Val

open Cert.Reference1Ideal Cert.Reference1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The decoded values of both sides times their scales. -/
def zr (v0 : FVec F S2x10192x96x128 .bf16) (v1 : FVec F S2x10192x64x128 .bf16) (S : IVec S2x10192x128 32) : FVec F S2x10192x160x128 .bf16 :=
  concatenate S2x10192x160x128 2
    [⟨S2x10192x96x128, mulf v0 (broadcastInDim S2x10192x96x128 ![0, 1, 2, 3] bcast_S2x10192x1x128_S2x10192x96x128_0_1_2_3
        (broadcastInDim S2x10192x1x128 ![0, 1, 3] bcast_S2x10192x128_S2x10192x1x128_0_1_3
          (truncf .bf16 (bitcastToFloat .f32 (Host.shli S (broadcastInDim S2x10192x128 ![] bcast_S_S2x10192x128 (constantI S_ 32 16#32)))) bitsLt_bf16_f32)))⟩,
     ⟨S2x10192x64x128, mulf v1 (broadcastInDim S2x10192x64x128 ![0, 1, 2, 3] bcast_S2x10192x1x128_S2x10192x64x128_0_1_2_3
        (broadcastInDim S2x10192x1x128 ![0, 1, 3] bcast_S2x10192x128_S2x10192x1x128_0_1_3
          (truncf .bf16 (bitcastToFloat .f32 (andi S (broadcastInDim S2x10192x128 ![] bcast_S_S2x10192x128 (constantI S_ 32 4294901760#32)))) bitsLt_bf16_f32)))⟩]
    concatenates_S2x10192x96x128_S2x10192x64x128_S2x10192x160x128_d2

/-- Which blocks belong to which range. -/
def vm (T : IVec S32 32) : IVec S13x10192 1 :=
  andi (cmpi .sle (broadcastInDim S13x10192 ![0, 1] bcast_S13x1_S13x10192_0_1 (muli (broadcastInDim S13x1 ![] bcast_S_S13x1 (constantI S_ 32 16#32)) (broadcastInDim S13x1 ![0] bcast_S13_S13x1_0 (extractStridedSlice S13 ![16] T slices_S32_S13_16))))
      (broadcastInDim S13x10192 ![0, 1] bcast_S1x10192_S13x10192_0_1 (broadcastInDim S1x10192 ![1] bcast_S10192_S1x10192_1 (iotaInDim S10192 32 0))))
    (cmpi .slt (broadcastInDim S13x10192 ![0, 1] bcast_S1x10192_S13x10192_0_1 (broadcastInDim S1x10192 ![1] bcast_S10192_S1x10192_1 (iotaInDim S10192 32 0)))
      (broadcastInDim S13x10192 ![0, 1] bcast_S13x1_S13x10192_0_1 (muli (broadcastInDim S13x1 ![] bcast_S_S13x1 (constantI S_ 32 16#32)) (broadcastInDim S13x1 ![0] bcast_S13_S13x1_0 (extractStridedSlice S13 ![17] T slices_S32_S13_17)))))

/-- The lines after the decoding, as one term. -/
def tailT (v0 : FVec F S2x10192x96x128 .bf16) (v1 : FVec F S2x10192x64x128 .bf16) (S : IVec S2x10192x128 32) (T : IVec S32 32) : FVec F S13x160x160 .f32 :=
  transpose S13x160x160 [0, 2, 1]
    (Host.dotGeneral dot_S13x10192x160x128_S10192x160x128_S13x160x160_13_02_02_1_n_n none
      (select (broadcastInDim S13x10192x160x128 ![0, 1, 2, 3] bcast_S13x10192x1x1_S13x10192x160x128_0_1_2_3 (broadcastInDim S13x10192x1x1 ![0, 1] bcast_S13x10192_S13x10192x1x1_0_1 (vm T)))
        (broadcastInDim S13x10192x160x128 ![0, 1, 2, 3] bcast_S1x10192x160x128_S13x10192x160x128_0_1_2_3 (broadcastInDim S1x10192x160x128 ![1, 2, 3] bcast_S10192x160x128_S1x10192x160x128_1_2_3
          (shapeCast S10192x160x128 (extractStridedSlice S1x10192x160x128 ![1, 0, 0, 0] (zr v0 v1 S) slices_S2x10192x160x128_S1x10192x160x128_1_0_0_0) shapeCasts_S1x10192x160x128_S10192x160x128)))
        (broadcastInDim S13x10192x160x128 ![] bcast_S_S13x10192x160x128 (constant S_ .bf16 0x0000#16)))
      (shapeCast S10192x160x128 (extractStridedSlice S1x10192x160x128 ![0, 0, 0, 0] (zr v0 v1 S) slices_S2x10192x160x128_S1x10192x160x128_0_0_0_0) shapeCasts_S1x10192x160x128_S10192x160x128))
    transposes_S13x160x160_S13x160x160_0_2_1

set_option maxHeartbeats 4000000 in
/-- The lines after the decoding leave that term in the result. -/
theorem tail_eq (W : Valuation τ sig (Elt F)) :
    StableHlo.after (List.flatten [hostOps1, hostOps1_1, hostOps1_2]) W (Proc.devRef .tc main_v41)
      = tailT (W (Proc.devRef .tc main_v0_0)) (W (Proc.devRef .tc main_v0_1)) (W (Proc.devRef .tc main_arg1)) (W (Proc.devRef .tc main_arg2)) := by
  simp only [List.flatten_cons, List.flatten_nil, List.append_nil, List.cons_append, List.nil_append]
  after_results
  rfl

/-! ## The first batch's term of the turned bounds -/

theorem vm_turn (T : IVec S32 32) : vm T = Cert.ReferenceIdeal.Val.vm (Cert.Val.turn T) := by
  have e0 := Cert.Val.slice_turn (n := 13) T 0 (by decide) slices_S32_S13_16 Cert.ReferenceIdeal.Gen.slices_S32_S13_0
  have e1 := Cert.Val.slice_turn (n := 13) T 1 (by decide) slices_S32_S13_17 Cert.ReferenceIdeal.Gen.slices_S32_S13_1
  unfold vm Cert.ReferenceIdeal.Val.vm
  rw [show extractStridedSlice S13 ![16] T slices_S32_S13_16 = _ from e0, show extractStridedSlice S13 ![17] T slices_S32_S13_17 = _ from e1]

/-- The second batch's lines after the decoding are the first batch's at the turned bounds. -/
theorem tail_turn (v0 : FVec F S2x10192x96x128 .bf16) (v1 : FVec F S2x10192x64x128 .bf16) (S : IVec S2x10192x128 32) (T : IVec S32 32) :
    tailT v0 v1 S T = Cert.ReferenceIdeal.Val.tailT v0 v1 S (Cert.Val.turn T) := by
  unfold tailT Cert.ReferenceIdeal.Val.tailT
  rw [vm_turn]
  rfl

end Cert.Reference1Ideal.Val

end
-- ==== Proof.SecondRefVal.lean ====
module

public import proofs.«01_k».proof.Proof.SecondRefTail
public import Idealize.ShloMosaic.Lib.Pipeline.ValueKit.Geometry

@[expose] public section

set_option maxRecDepth 16384
set_option Elab.async false

noncomputable section

namespace Cert.Reference1Ideal.Val

open Cert.Reference1Ideal Cert.Reference1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second batch's result: over every chunk range, the products of the two sides' values. -/
theorem tail_G (X : IVec S2x10192x40x128 32) (S : IVec S2x10192x128 32) (T : IVec S32 32) (B : Fin 14 → BitVec 32)
    (hT : ∀ k : Fin 14, Cert.Val.turn T (ix1 (⟨k.val, by omega⟩ : Fin 32)) = B k) (hB : ∀ k, (B k).toNat ≤ 637) (k : Fin 13) (i j : Fin 160) :
    tailT (F := Ideal) (out0_1 (F := Ideal) X) (out0_2 (F := Ideal) X) S T (ix3 k i j) = Cert.Val.G X S B k i j := by
  have e1 : out0_1 (F := Ideal) X = Cert.ReferenceIdeal.Gen.out0_1 (F := Ideal) X := rfl
  have e2 : out0_2 (F := Ideal) X = Cert.ReferenceIdeal.Gen.out0_2 (F := Ideal) X := rfl
  rw [tail_turn, e1, e2]
  exact Cert.ReferenceIdeal.Val.tail_G X S (Cert.Val.turn T) B hT hB k i j

/-! ## The run -/

section Run

variable {F : FTy → Type} [FloatOps F] (m : (ℓ : Loc nD τ sig) → Buf (Elt F) ℓ) (ρ : Dev nD → PrngReg)

/-- A block's index is the array's: each window is its whole array. -/
theorem emb0_0 (t : Fin cfg0.N) (i : S2x10192x40x128.Idx) : (win0_0.blk t).view.emb i = i := by
  funext a
  apply Fin.ext
  show 0 * _ + 1 * (i a).val = (i a).val
  rw [Nat.zero_mul, Nat.zero_add, Nat.one_mul]
theorem emb0_1 (t : Fin cfg0.N) (i : S2x10192x96x128.Idx) : (win0_1.blk t).view.emb i = i := by
  funext a
  apply Fin.ext
  show 0 * _ + 1 * (i a).val = (i a).val
  rw [Nat.zero_mul, Nat.zero_add, Nat.one_mul]
theorem emb0_2 (t : Fin cfg0.N) (i : S2x10192x64x128.Idx) : (win0_2.blk t).view.emb i = i := by
  funext a
  apply Fin.ext
  show 0 * _ + 1 * (i a).val = (i a).val
  rw [Nat.zero_mul, Nat.zero_add, Nat.one_mul]

theorem iblk0_eq (c : Dev nD) (t : Fin cfg0.N) : iblk m c 0 t = m ((c : Thread nD τ).loc main_arg0) := by
  funext i
  show V m c main_arg0 ((win0_0.blk t).view.emb i) = _
  rw [emb0_0]
  rfl

theorem flushed1_eq (c : Dev nD) (t : Fin cfg0.N) :
    (dats m 0 c).flushed 1 t = ((cfg0.win 1).blk t).view.read (Elt F) (out0_1 (m ((c : Thread nD τ).loc main_arg0))) := by
  have e : (dats m 0 c).after 1 t = out0_1 (m ((c : Thread nD τ).loc main_arg0)) := by rw [after0_1, iblk0_eq]
  generalize out0_1 (m ((c : Thread nD τ).loc main_arg0)) = X at e ⊢
  unfold Pipeline.Dat.flushed
  rw [e]
  funext y
  show X y = X ((win0_1.blk t).view.emb y)
  rw [emb0_1]

theorem covered1 (i : S2x10192x96x128.Idx) : ∃ t : Fin cfg0.N, (cfg0.win 1).flush t = true ∧ i ∈ ((cfg0.win 1).blk t).view.set :=
  ⟨(⟨0, by decide⟩ : Fin cfg0.N), flush0_1 _, by
    have h := (win0_1.blk (⟨0, by decide⟩ : Fin cfg0.N)).view.emb_mem_set i
    rw [emb0_1] at h
    exact h⟩

theorem arr1 (c : Dev nD) : (dats m 0 c).arrAt 1 cfg0.N = out0_1 (m ((c : Thread nD τ).loc main_arg0)) :=
  (dats m 0 c).arrAt_eq_of_cover 1 _ (fun t _ => flushed1_eq m c t) covered1

theorem flushed2_eq (c : Dev nD) (t : Fin cfg0.N) :
    (dats m 0 c).flushed 2 t = ((cfg0.win 2).blk t).view.read (Elt F) (out0_2 (m ((c : Thread nD τ).loc main_arg0))) := by
  have e : (dats m 0 c).after 2 t = out0_2 (m ((c : Thread nD τ).loc main_arg0)) := by rw [after0_2, iblk0_eq]
  generalize out0_2 (m ((c : Thread nD τ).loc main_arg0)) = X at e ⊢
  unfold Pipeline.Dat.flushed
  rw [e]
  funext y
  show X y = X ((win0_2.blk t).view.emb y)
  rw [emb0_2]

theorem covered2 (i : S2x10192x64x128.Idx) : ∃ t : Fin cfg0.N, (cfg0.win 2).flush t = true ∧ i ∈ ((cfg0.win 2).blk t).view.set :=
  ⟨(⟨0, by decide⟩ : Fin cfg0.N), flush0_2 _, by
    have h := (win0_2.blk (⟨0, by decide⟩ : Fin cfg0.N)).view.emb_mem_set i
    rw [emb0_2] at h
    exact h⟩

theorem arr2 (c : Dev nD) : (dats m 0 c).arrAt 2 cfg0.N = out0_2 (m ((c : Thread nD τ).loc main_arg0)) :=
  (dats m 0 c).arrAt_eq_of_cover 2 _ (fun t _ => flushed2_eq m c t) covered2

/-- What the reference leaves in its result. -/
def res (c : Dev nD) : Buf (Elt F) ((c : Thread nD τ).loc main_v41) :=
  tailT (out0_1 (m ((c : Thread nD τ).loc main_arg0))) (out0_2 (m ((c : Thread nD τ).loc main_arg0)))
    (m ((c : Thread nD τ).loc main_arg1)) (m ((c : Thread nD τ).loc main_arg2))

theorem after_res (c : Dev nD) :
    Pipeline.afterTail₀ cfgs (dats m) 0 (V0 m) [hostOps1, hostOps1_1, hostOps1_2] c main_v41 = res m c := by
  unfold Pipeline.afterTail₀ res
  rw [tail_eq]
  have h1 := Pipeline.withArrays_arr spec0 (by decide) c (V0 m c) (fun w => (dats m 0 c).arrAt w cfg0.N) 1
  have h2 := Pipeline.withArrays_arr spec0 (by decide) c (V0 m c) (fun w => (dats m 0 c).arrAt w cfg0.N) 2
  have h3 := Pipeline.withArrays_of_ne spec0 c (V0 m c) (fun w => (dats m 0 c).arrAt w cfg0.N) main_arg1 (by exact (by decide : ∀ w, Pipeline.arrRef spec0 w ≠ main_arg1))
  have h4 := Pipeline.withArrays_of_ne spec0 c (V0 m c) (fun w => (dats m 0 c).arrAt w cfg0.N) main_arg2 (by exact (by decide : ∀ w, Pipeline.arrRef spec0 w ≠ main_arg2))
  rw [arr1] at h1
  rw [arr2] at h2
  exact congr (congr (congr (congrArg tailT h1) h2) (h3.trans (V_main_arg1 m c))) (h4.trans (V_main_arg2 m c))

/-- The reference terminates with its arguments unchanged and its result at that value. -/
theorem value : θ_run (defs (F := F)) (onTc (τ := τ) (main (F := F))) ⟨m, fun _ => 0, ρ⟩ (fun r => ∀ c : Dev nD,
      r.2.mem ((c : Thread nD τ).loc main_v41) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨((h.1 c).2 main_v41 (Pipeline.mem_restRefs_of main_v41 (by decide) (by decide))).trans (after_res m c), h.2 c⟩)
    (θ_run_and (run_main m ρ) (unchanged m ρ))

end Run

end Cert.Reference1Ideal.Val

end
-- ==== Proof.Table.lean ====
/- The words the call packs: for each voxel, the bytes of its codes four to a word, and its two scales rounded to sixteen
   bits in one word. The kernel packs blocks of 4096 voxels already transposed; the reference packs each voxel's row of
   bytes and transposes the result. -/
module

public import proofs.«01_k».proof.Proof.Gen.Kernel2.Value
public import proofs.«01_k».proof.Proof.Gen.Reference2.Value
public import proofs.«01_k».proof.Proof.Words
public import Idealize.ShloMosaic.Lib.BitcastFour
public import Idealize.ShloMosaic.Lib.WritesUnit
public import Idealize.ShloMosaic.Lib.VecWindow
public import Idealize.ShloMosaic.Lib.ValueLayout
public import Idealize.ShloMosaic.Lib.IdealHost

@[expose] public section

set_option maxRecDepth 16384
set_option Elab.async false

noncomputable section

/-! ## The reference's words -/

namespace Cert.Reference2.Val

open Cert.Reference2 Cert.Reference2.Gen
open Idealize.ShloMosaic Idealize.ShloMosaic.TcCoe Idealize.ShloMosaic.Tactic
open Idealize.SL.Sem

variable {F : FTy → Type} [BitOps F]

/-- The bytes of a voxel's row: the input channels' codes, then the gradient channels'. -/
def row (x : IVec S196608x96 8) (y : IVec S196608x64 8) : IVec S196608x160 8 :=
  concatenate S196608x160 1 [⟨S196608x96, x⟩, ⟨S196608x64, y⟩] concatenates_S196608x96_S196608x64_S196608x160_d1

theorem row_apply (x : IVec S196608x96 8) (y : IVec S196608x64 8) (n : Fin 196608) (i : Fin 160) :
    row x y (ix2 n i) = if h : i.val < 96 then x (ix2 n (⟨i.val, h⟩ : Fin 96)) else y (ix2 n (⟨i.val - 96, by omega⟩ : Fin 64)) := by
  unfold row
  pointwise

/-- The packing of the rows into words, one voxel a column. -/
def pack (z : IVec S196608x160 8) : IVec S40x196608 32 :=
  have v5 : IVec S196608x160 32 := extui 32 z natLt_8_32
  have v6 : IVec S196608x40x4 32 := shapeCast S196608x40x4 v5 shapeCasts_S196608x160_S196608x40x4
  transpose S40x196608 [1, 0]
    (ori (ori (ori (shapeCast S196608x40 (extractStridedSlice S196608x40x1 ![0, 0, 0] v6 slices_S196608x40x4_o0_0_0_S196608x40x1) shapeCasts_S196608x40x1_S196608x40)
      (shli (shapeCast S196608x40 (extractStridedSlice S196608x40x1 ![0, 0, 1] v6 slices_S196608x40x4_o0_0_1_S196608x40x1) shapeCasts_S196608x40x1_S196608x40) (broadcast S196608x40 8#32)))
      (shli (shapeCast S196608x40 (extractStridedSlice S196608x40x1 ![0, 0, 2] v6 slices_S196608x40x4_o0_0_2_S196608x40x1) shapeCasts_S196608x40x1_S196608x40) (broadcast S196608x40 16#32)))
      (shli (shapeCast S196608x40 (extractStridedSlice S196608x40x1 ![0, 0, 3] v6 slices_S196608x40x4_o0_0_3_S196608x40x1) shapeCasts_S196608x40x1_S196608x40) (broadcast S196608x40 24#32)))
    transposes_S196608x40_p1_0_S40x196608

/-- The reference's table is the packing of its rows of bytes. -/
theorem table_eq (a0 : Vec F S196608x96 .fp8e4m3) (a1 : Vec F S196608x64 .fp8e5m2) :
    k0_pay1 a0 a1 = pack (row (bitcastToInt (F := F) (φ := .fp8e4m3) a0) (bitcastToInt (F := F) (φ := .fp8e5m2) a1)) := rfl

theorem shl8 (u : ArithUnit) (x : BitVec 32) : IntOp.shli u x 8#32 = x <<< 8 := if_pos (by decide)
theorem shl16 (u : ArithUnit) (x : BitVec 32) : IntOp.shli u x 16#32 = x <<< 16 := if_pos (by decide)
theorem shl24 (u : ArithUnit) (x : BitVec 32) : IntOp.shli u x 24#32 = x <<< 24 := if_pos (by decide)

/-- Byte `k` of word `r` of a row, widened. -/
theorem byte_apply (z : IVec S196608x160 8) (off : Fin 3 → ℕ) (h : S196608x40x4.Slices off S196608x40x1) (k : Fin 4) (hk : off = ![0, 0, k.val])
    (n : Fin 196608) (r : Fin 40) :
    shapeCast S196608x40 (extractStridedSlice S196608x40x1 off (shapeCast S196608x40x4 (extui 32 z natLt_8_32) shapeCasts_S196608x160_S196608x40x4) h) shapeCasts_S196608x40x1_S196608x40 (ix2 n r)
      = (z (ix2 n (⟨4 * r.val + k.val, by omega⟩ : Fin 160))).setWidth 32 := by
  subst hk
  refine (shapeCast_apply _ _ _ (ix3 n r (0 : Fin 1)) ?_).trans ?_
  · rw [Shape.rowMajor_val_two, Shape.rowMajor_val_three]
    show (n.val * 40 + r.val) * 1 + 0 = n.val * 40 + r.val
    omega
  refine (shapeCast_apply _ _ _ (ix2 n (⟨4 * r.val + k.val, by omega⟩ : Fin 160)) ?_).trans rfl
  rw [Shape.rowMajor_val_two, Shape.rowMajor_val_three]
  show n.val * 160 + (4 * r.val + k.val) = ((0 + n.val) * 40 + (0 + r.val)) * 4 + (k.val + 0)
  omega

/-- Word `r` of a voxel is its bytes `4r` to `4r + 3`, the first the lowest. -/
theorem pack_apply (z : IVec S196608x160 8) (r : Fin 40) (n : Fin 196608) :
    pack z (ix2 r n) = (z (ix2 n (⟨4 * r.val + 0, by omega⟩ : Fin 160))).setWidth 32
      ||| (z (ix2 n (⟨4 * r.val + 1, by omega⟩ : Fin 160))).setWidth 32 <<< 8
      ||| (z (ix2 n (⟨4 * r.val + 2, by omega⟩ : Fin 160))).setWidth 32 <<< 16
      ||| (z (ix2 n (⟨4 * r.val + 3, by omega⟩ : Fin 160))).setWidth 32 <<< 24 := by
  have e0 := byte_apply z _ slices_S196608x40x4_o0_0_0_S196608x40x1 0 rfl n r
  have e1 := byte_apply z _ slices_S196608x40x4_o0_0_1_S196608x40x1 1 rfl n r
  have e2 := byte_apply z _ slices_S196608x40x4_o0_0_2_S196608x40x1 2 rfl n r
  have e3 := byte_apply z _ slices_S196608x40x4_o0_0_3_S196608x40x1 3 rfl n r
  unfold pack
  refine (transpose_apply _ _ _ _ (ix2 n r) (fun c => match c with | ⟨0, _⟩ => rfl | ⟨1, _⟩ => rfl)).trans ?_
  have join : ∀ a b c d a' b' c' d' : BitVec 32, a = a' → b = b' → c = c' → d = d' →
      a ||| IntOp.shli .vector b 8#32 ||| IntOp.shli .vector c 16#32 ||| IntOp.shli .vector d 24#32 = a' ||| b' <<< 8 ||| c' <<< 16 ||| d' <<< 24 := by
    intro a b c d a' b' c' d' h0 h1 h2 h3
    rw [h0, h1, h2, h3, shl8, shl16, shl24]
  exact join _ _ _ _ _ _ _ _ e0 e1 e2 e3

/-- Bit `q` of that word. -/
theorem pack_bit (z : IVec S196608x160 8) (r : Fin 40) (n : Fin 196608) (q : ℕ) (hq : q < 32) :
    (pack z (ix2 r n)).getLsbD q = (z (ix2 n (⟨4 * r.val + q / 8, by omega⟩ : Fin 160))).getLsbD (q % 8) := by
  rw [pack_apply]
  exact four_bytes_getLsbD (fun k => z (ix2 n (⟨4 * r.val + k.val, by omega⟩ : Fin 160))) q hq

/-- The scale words as one term of the scales. -/
def scl (a1 a3 : Vec F S196608 .f32) : IVec S1x196608 32 :=
  shapeCast S1x196608 (ori (Host.shrui (bitcastToInt (extf .f32 (truncf .bf16 (a1 : FVec F S196608 .f32) bitsLt_bf16_f32) bitsLt_bf16_f32))
      (broadcastInDim S196608 ![] bcast_S_S196608 (constantI S_ 32 16#32)))
    (bitcastToInt (extf .f32 (truncf .bf16 (a3 : FVec F S196608 .f32) bitsLt_bf16_f32) bitsLt_bf16_f32))) shapeCasts_S196608_S1x196608

/-- A voxel's scale word: the sixteen high bits of its input scale below those of its gradient scale, each rounded to
    sixteen bits. -/
theorem scl_apply (a1 a3 : Vec F S196608 .f32) (n : Fin 196608) :
    scl a1 a3 (ix2 0 n) = IntOp.ori (IntOp.shrui .host (BitOps.toBits (extf .f32 (truncf .bf16 (a1 : FVec F S196608 .f32) bitsLt_bf16_f32) bitsLt_bf16_f32 (ix1 n))) 16#32)
      (BitOps.toBits (extf .f32 (truncf .bf16 (a3 : FVec F S196608 .f32) bitsLt_bf16_f32) bitsLt_bf16_f32 (ix1 n))) := by
  unfold scl
  refine (shapeCast_apply _ _ _ (ix1 n) ?_).trans rfl
  rw [Shape.rowMajor_val_two, Shape.rowMajor_val_one]
  show n.val = 0 * 196608 + n.val
  omega

variable (m : (ℓ : Loc nD τ sig) → Buf (Elt F) ℓ) (ρ : Dev nD → PrngReg)

theorem V_v10 (c : Dev nD) : V m c main_v10 = scl (m ((c.tc : Thread nD τ).loc main_arg1)) (m ((c.tc : Thread nD τ).loc main_arg3)) := by
  unfold V; after_results; rfl

/-- The reference terminates with its arguments unchanged and its two results at those values. -/
theorem value : θ_run (defs (F := F)) (onTc (τ := τ) (main (F := F))) ⟨m, fun _ => 0, ρ⟩ (fun r => ∀ c : Dev nD,
      r.2.mem ((c.tc : Thread nD τ).loc main_v11) = k0_pay1 (m ((c.tc : Thread nD τ).loc main_arg0)) (m ((c.tc : Thread nD τ).loc main_arg2))
      ∧ r.2.mem ((c.tc : Thread nD τ).loc main_v10) = scl (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.2 c).1,
      ((h.1 c).2 main_v10 (Pipeline.mem_restRefs_of main_v10 (by decide) (by decide))).trans (V_v10 m c), (h.2 c).2⟩)
    (θ_run_and (run_main m ρ) (Cert.Reference2.Value.run m ρ))

end Cert.Reference2.Val

/-! ## The kernel's words -/

namespace Cert.Kernel2.Val

open Cert.Kernel2 Cert.Kernel2.Gen Cert.Kernel2.Value
open Idealize.ShloMosaic Idealize.ShloMosaic.TcCoe Idealize.ShloMosaic.Tactic
open Idealize.SL.Sem
open Idealize.ShloMosaic.Pipeline (Dat)

variable {F : FTy → Type} [BitOps F]
variable (m : (ℓ : Loc nD τ sig) → Buf (Elt F) ℓ) (ρ : Dev nD → PrngReg)

/-- What a block of the table is left with: the words of the input channels' codes, then those of the gradient channels'. -/
def tile (x0 : Vec F S96x4096 .fp8e4m3) (x1 : Vec F S64x4096 .fp8e5m2) : Vec F S40x4096 .i32 := fun y =>
  if h : (y (0 : Fin 2)).val < 24 then k0_pay5 x0 (ix2 (⟨(y (0 : Fin 2)).val, h⟩ : Fin 24) (y (1 : Fin 2)))
  else k0_pay6 x1 (ix2 (⟨(y (0 : Fin 2)).val - 24, by have : (y (0 : Fin 2)).val < 40 := (y (0 : Fin 2)).isLt; omega⟩ : Fin 16) (y (1 : Fin 2)))

/-- The two stores of a block leave `tile`. -/
theorem read_tile (v : View sig .tc .vmem S40x4096 .i32) (f : v.ty.Contents (Elt F)) (x0 z0 : Vec F S96x4096 .fp8e4m3) (x1 z1 : Vec F S64x4096 .fp8e5m2)
    (h0 : z0 = x0) (h1 : z1 = x1) :
    v.read (Elt F) (v.writes (Elt F) f
      [⟨Rect.unit (s := S40x4096) ![24, 0] S16x4096.size inb_S40x4096_S16x4096_24_0, k0_pay6 z1⟩,
       ⟨Rect.unit (s := S40x4096) ![0, 0] S24x4096.size inb_S40x4096_S24x4096_0_0, k0_pay5 z0⟩]) = tile x0 x1 := by
  subst h0 h1
  funext y
  have hy : (y (0 : Fin 2)).val < 40 := (y (0 : Fin 2)).isLt
  unfold tile
  split
  next h =>
    rw [View.read_writes_cons_rows_of_not_mem (o := 24) (W := 16) v f _ _ _ y rfl rfl (Or.inl h)]
    exact View.read_writes_cons_rows_of_mem (o := 0) v f _ _ _ y _ rfl (Nat.zero_add _).symm rfl
  next h =>
    exact View.read_writes_cons_rows_of_mem (o := 24) v f _ _ _ y _ rfl (show _ = 24 + ((y (0 : Fin 2)).val - 24) by omega) rfl

/-- Both cases leave `tile` in the table's block. -/
theorem outA4 (c : Dev nD) (i : grid0.Coords) (arg1 : Memref sig .tc .vmem S96x4096 .fp8e4m3) (harg1 : arg1.IsWhole) (arg2 : Memref sig .tc .vmem S64x4096 .fp8e5m2) (harg2 : arg2.IsWhole) (arg3 : Memref sig .tc .vmem S1x4096 .f32) (harg3 : arg3.IsWhole) (arg4 : Memref sig .tc .vmem S1x4096 .f32) (harg4 : arg4.IsWhole) (arg5 : Memref sig .tc .vmem S40x4096 .i32) (harg5 : arg5.IsWhole) (arg6 : Memref sig .tc .vmem S1x4096 .i32) (harg6 : arg6.IsWhole) (arg7 : Memref sig .tc .vmem S96x64 .f32) (harg7 : arg7.IsWhole) (hc0 : cond0_0 i)
    (x0 : Vec F S96x4096 .fp8e4m3) (x1 : Vec F S64x4096 .fp8e5m2) (x2 : Vec F S1x4096 .f32) (x3 : Vec F S1x4096 .f32) :
    out0_A_4 c i arg1 harg1 arg2 harg2 arg3 harg3 arg4 harg4 arg5 harg5 arg6 harg6 arg7 harg7 hc0 x0 x1 x2 x3 = tile x0 x1 :=
  read_tile VO0_4 VO0_4.junk x0 _ x1 _ (View.readAt_full .. |>.trans (harg1.read_unread x0)) (View.readAt_full .. |>.trans (harg2.read_unread x1))

theorem outB4 (c : Dev nD) (i : grid0.Coords) (arg1 : Memref sig .tc .vmem S96x4096 .fp8e4m3) (harg1 : arg1.IsWhole) (arg2 : Memref sig .tc .vmem S64x4096 .fp8e5m2) (harg2 : arg2.IsWhole) (arg3 : Memref sig .tc .vmem S1x4096 .f32) (harg3 : arg3.IsWhole) (arg4 : Memref sig .tc .vmem S1x4096 .f32) (harg4 : arg4.IsWhole) (arg5 : Memref sig .tc .vmem S40x4096 .i32) (harg5 : arg5.IsWhole) (arg6 : Memref sig .tc .vmem S1x4096 .i32) (harg6 : arg6.IsWhole) (arg7 : Memref sig .tc .vmem S96x64 .f32) (harg7 : arg7.IsWhole) (hc0 : ¬cond0_0 i)
    (x0 : Vec F S96x4096 .fp8e4m3) (x1 : Vec F S64x4096 .fp8e5m2) (x2 : Vec F S1x4096 .f32) (x3 : Vec F S1x4096 .f32) (xo6 : Vec F S96x64 .f32) :
    out0_B_4 c i arg1 harg1 arg2 harg2 arg3 harg3 arg4 harg4 arg5 harg5 arg6 harg6 arg7 harg7 hc0 x0 x1 x2 x3 xo6 = tile x0 x1 :=
  read_tile VO0_4 VO0_4.junk x0 _ x1 _ (View.readAt_full .. |>.trans (harg1.read_unread x0)) (View.readAt_full .. |>.trans (harg2.read_unread x1))

/-- Both cases leave the scale words' block. -/
theorem outA5 (c : Dev nD) (i : grid0.Coords) (arg1 : Memref sig .tc .vmem S96x4096 .fp8e4m3) (harg1 : arg1.IsWhole) (arg2 : Memref sig .tc .vmem S64x4096 .fp8e5m2) (harg2 : arg2.IsWhole) (arg3 : Memref sig .tc .vmem S1x4096 .f32) (harg3 : arg3.IsWhole) (arg4 : Memref sig .tc .vmem S1x4096 .f32) (harg4 : arg4.IsWhole) (arg5 : Memref sig .tc .vmem S40x4096 .i32) (harg5 : arg5.IsWhole) (arg6 : Memref sig .tc .vmem S1x4096 .i32) (harg6 : arg6.IsWhole) (arg7 : Memref sig .tc .vmem S96x64 .f32) (harg7 : arg7.IsWhole) (hc0 : cond0_0 i)
    (x0 : Vec F S96x4096 .fp8e4m3) (x1 : Vec F S64x4096 .fp8e5m2) (x2 : Vec F S1x4096 .f32) (x3 : Vec F S1x4096 .f32) :
    out0_A_5 c i arg1 harg1 arg2 harg2 arg3 harg3 arg4 harg4 arg5 harg5 arg6 harg6 arg7 harg7 hc0 x0 x1 x2 x3 = k0_pay7 x2 x3 :=
  (View.read_writes_full VO0_5 VO0_5.junk inb_S1x4096_S1x4096_0_0 _ _).trans
    (congr (congrArg k0_pay7 ((View.readAt_full ..).trans (harg3.read_unread x2))) ((View.readAt_full ..).trans (harg4.read_unread x3)))

theorem outB5 (c : Dev nD) (i : grid0.Coords) (arg1 : Memref sig .tc .vmem S96x4096 .fp8e4m3) (harg1 : arg1.IsWhole) (arg2 : Memref sig .tc .vmem S64x4096 .fp8e5m2) (harg2 : arg2.IsWhole) (arg3 : Memref sig .tc .vmem S1x4096 .f32) (harg3 : arg3.IsWhole) (arg4 : Memref sig .tc .vmem S1x4096 .f32) (harg4 : arg4.IsWhole) (arg5 : Memref sig .tc .vmem S40x4096 .i32) (harg5 : arg5.IsWhole) (arg6 : Memref sig .tc .vmem S1x4096 .i32) (harg6 : arg6.IsWhole) (arg7 : Memref sig .tc .vmem S96x64 .f32) (harg7 : arg7.IsWhole) (hc0 : ¬cond0_0 i)
    (x0 : Vec F S96x4096 .fp8e4m3) (x1 : Vec F S64x4096 .fp8e5m2) (x2 : Vec F S1x4096 .f32) (x3 : Vec F S1x4096 .f32) (xo6 : Vec F S96x64 .f32) :
    out0_B_5 c i arg1 harg1 arg2 harg2 arg3 harg3 arg4 harg4 arg5 harg5 arg6 harg6 arg7 harg7 hc0 x0 x1 x2 x3 xo6 = k0_pay7 x2 x3 :=
  (View.read_writes_full VO0_5 VO0_5.junk inb_S1x4096_S1x4096_0_0 _ _).trans
    (congr (congrArg k0_pay7 ((View.readAt_full ..).trans (harg3.read_unread x2))) ((View.readAt_full ..).trans (harg4.read_unread x3)))

/-- What point `t` writes back to the table. -/
theorem flushed4_eq (c : Dev nD) (t : Fin cfg0.N) :
    (dats m 0 c).flushed 4 t = (cfg0.win 4).cut (grid0.coords t) (tile (iblk m c 0 t) (iblk m c 1 t)) := by
  by_cases h : t.val % 48 = 0
  · rw [flushed4_A m c t h, outA4]
  · rw [flushed4_B m c t h, outB4]

/-- What point `t` writes back to the scale words. -/
theorem flushed5_eq (c : Dev nD) (t : Fin cfg0.N) :
    (dats m 0 c).flushed 5 t = (cfg0.win 5).cut (grid0.coords t) (k0_pay7 (iblk m c 2 t) (iblk m c 3 t)) := by
  by_cases h : t.val % 48 = 0
  · rw [flushed5_A m c t h, outA5]
  · rw [flushed5_B m c t h, outB5]

/-! ### The host's lines before the call -/

theorem V_v0 (c : Dev nD) : V m c main_v0 = transpose S96x196608 [1, 0] (m ((c.tc : Thread nD τ).loc main_arg0)) transposes_S196608x96_S96x196608_1_0 := by
  unfold V; after_results
theorem V_v1 (c : Dev nD) : V m c main_v1 = transpose S64x196608 [1, 0] (m ((c.tc : Thread nD τ).loc main_arg2)) transposes_S196608x64_S64x196608_1_0 := by
  unfold V; after_results
theorem V_v2 (c : Dev nD) : V m c main_v2 = shapeCast S1x196608 (m ((c.tc : Thread nD τ).loc main_arg1)) shapeCasts_S196608_S1x196608 := by
  unfold V; after_results; rfl
theorem V_v3 (c : Dev nD) : V m c main_v3 = shapeCast S1x196608 (m ((c.tc : Thread nD τ).loc main_arg3)) shapeCasts_S196608_S1x196608 := by
  unfold V; after_results; rfl

/-! ### The windows' blocks in their arrays -/

theorem idx0 : ∀ t : Fin cfg0.N, win0_0.index t (0 : Fin 2) = 0 ∧ win0_0.index t (1 : Fin 2) = t.val := (by decide +kernel : ∀ t : Fin grid0.N, _)
theorem idx1 : ∀ t : Fin cfg0.N, win0_1.index t (0 : Fin 2) = 0 ∧ win0_1.index t (1 : Fin 2) = t.val := (by decide +kernel : ∀ t : Fin grid0.N, _)
theorem idx2 : ∀ t : Fin cfg0.N, win0_2.index t (0 : Fin 2) = 0 ∧ win0_2.index t (1 : Fin 2) = t.val := (by decide +kernel : ∀ t : Fin grid0.N, _)
theorem idx3 : ∀ t : Fin cfg0.N, win0_3.index t (0 : Fin 2) = 0 ∧ win0_3.index t (1 : Fin 2) = t.val := (by decide +kernel : ∀ t : Fin grid0.N, _)
theorem idx4 : ∀ t : Fin cfg0.N, win0_4.index t (0 : Fin 2) = 0 ∧ win0_4.index t (1 : Fin 2) = t.val := (by decide +kernel : ∀ t : Fin grid0.N, _)
theorem idx5 : ∀ t : Fin cfg0.N, win0_5.index t (0 : Fin 2) = 0 ∧ win0_5.index t (1 : Fin 2) = t.val := (by decide +kernel : ∀ t : Fin grid0.N, _)

theorem t_lt (t : Fin cfg0.N) : t.val < 48 := lt_of_lt_of_eq t.isLt (by decide : cfg0.N = 48)

/-- The voxel of lane `l` of point `t`. -/
def vox (t : Fin cfg0.N) (l : Fin 4096) : Fin 196608 := ⟨t.val * 4096 + l.val, by have := t_lt t; omega⟩

theorem emb0 (t : Fin cfg0.N) (i : Fin 96) (l : Fin 4096) : ((cfg0.win 0).blk t).view.emb (ix2 i l) = ix2 i (vox t l) := by
  obtain ⟨e0, e1⟩ := idx0 t
  funext a; apply Fin.ext
  match a with
  | ⟨0, _⟩ => show win0_0.index t (0 : Fin 2) * 96 + 1 * i.val = i.val; omega
  | ⟨1, _⟩ => show win0_0.index t (1 : Fin 2) * 4096 + 1 * l.val = t.val * 4096 + l.val; omega
theorem emb1 (t : Fin cfg0.N) (i : Fin 64) (l : Fin 4096) : ((cfg0.win 1).blk t).view.emb (ix2 i l) = ix2 i (vox t l) := by
  obtain ⟨e0, e1⟩ := idx1 t
  funext a; apply Fin.ext
  match a with
  | ⟨0, _⟩ => show win0_1.index t (0 : Fin 2) * 64 + 1 * i.val = i.val; omega
  | ⟨1, _⟩ => show win0_1.index t (1 : Fin 2) * 4096 + 1 * l.val = t.val * 4096 + l.val; omega
theorem emb2 (t : Fin cfg0.N) (i : Fin 1) (l : Fin 4096) : ((cfg0.win 2).blk t).view.emb (ix2 i l) = ix2 i (vox t l) := by
  obtain ⟨e0, e1⟩ := idx2 t
  funext a; apply Fin.ext
  match a with
  | ⟨0, _⟩ => show win0_2.index t (0 : Fin 2) * 1 + 1 * i.val = i.val; omega
  | ⟨1, _⟩ => show win0_2.index t (1 : Fin 2) * 4096 + 1 * l.val = t.val * 4096 + l.val; omega
theorem emb3 (t : Fin cfg0.N) (i : Fin 1) (l : Fin 4096) : ((cfg0.win 3).blk t).view.emb (ix2 i l) = ix2 i (vox t l) := by
  obtain ⟨e0, e1⟩ := idx3 t
  funext a; apply Fin.ext
  match a with
  | ⟨0, _⟩ => show win0_3.index t (0 : Fin 2) * 1 + 1 * i.val = i.val; omega
  | ⟨1, _⟩ => show win0_3.index t (1 : Fin 2) * 4096 + 1 * l.val = t.val * 4096 + l.val; omega
theorem emb4 (t : Fin cfg0.N) (i : Fin 40) (l : Fin 4096) : ((cfg0.win 4).blk t).view.emb (ix2 i l) = ix2 i (vox t l) := by
  obtain ⟨e0, e1⟩ := idx4 t
  funext a; apply Fin.ext
  match a with
  | ⟨0, _⟩ => show win0_4.index t (0 : Fin 2) * 40 + 1 * i.val = i.val; omega
  | ⟨1, _⟩ => show win0_4.index t (1 : Fin 2) * 4096 + 1 * l.val = t.val * 4096 + l.val; omega
theorem emb5 (t : Fin cfg0.N) (i : Fin 1) (l : Fin 4096) : ((cfg0.win 5).blk t).view.emb (ix2 i l) = ix2 i (vox t l) := by
  obtain ⟨e0, e1⟩ := idx5 t
  funext a; apply Fin.ext
  match a with
  | ⟨0, _⟩ => show win0_5.index t (0 : Fin 2) * 1 + 1 * i.val = i.val; omega
  | ⟨1, _⟩ => show win0_5.index t (1 : Fin 2) * 4096 + 1 * l.val = t.val * 4096 + l.val; omega

/-! ### The blocks the body reads, in the arguments -/

theorem in0 (c : Dev nD) (t : Fin cfg0.N) (i : Fin 96) (l : Fin 4096) :
    (iblk m c 0 t : Vec F S96x4096 .fp8e4m3) (ix2 i l) = (m ((c.tc : Thread nD τ).loc main_arg0) : Vec F S196608x96 .fp8e4m3) (ix2 (vox t l) i) := by
  show V m c main_v0 (((cfg0.win 0).blk t).view.emb (ix2 i l)) = _
  rw [emb0, V_v0]
  exact transpose_apply _ _ _ _ (ix2 (vox t l) i) (fun c => match c with | ⟨0, _⟩ => rfl | ⟨1, _⟩ => rfl)
theorem in1 (c : Dev nD) (t : Fin cfg0.N) (i : Fin 64) (l : Fin 4096) :
    (iblk m c 1 t : Vec F S64x4096 .fp8e5m2) (ix2 i l) = (m ((c.tc : Thread nD τ).loc main_arg2) : Vec F S196608x64 .fp8e5m2) (ix2 (vox t l) i) := by
  show V m c main_v1 (((cfg0.win 1).blk t).view.emb (ix2 i l)) = _
  rw [emb1, V_v1]
  exact transpose_apply _ _ _ _ (ix2 (vox t l) i) (fun c => match c with | ⟨0, _⟩ => rfl | ⟨1, _⟩ => rfl)
theorem in2 (c : Dev nD) (t : Fin cfg0.N) (l : Fin 4096) :
    (iblk m c 2 t : Vec F S1x4096 .f32) (ix2 0 l) = (m ((c.tc : Thread nD τ).loc main_arg1) : Vec F S196608 .f32) (ix1 (vox t l)) := by
  show V m c main_v2 (((cfg0.win 2).blk t).view.emb (ix2 0 l)) = _
  rw [emb2, V_v2]
  refine shapeCast_apply _ _ _ (ix1 (vox t l)) ?_
  rw [Shape.rowMajor_val_two, Shape.rowMajor_val_one]
  show (vox t l).val = 0 * 196608 + (vox t l).val
  omega
theorem in3 (c : Dev nD) (t : Fin cfg0.N) (l : Fin 4096) :
    (iblk m c 3 t : Vec F S1x4096 .f32) (ix2 0 l) = (m ((c.tc : Thread nD τ).loc main_arg3) : Vec F S196608 .f32) (ix1 (vox t l)) := by
  show V m c main_v3 (((cfg0.win 3).blk t).view.emb (ix2 0 l)) = _
  rw [emb3, V_v3]
  refine shapeCast_apply _ _ _ (ix1 (vox t l)) ?_
  rw [Shape.rowMajor_val_two, Shape.rowMajor_val_one]
  show (vox t l).val = 0 * 196608 + (vox t l).val
  omega

/-! ### The two arrays -/

/-- The reference's table and scale words of the kernel's arguments. -/
abbrev tab (c : Dev nD) : Vec F S40x196608 .i32 :=
  Cert.Reference2.Gen.k0_pay1 (F := F) (m ((c.tc : Thread nD τ).loc main_arg0)) (m ((c.tc : Thread nD τ).loc main_arg2))
abbrev scl (c : Dev nD) : Vec F S1x196608 .i32 :=
  Cert.Reference2.Val.scl (F := F) (m ((c.tc : Thread nD τ).loc main_arg1)) (m ((c.tc : Thread nD τ).loc main_arg3))

/-- Word `r`, lane `l` of point `t`'s block is the reference's word of that voxel. -/
theorem tile_apply (c : Dev nD) (t : Fin cfg0.N) (r : Fin 40) (l : Fin 4096) :
    tile (iblk m c 0 t) (iblk m c 1 t) (ix2 r l) = tab m c (ix2 r (vox t l)) := by
  apply BitVec.eq_of_getLsbD_eq
  intro q hq
  unfold tab
  rw [Cert.Reference2.Val.table_eq, Cert.Reference2.Val.pack_bit _ _ _ _ hq, Cert.Reference2.Val.row_apply]
  unfold tile
  by_cases h : r.val < 24
  · rw [dif_pos (show ((ix2 r l : S40x4096.Idx) (0 : Fin 2)).val < 24 from h), dif_pos (show 4 * r.val + q / 8 < 96 by omega)]
    unfold k0_pay5 k0_pay3
    rw [shapeCast_self]
    refine (bitcast_8_32_getLsbD_ix2 _ _ (⟨r.val, h⟩ : Fin 24) l q hq (⟨4 * r.val + q / 8, by omega⟩ : Fin 96) rfl).trans ?_
    exact congrArg (fun b : Elt F .fp8e4m3 => (BitOps.toBits (F := F) (φ := .fp8e4m3) b).getLsbD (q % 8)) (in0 m c t (⟨4 * r.val + q / 8, by omega⟩ : Fin 96) l)
  · rw [dif_neg (show ¬ ((ix2 r l : S40x4096.Idx) (0 : Fin 2)).val < 24 from h), dif_neg (show ¬ 4 * r.val + q / 8 < 96 by omega)]
    unfold k0_pay6 k0_pay4
    rw [shapeCast_self]
    refine (bitcast_8_32_getLsbD_ix2 _ _ (⟨r.val - 24, by omega⟩ : Fin 16) l q hq (⟨4 * r.val + q / 8 - 96, by omega⟩ : Fin 64)
      (show 4 * r.val + q / 8 - 96 = 4 * (r.val - 24) + q / 8 by omega)).trans ?_
    exact congrArg (fun b : Elt F .fp8e5m2 => (BitOps.toBits (F := F) (φ := .fp8e5m2) b).getLsbD (q % 8)) (in1 m c t (⟨4 * r.val + q / 8 - 96, by omega⟩ : Fin 64) l)

theorem shr16 (u : ArithUnit) (x : BitVec 32) : IntOp.shrui u x 16#32 = x >>> 16 := if_pos (by decide)

/-- Lane `l` of point `t`'s scale words is the reference's word of that voxel. -/
theorem words_apply (c : Dev nD) (t : Fin cfg0.N) (l : Fin 4096) :
    k0_pay7 (iblk m c 2 t) (iblk m c 3 t) (ix2 0 l) = scl m c (ix2 0 (vox t l)) := by
  unfold scl
  rw [Cert.Reference2.Val.scl_apply]
  unfold k0_pay7 k0_pay1 k0_pay2
  rw [shapeCast_self, shapeCast_self]
  have join : ∀ (u v : BitVec 32) (u' v' : BitVec 32), u = u' → v = v' →
      IntOp.ori (IntOp.shrui .vector u 16#32) v = IntOp.ori (IntOp.shrui .host u' 16#32) v' := by
    intro u v u' v' hu hv
    rw [hu, hv, shr16, shr16]
  exact join _ _ _ _
    (congrArg (fun b : F .f32 => BitOps.toBits (FloatOps.extf .f32 bitsLt_bf16_f32 (FloatOps.truncf .bf16 bitsLt_bf16_f32 b))) (in2 m c t l))
    (congrArg (fun b : F .f32 => BitOps.toBits (FloatOps.extf .f32 bitsLt_bf16_f32 (FloatOps.truncf .bf16 bitsLt_bf16_f32 b))) (in3 m c t l))

/-- The table after the run. -/
theorem final4 (c : Dev nD) : (dats m 0 c).arrAt 4 cfg0.N = tab m c := by
  refine (dats m 0 c).arrAt_eq_of_cover 4 (tab m c) (fun t _ => ?_) (fun i => ?_)
  · rw [flushed4_eq]
    funext y
    show tile (iblk m c 0 t) (iblk m c 1 t) y = tab m c (((cfg0.win 4).blk t).view.emb y)
    obtain ⟨r, l, rfl⟩ : ∃ (r : Fin 40) (l : Fin 4096), y = ix2 r l := ⟨y 0, y 1, eq_ix2 y⟩
    rw [emb4]
    exact tile_apply m c t r l
  · obtain ⟨r, n, rfl⟩ : ∃ (r : Fin 40) (n : Fin 196608), i = ix2 r n := ⟨i 0, i 1, eq_ix2 i⟩
    have ht : n.val / 4096 < cfg0.N := lt_of_lt_of_eq (by omega : n.val / 4096 < 48) (by decide : 48 = cfg0.N)
    refine ⟨⟨n.val / 4096, ht⟩, flush0_4 _, ?_⟩
    have h := ((cfg0.win 4).blk ⟨n.val / 4096, ht⟩).view.emb_mem_set (ix2 r (⟨n.val % 4096, by omega⟩ : Fin 4096))
    rw [emb4] at h
    have e : vox ⟨n.val / 4096, ht⟩ (⟨n.val % 4096, by omega⟩ : Fin 4096) = n := Fin.ext (show n.val / 4096 * 4096 + n.val % 4096 = n.val by omega)
    rwa [e] at h

/-- The scale words after the run. -/
theorem final5 (c : Dev nD) : (dats m 0 c).arrAt 5 cfg0.N = scl m c := by
  refine (dats m 0 c).arrAt_eq_of_cover 5 (scl m c) (fun t _ => ?_) (fun i => ?_)
  · rw [flushed5_eq]
    funext y
    show k0_pay7 (iblk m c 2 t) (iblk m c 3 t) y = scl m c (((cfg0.win 5).blk t).view.emb y)
    obtain ⟨r, l, rfl⟩ : ∃ (r : Fin 1) (l : Fin 4096), y = ix2 r l := ⟨y 0, y 1, eq_ix2 y⟩
    obtain rfl : r = 0 := Subsingleton.elim _ _
    rw [emb5]
    exact words_apply m c t l
  · obtain ⟨r, n, rfl⟩ : ∃ (r : Fin 1) (n : Fin 196608), i = ix2 r n := ⟨i 0, i 1, eq_ix2 i⟩
    have ht : n.val / 4096 < cfg0.N := lt_of_lt_of_eq (by omega : n.val / 4096 < 48) (by decide : 48 = cfg0.N)
    refine ⟨⟨n.val / 4096, ht⟩, flush0_5 _, ?_⟩
    have h := ((cfg0.win 5).blk ⟨n.val / 4096, ht⟩).view.emb_mem_set (ix2 r (⟨n.val % 4096, by omega⟩ : Fin 4096))
    rw [emb5] at h
    have e : vox ⟨n.val / 4096, ht⟩ (⟨n.val % 4096, by omega⟩ : Fin 4096) = n := Fin.ext (show n.val / 4096 * 4096 + n.val % 4096 = n.val by omega)
    rwa [e] at h

/-- The kernel terminates with its arguments unchanged, the table and the scale words the reference's. -/
theorem value : θ_run (defs (F := F)) (onTc (τ := τ) (main (F := F))) ⟨m, fun _ => 0, ρ⟩ (fun r => ∀ c : Dev nD,
      r.2.mem ((c.tc : Thread nD τ).loc main_v4_0) = tab m c
      ∧ r.2.mem ((c.tc : Thread nD τ).loc main_v4_1) = scl m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final4 m c), (h c).2.1.trans (final5 m c), (h c).2.2.2⟩) (run_blocks m ρ)

end Cert.Kernel2.Val

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_chunks_in_order
public import proofs.«01_k».proof.Proof.Gen.Kernel2
public import proofs.«01_k».proof.Proof.Gen.Kernel2.Value
public import proofs.«01_k».proof.Proof.Gen.Reference2
public import proofs.«01_k».proof.Proof.Gen.Reference2.Value
public import proofs.«01_k».proof.Proof.Gen.Kernel1
public import proofs.«01_k».proof.Proof.Gen.Kernel1Ideal
public import proofs.«01_k».proof.Proof.Gen.Reference1Ideal
public import proofs.«01_k».proof.Proof.Gen.Reference1Ideal.Frame
public import proofs.«01_k».proof.Proof.Gen.Pre_chunks_in_order1
public import proofs.«01_k».proof.Proof.SecondRes
public import proofs.«01_k».proof.Proof.SecondIdealAcc
public import proofs.«01_k».proof.Proof.SecondRefVal
public import proofs.«01_k».proof.Proof.Table
public import proofs.«01_k».proof.Proof.Res
public import proofs.«01_k».proof.Proof.IdealAcc
public import proofs.«01_k».proof.Proof.RefVal
public import Idealize.ShloMosaic.Adequacy
public import Idealize.ShloMosaic.Init

@[expose] public section

set_option maxRecDepth 16384

noncomputable section

namespace Cert.Proof

open Idealize.ShloMosaic Idealize.SL.Sem

/-- The kernel terminates without a fault, its arguments as they were and every semaphore at zero, whenever its chunk
    bounds are in order. -/
theorem kernel_frame : Cert.quiescent_Kernel := fun m ρ h =>
  Cert.Kernel.Val.frame m ρ (Cert.Kernel.Val.bounded m (Cert.Kernel.Val.ordered_of_pre _ _ _ (h 0)))

/-- The same at the ideal instance. -/
theorem ideal_frame : Cert.quiescent_KernelIdeal := fun m ρ h =>
  Cert.KernelIdeal.Val.frame m ρ (Cert.KernelIdeal.Val.bounded m (Cert.KernelIdeal.Val.ordered_of_pre _ _ _ (h 0)))

/-- The kernel's result at the ideal instance is the reference's: both are the sums of `Cert.Val.G`. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.KernelIdeal.Val.Ordered (Cert.KernelIdeal.Val.B m)) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Val.res m' c = Cert.KernelIdeal.Val.outAt m c (Cert.KernelIdeal.Val.nOf (Cert.KernelIdeal.Val.tabs m)) := by
  obtain rfl : c = 0 := Subsingleton.elim (α := Fin 1) _ _
  have hlo : ∀ k : Fin 14, (Cert.KernelIdeal.Val.B m k).toNat ≤ 637 := fun k =>
    le_trans (h.le_of_le k.val k.isLt 13 (by omega) (by omega)) h.hi_nat
  unfold Cert.ReferenceIdeal.Val.res Cert.KernelIdeal.Val.outAt
  rw [e0, e1, e2, Cert.KernelIdeal.Val.V_arg0, Cert.KernelIdeal.Val.V_arg1, Cert.KernelIdeal.Val.nOf_eq]
  funext y
  obtain ⟨k, i, j, rfl⟩ : ∃ (k : Fin 13) (i j : Fin 160), y = ix3 k i j := ⟨y 0, y 1, y 2, eq_ix3 y⟩
  exact (Cert.ReferenceIdeal.Val.tail_G _ _ _ (Cert.KernelIdeal.Val.B m) (fun _ => rfl) hlo k i j).trans
    (Cert.KernelIdeal.Val.acc_G _ _ _ h (Cert.KernelIdeal.Val.tabs1 m) k i j).symm

/-- The kernel computes the reference's result at the ideal instance. -/
theorem value_eq : Cert.algebraic_KernelIdeal_ReferenceIdeal := fun m ρ m' ρ' h he => by
  have ho := Cert.KernelIdeal.Val.ordered_of_pre _ _ _ (h 0)
  refine ⟨fun c => Cert.KernelIdeal.Val.outAt m c (Cert.KernelIdeal.Val.nOf (Cert.KernelIdeal.Val.tabs m)),
    Cert.KernelIdeal.Val.value m ρ (Cert.KernelIdeal.Val.bounded m ho),
    (θ_run Cert.ReferenceIdeal.defs _ _).mono (fun r hr c => ⟨?_, (hr c).2⟩) (Cert.ReferenceIdeal.Val.value m' ρ')⟩
  exact (hr c).1.trans (values m m' ho c (he c).1 (he c).2.1 (he c).2.2)

/-! ## The second batch's call -/

/-- The second batch's call terminates without a fault, its arguments as they were and every semaphore at zero. -/
theorem kernel1_frame : Cert.quiescent_Kernel1 := fun m ρ h =>
  Cert.Kernel1.Val.frame m ρ (Cert.Kernel1.Val.bounded m (Cert.Kernel1.Val.ordered_of_pre _ _ _ (h 0)))

/-- The same at the ideal instance. -/
theorem ideal1_frame : Cert.quiescent_Kernel1Ideal := fun m ρ h =>
  Cert.Kernel1Ideal.Val.frame m ρ (Cert.Kernel1Ideal.Val.bounded m (Cert.Kernel1Ideal.Val.ordered_of_pre _ _ _ (h 0)))

/-- The second batch's result at the ideal instance is the reference's: both are the sums of `Cert.Val.G`. -/
theorem values1 (m : (ℓ : Loc Cert.Kernel1Ideal.nD Cert.Kernel1Ideal.τ Cert.Kernel1Ideal.sig) → Buf (Elt Ideal) ℓ)
    (m' : (ℓ : Loc Cert.Reference1Ideal.nD Cert.Reference1Ideal.τ Cert.Reference1Ideal.sig) → Buf (Elt Ideal) ℓ)
    (h : Cert.KernelIdeal.Val.Ordered (Cert.Kernel1Ideal.Val.B m)) (c : Dev Cert.Kernel1Ideal.nD)
    (e0 : m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0))
    (e1 : m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1))
    (e2 : m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)) :
    Cert.Reference1Ideal.Val.res m' c = Cert.Kernel1Ideal.Val.outAt m c (Cert.Kernel1Ideal.Val.nOf (Cert.Kernel1Ideal.Val.tabs m)) := by
  obtain rfl : c = 0 := Subsingleton.elim (α := Fin 1) _ _
  have hlo : ∀ k : Fin 14, (Cert.Kernel1Ideal.Val.B m k).toNat ≤ 637 := fun k =>
    le_trans (h.le_of_le k.val k.isLt 13 (by omega) (by omega)) h.hi_nat
  unfold Cert.Reference1Ideal.Val.res Cert.Kernel1Ideal.Val.outAt
  rw [e0, e1, e2, Cert.Kernel1Ideal.Val.V_arg0, Cert.Kernel1Ideal.Val.V_arg1, Cert.Kernel1Ideal.Val.nOf_eq]
  funext y
  obtain ⟨k, i, j, rfl⟩ : ∃ (k : Fin 13) (i j : Fin 160), y = ix3 k i j := ⟨y 0, y 1, y 2, eq_ix3 y⟩
  exact (Cert.Reference1Ideal.Val.tail_G _ _ _ (Cert.Kernel1Ideal.Val.B m) (fun _ => rfl) hlo k i j).trans
    ((congrFun (Cert.Kernel1Ideal.Val.accN_eq _ _ _ _) _).trans
      (Cert.KernelIdeal.Val.acc_G _ _ _ h (Cert.Kernel1Ideal.Val.tabs1 m) k i j)).symm

/-- The second batch's call computes its reference's result at the ideal instance. -/
theorem value1_eq : Cert.algebraic_Kernel1Ideal_Reference1Ideal := fun m ρ m' ρ' h he => by
  have ho := Cert.Kernel1Ideal.Val.ordered_of_pre _ _ _ (h 0)
  refine ⟨fun c => Cert.Kernel1Ideal.Val.outAt m c (Cert.Kernel1Ideal.Val.nOf (Cert.Kernel1Ideal.Val.tabs m)),
    Cert.Kernel1Ideal.Val.value m ρ (Cert.Kernel1Ideal.Val.bounded m ho),
    (θ_run Cert.Reference1Ideal.defs _ _).mono (fun r hr c => ⟨?_, (hr c).2⟩) (Cert.Reference1Ideal.Val.value m' ρ')⟩
  exact (hr c).1.trans (values1 m m' ho c (he c).1 (he c).2.1 (he c).2.2)

/-! ## The packing of the codes and the scales -/

/-- The packing call's table and scale words are its reference's, bit for bit. -/
theorem packed_eq : Cert.bitexact_Kernel2_Reference2 := fun m ρ m' ρ' h he => by
  refine ⟨fun c => Cert.Kernel2.Val.tab m c, fun c => Cert.Kernel2.Val.scl m c, Cert.Kernel2.Val.value m ρ,
    (θ_run Cert.Reference2.defs _ _).mono (fun r hr c => ⟨?_, ?_, (hr c).2.2⟩) (Cert.Reference2.Val.value m' ρ')⟩
  · exact (hr c).1.trans (by rw [(he c).1, (he c).2.2.1])
  · exact (hr c).2.1.trans (by rw [(he c).2.1, (he c).2.2.2])

/-- Everything claimed. -/
theorem claim : Cert.Claim :=
  ⟨Cert.Kernel.Gen.facts, Cert.KernelIdeal.Gen.facts, Cert.ReferenceIdeal.Gen.facts,
    Cert.Kernel1.Gen.facts, Cert.Kernel1Ideal.Gen.facts, Cert.Reference1Ideal.Gen.facts,
    Cert.Kernel2.Gen.facts, Cert.Reference2.Gen.facts,
    Cert.Pre_chunks_in_order.Gen.facts, Cert.Pre_chunks_in_order1.Gen.facts,
    kernel_frame, ideal_frame, fun m ρ _ => Cert.ReferenceIdeal.Gen.frame m ρ, fun m ρ _ => Cert.ReferenceIdeal.Gen.frame m ρ,
    kernel1_frame, ideal1_frame, fun m ρ _ => Cert.Reference1Ideal.Gen.frame m ρ, fun m ρ _ => Cert.Reference1Ideal.Gen.frame m ρ,
    fun m ρ _ => Cert.Kernel2.Gen.frame m ρ, fun m ρ _ => Cert.Reference2.Gen.frame m ρ,
    trivial, value_eq, trivial, value1_eq, packed_eq⟩

end Cert.Proof

end
